-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_lse [hPre_finite_lse : Cert.Pre_finite_lse.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_lse.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_lse [hPre_finite_lse : Cert.Pre_finite_lse.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_lse.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite_lse [hKernel3Ideal : Cert.Kernel3Ideal.Facts] [hPre_finite_lse : Cert.Pre_finite_lse.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_lse m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite_lse [hReference3Ideal : Cert.Reference3Ideal.Facts] [hPre_finite_lse : Cert.Pre_finite_lse.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_lse m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "slope0" .f32 0xBF38AA3B#32 ((-((Real.log 2)⁻¹ * (1 / 2)) : ℝ) : EReal)
  ∧ IdealRules.named_const.Statement Cert.KernelIdeal.κ "mask" .f32 0xF149F2CA#32 ⊥
  ∧ IdealRules.named_const.Statement Cert.KernelIdeal.κ "slope1" .f32 0xBF129196#32 ((-((Real.log 2)⁻¹ * (6658043 / 16777216)) : ℝ) : EReal)
  ∧ IdealRules.named_const.Statement Cert.KernelIdeal.κ "slope2" .f32 0xBEE8A9CB#32 ((-((Real.log 2)⁻¹ * (10568983 / 33554432)) : ℝ) : EReal)
  ∧ IdealRules.named_const.Statement Cert.KernelIdeal.κ "slope3" .f32 0xBEB8AA3B#32 ((-((Real.log 2)⁻¹ * (1 / 4)) : ℝ) : EReal)
  ∧ IdealRules.named_const.Statement Cert.KernelIdeal.κ "slope4" .f32 0xBE929194#32 ((-((Real.log 2)⁻¹ * (3329021 / 16777216)) : ℝ) : EReal)
  ∧ IdealRules.named_const.Statement Cert.KernelIdeal.κ "slope5" .f32 0xBE68A9CE#32 ((-((Real.log 2)⁻¹ * (10568985 / 67108864)) : ℝ) : EReal)
  ∧ IdealRules.named_const.Statement Cert.KernelIdeal.κ "slope6" .f32 0xBE38AA3B#32 ((-((Real.log 2)⁻¹ * (1 / 8)) : ℝ) : EReal)
  ∧ IdealRules.named_const.Statement Cert.KernelIdeal.κ "slope7" .f32 0xBE129194#32 ((-((Real.log 2)⁻¹ * (3329021 / 33554432)) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_lse [hKernel3Ideal : Cert.Kernel3Ideal.Facts] [hReference3Ideal : Cert.Reference3Ideal.Facts] [hPre_finite_lse : Cert.Pre_finite_lse.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_lse m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v43_0)) (v1 : (c : Dev Cert.Kernel3Ideal.nD) → Buf (Elt Ideal) ((c.tc : Thread Cert.Kernel3Ideal.nD Cert.Kernel3Ideal.τ).loc Cert.Kernel3Ideal.main_v43_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43_0) = v0 c
          ∧ r.2.mem ((c.tc : Thread Cert.Kernel3Ideal.nD Cert.Kernel3Ideal.τ).loc Cert.Kernel3Ideal.main_v43_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts) (hPre_finite_lse : Cert.Pre_finite_lse.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_lse (hKernel3Ideal := hKernel3Ideal) (hPre_finite_lse := hPre_finite_lse)
    ∧ quiescent_Reference3Ideal (hReference3Ideal := hReference3Ideal)
    ∧ quiescent_Reference3Ideal_pre_finite_lse (hReference3Ideal := hReference3Ideal) (hPre_finite_lse := hPre_finite_lse)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_lse (hKernel3Ideal := hKernel3Ideal) (hReference3Ideal := hReference3Ideal) (hPre_finite_lse := hPre_finite_lse)
-- ==== Pre_finite_lse.lean ====
abbrev S8x4096x1024 : Shape := ⟨3, ![8, 4096, 1024]⟩
abbrev S8x4096x8x64 : Shape := ⟨4, ![8, 4096, 8, 64]⟩
abbrev S8x4096x8 : Shape := ⟨3, ![8, 4096, 8]⟩
abbrev S8x4096x2048 : Shape := ⟨3, ![8, 4096, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S_ : Shape := ⟨0, ![]⟩

class Facts : Prop where
  bcast_S_S8x4096x8 : S_.BroadcastsInDim S8x4096x8 (![] : Fin 0 → Fin S8x4096x8.rank)
  reducesTo_S8x4096x8_S_d0_1_2 : S8x4096x8.ReducesTo [0, 1, 2] S_
  h_S_ : 0 < S_.numel

variable [Facts]

def fn {F : FTy → Type} [FloatOps F] (main_arg0 : FVec F S8x4096x1024 .f32) (main_arg1 : FVec F S8x4096x8x64 .f32) (main_arg2 : FVec F S8x4096x8x64 .f32) (main_arg3 : FVec F S8x4096x8x64 .f32) (main_arg4 : FVec F S8x4096x8 .f32) (main_arg5 : FVec F S8x4096x8 .f32) (main_arg6 : FVec F S8x4096x8 .f32) (main_arg7 : FVec F S8x4096x2048 .f32) (main_arg8 : FVec F S8x4096x1024 .f32) (main_arg9 : FVec F S1x1024x1024 .f32) (main_arg10 : FVec F S1x512x1024 .f32) (main_arg11 : FVec F S1x1024x1024 .f32) (main_arg12 : FVec F S1x1024 .f32) : IVec S_ 1 :=
  let main_v0 : FVec F S8x4096x8 .f32 := maximumf main_arg4 main_arg5
  let main_v1 : FVec F S8x4096x8 .f32 := maximumf main_v0 main_arg6
  let main_v2 : FVec F S8x4096x8 .f32 := Host.absf main_v1
  let main_cst : FVec F S_ .f32 := constant S_ .f32 0x7F800000#32
  let main_v3 : FVec F S8x4096x8 .f32 := broadcastInDim S8x4096x8 ![] bcast_S_S8x4096x8 main_cst
  let main_v4 : IVec S8x4096x8 1 := cmpf .olt main_v2 main_v3
  let main_c : IVec S_ 1 := constantI S_ 1 1#1
  let main_v5 : IVec S_ 1 := (fun x v => Host.reduce IntOp.andi x v reducesTo_S8x4096x8_S_d0_1_2 h_S_) main_v4 main_c
  main_v5
-- ==== Pre_finite_qk.lean ====
abbrev S8x4096x8x64 : Shape := ⟨4, ![8, 4096, 8, 64]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel

variable [Facts]

def fn {F : FTy → Type} [FloatOps F] (main_arg0 : FVec F S8x4096x8x64 .f32) (main_arg1 : FVec F S8x4096x8x64 .f32) (main_arg2 : FVec F S8x4096x8x64 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x8x64 .f32 := Host.absf main_arg1
  let main_cst_0 : FVec F S_ .f32 := constant S_ .f32 0x7F800000#32
  let main_v5 : FVec F S8x4096x8x64 .f32 := broadcastInDim S8x4096x8x64 ![] bcast_S_S8x4096x8x64 main_cst_0
  let main_v6 : IVec S8x4096x8x64 1 := cmpf .olt main_v4 main_v5
  let main_c_1 : IVec S_ 1 := constantI S_ 1 1#1
  let main_v7 : IVec S_ 1 := (fun x v => Host.reduce IntOp.andi x v reducesTo_S8x4096x8x64_S_d0_1_2_3 h_S_) main_v6 main_c_1
  let main_v8 : IVec S_ 1 := andi main_v3 main_v7
  main_v8
-- ==== Kernel.lean ====
abbrev S8x4096x8x64 : Shape := ⟨4, ![8, 4096, 8, 64]⟩
abbrev S_ : Shape := ⟨0, ![]⟩
abbrev S8x1024x4x512 : Shape := ⟨4, ![8, 1024, 4, 512]⟩
abbrev S8x4x1024x512 : Shape := ⟨4, ![8, 4, 1024, 512]⟩
abbrev S8x4x1024x1536 : Shape := ⟨4, ![8, 4, 1024, 1536]⟩
abbrev S8x4x1024x128 : Shape := ⟨4, ![8, 4, 1024, 128]⟩
abbrev S1x4x1024x512 : Shape := ⟨4, ![1, 4, 1024, 512]⟩
abbrev S1x4x1024x128 : Shape := ⟨4, ![1, 4, 1024, 128]⟩
abbrev S3x4x256x256 : Shape := ⟨4, ![3, 4, 256, 256]⟩
abbrev S128x256 : Shape := ⟨2, ![128, 256]⟩
abbrev S1x1x128x256 : Shape := ⟨4, ![1, 1, 128, 256]⟩
abbrev S1x128 : Shape := ⟨2, ![1, 128]⟩
abbrev S128x128 : Shape := ⟨2, ![128, 128]⟩
abbrev S1x1x128x128 : Shape := ⟨4, ![1, 1, 128, 128]⟩
abbrev S1x1x256x128 : Shape := ⟨4, ![1, 1, 256, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S128x1 : Shape := ⟨2, ![128, 1]⟩

abbrev nBuf : Space → Nat
  | .hbm => 22
  | .vmem => 11
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S_, .f32⟩
  | .hbm, ⟨4, _⟩ => ⟨S8x4096x8x64, .f32⟩
  | .hbm, ⟨5, _⟩ => ⟨S8x4096x8x64, .f32⟩
  | .hbm, ⟨6, _⟩ => ⟨S_, .f32⟩
  | .hbm, ⟨7, _⟩ => ⟨S_, .f32⟩
  | .hbm, ⟨8, _⟩ => ⟨S8x4096x8x64, .f32⟩
  | .hbm, ⟨9, _⟩ => ⟨S8x4096x8x64, .f32⟩
  | .hbm, ⟨10, _⟩ => ⟨S8x1024x4x512, .f32⟩
  | .hbm, ⟨11, _⟩ => ⟨S8x4x1024x512, .f32⟩
  | .hbm, ⟨12, _⟩ => ⟨S8x4x1024x512, .bf16⟩
  | .hbm, ⟨13, _⟩ => ⟨S8x1024x4x512, .f32⟩
  | .hbm, ⟨14, _⟩ => ⟨S8x4x1024x512, .f32⟩
  | .hbm, ⟨15, _⟩ => ⟨S8x4x1024x512, .bf16⟩
  | .hbm, ⟨16, _⟩ => ⟨S8x1024x4x512, .f32⟩
  | .hbm, ⟨17, _⟩ => ⟨S8x4x1024x512, .f32⟩
  | .hbm, ⟨18, _⟩ => ⟨S8x4x1024x512, .bf16⟩
  | .hbm, ⟨19, _⟩ => ⟨S8x4x1024x1536, .bf16⟩
  | .hbm, ⟨20, _⟩ => ⟨S8x4x1024x512, .bf16⟩
  | .hbm, ⟨21, _⟩ => ⟨S8x4x1024x128, .f32⟩
  | .local _ .vmem, ⟨0, _⟩ => ⟨S1x4x1024x512, .bf16⟩
  | .local _ .vmem, ⟨1, _⟩ => ⟨S1x4x1024x512, .bf16⟩
  | .local _ .vmem, ⟨2, _⟩ => ⟨S1x4x1024x512, .bf16⟩
  | .local _ .vmem, ⟨3, _⟩ => ⟨S1x4x1024x512, .bf16⟩
  | .local _ .vmem, ⟨4, _⟩ => ⟨S1x4x1024x512, .bf16⟩
  | .local _ .vmem, ⟨5, _⟩ => ⟨S1x4x1024x512, .bf16⟩
  | .local _ .vmem, ⟨6, _⟩ => ⟨S1x4x1024x512, .bf16⟩
  | .local _ .vmem, ⟨7, _⟩ => ⟨S1x4x1024x512, .bf16⟩
  | .local _ .vmem, ⟨8, _⟩ => ⟨S1x4x1024x128, .f32⟩
  | .local _ .vmem, ⟨9, _⟩ => ⟨S1x4x1024x128, .f32⟩
  | .local _ .vmem, ⟨10, _⟩ => ⟨S3x4x256x256, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 1], ![false, false, false]⟩

def k0_mult1 (i : grid0.Coords) : BitVec 32 :=
  let c768_i32 : BitVec 32 := 768#32
  let c0_i32_5 : BitVec 32 := 0#32
  let arg2 : BitVec 32 := BitVec.ofNat 32 (i 2).val
  let c8_i32 : BitVec 32 := 8#32
  let v10 : BitVec 32 := Scalar.muli arg2 c8_i32
  let c0_i32_3 : BitVec 32 := 0#32
  let v11 : BitVec 32 := Scalar.addi v10 c0_i32_3
  let c128_i32 : BitVec 32 := 128#32
  let v12 : BitVec 32 := Scalar.muli v11 c128_i32
  let c64_i32_4 : BitVec 32 := 64#32
  let v13 : BitVec 32 := Scalar.subi v12 c64_i32_4
  let v14 : BitVec 32 := Scalar.maxsi c0_i32_5 v13
  let v15 : BitVec 32 := Scalar.minsi c768_i32 v14
  v15
def k0_off1 (i : grid0.Coords) (c0_i32_3 : BitVec 32) : Fin 4 → Nat :=
  let c0_11 : Index := 0#32
  let c0_12 : Index := 0#32
  let c768_i32 : BitVec 32 := 768#32
  let c0_i32_5 : BitVec 32 := 0#32
  let arg2 : BitVec 32 := BitVec.ofNat 32 (i 2).val
  let c8_i32 : BitVec 32 := 8#32
  let v10 : BitVec 32 := Scalar.muli arg2 c8_i32
  let v11 : BitVec 32 := Scalar.addi v10 c0_i32_3
  let c128_i32 : BitVec 32 := 128#32
  let v12 : BitVec 32 := Scalar.muli v11 c128_i32
  let c64_i32_4 : BitVec 32 := 64#32
  let v13 : BitVec 32 := Scalar.subi v12 c64_i32_4
  let v14 : BitVec 32 := Scalar.maxsi c0_i32_5 v13
  let v15 : BitVec 32 := Scalar.minsi c768_i32 v14
  let v16 : BitVec 32 := v15
  let v24 : Index := Scalar.indexCast v16
  let c0_13 : Index := 0#32
  ![0, 0, v24.toNat, 0]
def k0_off2 (i : grid0.Coords) (c0_i32_3 : BitVec 32) : Fin 4 → Nat :=
  let arg2 : BitVec 32 := BitVec.ofNat 32 (i 2).val
  let c8_i32 : BitVec 32 := 8#32
  let v10 : BitVec 32 := Scalar.muli arg2 c8_i32
  let v11 : BitVec 32 := Scalar.addi v10 c0_i32_3
  let c0_i32_6 : BitVec 32 := 0#32
  let v17 : BitVec 1 := Scalar.cmpi .eq v11 c0_i32_6
  let c2_i32 : BitVec 32 := 2#32
  let c7_i32 : BitVec 32 := 7#32
  let v18 : BitVec 1 := Scalar.cmpi .eq v11 c7_i32
  let c0_i32_7 : BitVec 32 := 0#32
  let c1_i32 : BitVec 32 := 1#32
  let v19 : BitVec 32 := Scalar.select v18 c0_i32_7 c1_i32
  let v20 : BitVec 32 := Scalar.select v17 c2_i32 v19
  let v39 : Index := Scalar.indexCast v20
  let c0_19 : Index := 0#32
  let c0_20 : Index := 0#32
  let c0_21 : Index := 0#32
  ![v39.toNat, 0, 0, 0]
def k0_off3 (i : grid0.Coords) (c0_i32_3 : BitVec 32) : Fin 4 → Nat :=
  let c0_36 : Index := 0#32
  let c0_37 : Index := 0#32
  let c768_i32 : BitVec 32 := 768#32
  let c0_i32_5 : BitVec 32 := 0#32
  let arg2 : BitVec 32 := BitVec.ofNat 32 (i 2).val
  let c8_i32 : BitVec 32 := 8#32
  let v10 : BitVec 32 := Scalar.muli arg2 c8_i32
  let v11 : BitVec 32 := Scalar.addi v10 c0_i32_3
  let c128_i32 : BitVec 32 := 128#32
  let v12 : BitVec 32 := Scalar.muli v11 c128_i32
  let c64_i32_4 : BitVec 32 := 64#32
  let v13 : BitVec 32 := Scalar.subi v12 c64_i32_4
  let v14 : BitVec 32 := Scalar.maxsi c0_i32_5 v13
  let v15 : BitVec 32 := Scalar.minsi c768_i32 v14
  let v16 : BitVec 32 := v15
  let v92 : Index := Scalar.indexCast v16
  let c128_38 : Index := 128#32
  ![0, 0, v92.toNat, 128]
def k0_off4 (i : grid0.Coords) (c0_i32_3 : BitVec 32) : Fin 4 → Nat :=
  let arg2 : BitVec 32 := BitVec.ofNat 32 (i 2).val
  let c8_i32 : BitVec 32 := 8#32
  let v10 : BitVec 32 := Scalar.muli arg2 c8_i32
  let v11 : BitVec 32 := Scalar.addi v10 c0_i32_3
  let c0_i32_6 : BitVec 32 := 0#32
  let v17 : BitVec 1 := Scalar.cmpi .eq v11 c0_i32_6
  let c2_i32 : BitVec 32 := 2#32
  let c7_i32 : BitVec 32 := 7#32
  let v18 : BitVec 1 := Scalar.cmpi .eq v11 c7_i32
  let c0_i32_7 : BitVec 32 := 0#32
  let c1_i32 : BitVec 32 := 1#32
  let v19 : BitVec 32 := Scalar.select v18 c0_i32_7 c1_i32
  let v20 : BitVec 32 := Scalar.select v17 c2_i32 v19
  let v107 : Index := Scalar.indexCast v20
  let c1 : Index := 1#32
  let c0_44 : Index := 0#32
  let c0_45 : Index := 0#32
  ![v107.toNat, 1, 0, 0]
def k0_off5 (i : grid0.Coords) (c0_i32_3 : BitVec 32) : Fin 4 → Nat :=
  let c0_59 : Index := 0#32
  let c0_60 : Index := 0#32
  let c768_i32 : BitVec 32 := 768#32
  let c0_i32_5 : BitVec 32 := 0#32
  let arg2 : BitVec 32 := BitVec.ofNat 32 (i 2).val
  let c8_i32 : BitVec 32 := 8#32
  let v10 : BitVec 32 := Scalar.muli arg2 c8_i32
  let v11 : BitVec 32 := Scalar.addi v10 c0_i32_3
  let c128_i32 : BitVec 32 := 128#32
  let v12 : BitVec 32 := Scalar.muli v11 c128_i32
  let c64_i32_4 : BitVec 32 := 64#32
  let v13 : BitVec 32 := Scalar.subi v12 c64_i32_4
  let v14 : BitVec 32 := Scalar.maxsi c0_i32_5 v13
  let v15 : BitVec 32 := Scalar.minsi c768_i32 v14
  let v16 : BitVec 32 := v15
  let v160 : Index := Scalar.indexCast v16
  let c256_61 : Index := 256#32
  ![0, 0, v160.toNat, 256]
def k0_off6 (i : grid0.Coords) (c0_i32_3 : BitVec 32) : Fin 4 → Nat :=
  let arg2 : BitVec 32 := BitVec.ofNat 32 (i 2).val
  let c8_i32 : BitVec 32 := 8#32
  let v10 : BitVec 32 := Scalar.muli arg2 c8_i32
  let v11 : BitVec 32 := Scalar.addi v10 c0_i32_3
  let c0_i32_6 : BitVec 32 := 0#32
  let v17 : BitVec 1 := Scalar.cmpi .eq v11 c0_i32_6
  let c2_i32 : BitVec 32 := 2#32
  let c7_i32 : BitVec 32 := 7#32
  let v18 : BitVec 1 := Scalar.cmpi .eq v11 c7_i32
  let c0_i32_7 : BitVec 32 := 0#32
  let c1_i32 : BitVec 32 := 1#32
  let v19 : BitVec 32 := Scalar.select v18 c0_i32_7 c1_i32
  let v20 : BitVec 32 := Scalar.select v17 c2_i32 v19
  let v175 : Index := Scalar.indexCast v20
  let c2 : Index := 2#32
  let c0_67 : Index := 0#32
  let c0_68 : Index := 0#32
  ![v175.toNat, 2, 0, 0]
def k0_off7 (i : grid0.Coords) (c0_i32_3 : BitVec 32) : Fin 4 → Nat :=
  let c0_82 : Index := 0#32
  let c0_83 : Index := 0#32
  let c768_i32 : BitVec 32 := 768#32
  let c0_i32_5 : BitVec 32 := 0#32
  let arg2 : BitVec 32 := BitVec.ofNat 32 (i 2).val
  let c8_i32 : BitVec 32 := 8#32
  let v10 : BitVec 32 := Scalar.muli arg2 c8_i32
  let v11 : BitVec 32 := Scalar.addi v10 c0_i32_3
  let c128_i32 : BitVec 32 := 128#32
  let v12 : BitVec 32 := Scalar.muli v11 c128_i32
  let c64_i32_4 : BitVec 32 := 64#32
  let v13 : BitVec 32 := Scalar.subi v12 c64_i32_4
  let v14 : BitVec 32 := Scalar.maxsi c0_i32_5 v13
  let v15 : BitVec 32 := Scalar.minsi c768_i32 v14
  let v16 : BitVec 32 := v15
  let v228 : Index := Scalar.indexCast v16
  let c384_84 : Index := 384#32
  ![0, 0, v228.toNat, 384]
def k0_off8 (i : grid0.Coords) (c0_i32_3 : BitVec 32) : Fin 4 → Nat :=
  let arg2 : BitVec 32 := BitVec.ofNat 32 (i 2).val
  let c8_i32 : BitVec 32 := 8#32
  let v10 : BitVec 32 := Scalar.muli arg2 c8_i32
  let v11 : BitVec 32 := Scalar.addi v10 c0_i32_3
  let c0_i32_6 : BitVec 32 := 0#32
  let v17 : BitVec 1 := Scalar.cmpi .eq v11 c0_i32_6
  let c2_i32 : BitVec 32 := 2#32
  let c7_i32 : BitVec 32 := 7#32
  let v18 : BitVec 1 := Scalar.cmpi .eq v11 c7_i32
  let c0_i32_7 : BitVec 32 := 0#32
  let c1_i32 : BitVec 32 := 1#32
  let v19 : BitVec 32 := Scalar.select v18 c0_i32_7 c1_i32
  let v20 : BitVec 32 := Scalar.select v17 c2_i32 v19
  let v243 : Index := Scalar.indexCast v20
  let c3 : Index := 3#32
  let c0_90 : Index := 0#32
  let c0_91 : Index := 0#32
  ![v243.toNat, 3, 0, 0]
def k0_mult2 (i : grid0.Coords) : BitVec 32 :=
  let c768_i32_110 : BitVec 32 := 768#32
  let c0_i32_109 : BitVec 32 := 0#32
  let arg2 : BitVec 32 := BitVec.ofNat 32 (i 2).val
  let c8_i32_105 : BitVec 32 := 8#32
  let v297 : BitVec 32 := Scalar.muli arg2 c8_i32_105
  let c1_i32_106 : BitVec 32 := 1#32
  let v298 : BitVec 32 := Scalar.addi v297 c1_i32_106
  let c128_i32_107 : BitVec 32 := 128#32
  let v299 : BitVec 32 := Scalar.muli v298 c128_i32_107
  let c64_i32_108 : BitVec 32 := 64#32
  let v300 : BitVec 32 := Scalar.subi v299 c64_i32_108
  let v301 : BitVec 32 := Scalar.maxsi c0_i32_109 v300
  let v302 : BitVec 32 := Scalar.minsi c768_i32_110 v301
  v302
def k0_mult3 (i : grid0.Coords) : BitVec 32 :=
  let c768_i32_230 : BitVec 32 := 768#32
  let c0_i32_229 : BitVec 32 := 0#32
  let arg2 : BitVec 32 := BitVec.ofNat 32 (i 2).val
  let c8_i32_225 : BitVec 32 := 8#32
  let v584 : BitVec 32 := Scalar.muli arg2 c8_i32_225
  let c2_i32_226 : BitVec 32 := 2#32
  let v585 : BitVec 32 := Scalar.addi v584 c2_i32_226
  let c128_i32_227 : BitVec 32 := 128#32
  let v586 : BitVec 32 := Scalar.muli v585 c128_i32_227
  let c64_i32_228 : BitVec 32 := 64#32
  let v587 : BitVec 32 := Scalar.subi v586 c64_i32_228
  let v588 : BitVec 32 := Scalar.maxsi c0_i32_229 v587
  let v589 : BitVec 32 := Scalar.minsi c768_i32_230 v588
  v589
def k0_mult4 (i : grid0.Coords) : BitVec 32 :=
  let c768_i32_350 : BitVec 32 := 768#32
  let c0_i32_349 : BitVec 32 := 0#32
  let arg2 : BitVec 32 := BitVec.ofNat 32 (i 2).val
  let c8_i32_345 : BitVec 32 := 8#32
  let v871 : BitVec 32 := Scalar.muli arg2 c8_i32_345
  let c3_i32_346 : BitVec 32 := 3#32
  let v872 : BitVec 32 := Scalar.addi v871 c3_i32_346
  let c128_i32_347 : BitVec 32 := 128#32
  let v873 : BitVec 32 := Scalar.muli v872 c128_i32_347
  let c64_i32_348 : BitVec 32 := 64#32
  let v874 : BitVec 32 := Scalar.subi v873 c64_i32_348
  let v875 : BitVec 32 := Scalar.maxsi c0_i32_349 v874
  let v876 : BitVec 32 := Scalar.minsi c768_i32_350 v875
  v876
def k0_mult5 (i : grid0.Coords) : BitVec 32 :=
  let c768_i32_469 : BitVec 32 := 768#32
  let c0_i32_468 : BitVec 32 := 0#32
  let arg2 : BitVec 32 := BitVec.ofNat 32 (i 2).val
  let c8_i32_465 : BitVec 32 := 8#32
  let v1158 : BitVec 32 := Scalar.muli arg2 c8_i32_465
  let c4_i32 : BitVec 32 := 4#32
  let v1159 : BitVec 32 := Scalar.addi v1158 c4_i32
  let c128_i32_466 : BitVec 32 := 128#32
  let v1160 : BitVec 32 := Scalar.muli v1159 c128_i32_466
  let c64_i32_467 : BitVec 32 := 64#32
  let v1161 : BitVec 32 := Scalar.subi v1160 c64_i32_467
  let v1162 : BitVec 32 := Scalar.maxsi c0_i32_468 v1161
  let v1163 : BitVec 32 := Scalar.minsi c768_i32_469 v1162
  v1163
def k0_mult6 (i : grid0.Coords) : BitVec 32 :=
  let c768_i32_587 : BitVec 32 := 768#32
  let c0_i32_586 : BitVec 32 := 0#32
  let arg2 : BitVec 32 := BitVec.ofNat 32 (i 2).val
  let c8_i32_583 : BitVec 32 := 8#32
  let v1445 : BitVec 32 := Scalar.muli arg2 c8_i32_583
  let c5_i32 : BitVec 32 := 5#32
  let v1446 : BitVec 32 := Scalar.addi v1445 c5_i32
  let c128_i32_584 : BitVec 32 := 128#32
  let v1447 : BitVec 32 := Scalar.muli v1446 c128_i32_584
  let c64_i32_585 : BitVec 32 := 64#32
  let v1448 : BitVec 32 := Scalar.subi v1447 c64_i32_585
  let v1449 : BitVec 32 := Scalar.maxsi c0_i32_586 v1448
  let v1450 : BitVec 32 := Scalar.minsi c768_i32_587 v1449
  v1450
def k0_mult7 (i : grid0.Coords) : BitVec 32 :=
  let c768_i32_705 : BitVec 32 := 768#32
  let c0_i32_704 : BitVec 32 := 0#32
  let arg2 : BitVec 32 := BitVec.ofNat 32 (i 2).val
  let c8_i32_701 : BitVec 32 := 8#32
  let v1732 : BitVec 32 := Scalar.muli arg2 c8_i32_701
  let c6_i32 : BitVec 32 := 6#32
  let v1733 : BitVec 32 := Scalar.addi v1732 c6_i32
  let c128_i32_702 : BitVec 32 := 128#32
  let v1734 : BitVec 32 := Scalar.muli v1733 c128_i32_702
  let c64_i32_703 : BitVec 32 := 64#32
  let v1735 : BitVec 32 := Scalar.subi v1734 c64_i32_703
  let v1736 : BitVec 32 := Scalar.maxsi c0_i32_704 v1735
  let v1737 : BitVec 32 := Scalar.minsi c768_i32_705 v1736
  v1737
def k0_mult8 (i : grid0.Coords) : BitVec 32 :=
  let c768_i32_824 : BitVec 32 := 768#32
  let c0_i32_823 : BitVec 32 := 0#32
  let arg2 : BitVec 32 := BitVec.ofNat 32 (i 2).val
  let c8_i32_819 : BitVec 32 := 8#32
  let v2019 : BitVec 32 := Scalar.muli arg2 c8_i32_819
  let c7_i32_820 : BitVec 32 := 7#32
  let v2020 : BitVec 32 := Scalar.addi v2019 c7_i32_820
  let c128_i32_821 : BitVec 32 := 128#32
  let v2021 : BitVec 32 := Scalar.muli v2020 c128_i32_821
  let c64_i32_822 : BitVec 32 := 64#32
  let v2022 : BitVec 32 := Scalar.subi v2021 c64_i32_822
  let v2023 : BitVec 32 := Scalar.maxsi c0_i32_823 v2022
  let v2024 : BitVec 32 := Scalar.minsi c768_i32_824 v2023
  v2024
def k0_mult9 (i : grid0.Coords) : BitVec 32 :=
  let c768_i32_943 : BitVec 32 := 768#32
  let c0_i32_942 : BitVec 32 := 0#32
  let arg2 : BitVec 32 := BitVec.ofNat 32 (i 2).val
  let c8_i32_938 : BitVec 32 := 8#32
  let v2306 : BitVec 32 := Scalar.muli arg2 c8_i32_938
  let c0_i32_939 : BitVec 32 := 0#32
  let v2307 : BitVec 32 := Scalar.addi v2306 c0_i32_939
  let c128_i32_940 : BitVec 32 := 128#32
  let v2308 : BitVec 32 := Scalar.muli v2307 c128_i32_940
  let c64_i32_941 : BitVec 32 := 64#32
  let v2309 : BitVec 32 := Scalar.subi v2308 c64_i32_941
  let v2310 : BitVec 32 := Scalar.maxsi c0_i32_942 v2309
  let v2311 : BitVec 32 := Scalar.minsi c768_i32_943 v2310
  v2311
def k0_off9 (i : grid0.Coords) (c0_i32_939 : BitVec 32) : Fin 4 → Nat :=
  let c0_954 : Index := 0#32
  let c1_955 : Index := 1#32
  let c768_i32_943 : BitVec 32 := 768#32
  let c0_i32_942 : BitVec 32 := 0#32
  let arg2 : BitVec 32 := BitVec.ofNat 32 (i 2).val
  let c8_i32_938 : BitVec 32 := 8#32
  let v2306 : BitVec 32 := Scalar.muli arg2 c8_i32_938
  let v2307 : BitVec 32 := Scalar.addi v2306 c0_i32_939
  let c128_i32_940 : BitVec 32 := 128#32
  let v2308 : BitVec 32 := Scalar.muli v2307 c128_i32_940
  let c64_i32_941 : BitVec 32 := 64#32
  let v2309 : BitVec 32 := Scalar.subi v2308 c64_i32_941
  let v2310 : BitVec 32 := Scalar.maxsi c0_i32_942 v2309
  let v2311 : BitVec 32 := Scalar.minsi c768_i32_943 v2310
  let v2312 : BitVec 32 := v2311
  let v2320 : Index := Scalar.indexCast v2312
  let c0_956 : Index := 0#32
  ![0, 1, v2320.toNat, 0]
def k0_off10 (i : grid0.Coords) (c0_i32_939 : BitVec 32) : Fin 4 → Nat :=
  let c0_980 : Index := 0#32
  let c1_981 : Index := 1#32
  let c768_i32_943 : BitVec 32 := 768#32
  let c0_i32_942 : BitVec 32 := 0#32
  let arg2 : BitVec 32 := BitVec.ofNat 32 (i 2).val
  let c8_i32_938 : BitVec 32 := 8#32
  let v2306 : BitVec 32 := Scalar.muli arg2 c8_i32_938
  let v2307 : BitVec 32 := Scalar.addi v2306 c0_i32_939
  let c128_i32_940 : BitVec 32 := 128#32
  let v2308 : BitVec 32 := Scalar.muli v2307 c128_i32_940
  let c64_i32_941 : BitVec 32 := 64#32
  let v2309 : BitVec 32 := Scalar.subi v2308 c64_i32_941
  let v2310 : BitVec 32 := Scalar.maxsi c0_i32_942 v2309
  let v2311 : BitVec 32 := Scalar.minsi c768_i32_943 v2310
  let v2312 : BitVec 32 := v2311
  let v2388 : Index := Scalar.indexCast v2312
  let c128_982 : Index := 128#32
  ![0, 1, v2388.toNat, 128]
def k0_off11 (i : grid0.Coords) (c0_i32_939 : BitVec 32) : Fin 4 → Nat :=
  let c0_1006 : Index := 0#32
  let c1_1007 : Index := 1#32
  let c768_i32_943 : BitVec 32 := 768#32
  let c0_i32_942 : BitVec 32 := 0#32
  let arg2 : BitVec 32 := BitVec.ofNat 32 (i 2).val
  let c8_i32_938 : BitVec 32 := 8#32
  let v2306 : BitVec 32 := Scalar.muli arg2 c8_i32_938
  let v2307 : BitVec 32 := Scalar.addi v2306 c0_i32_939
  let c128_i32_940 : BitVec 32 := 128#32
  let v2308 : BitVec 32 := Scalar.muli v2307 c128_i32_940
  let c64_i32_941 : BitVec 32 := 64#32
  let v2309 : BitVec 32 := Scalar.subi v2308 c64_i32_941
  let v2310 : BitVec 32 := Scalar.maxsi c0_i32_942 v2309
  let v2311 : BitVec 32 := Scalar.minsi c768_i32_943 v2310
  let v2312 : BitVec 32 := v2311
  let v2456 : Index := Scalar.indexCast v2312
  let c256_1008 : Index := 256#32
  ![0, 1, v2456.toNat, 256]
def k0_off12 (i : grid0.Coords) (c0_i32_939 : BitVec 32) : Fin 4 → Nat :=
  let c0_1032 : Index := 0#32
  let c1_1033 : Index := 1#32
  let c768_i32_943 : BitVec 32 := 768#32
  let c0_i32_942 : BitVec 32 := 0#32
  let arg2 : BitVec 32 := BitVec.ofNat 32 (i 2).val
  let c8_i32_938 : BitVec 32 := 8#32
  let v2306 : BitVec 32 := Scalar.muli arg2 c8_i32_938
  let v2307 : BitVec 32 := Scalar.addi v2306 c0_i32_939
  let c128_i32_940 : BitVec 32 := 128#32
  let v2308 : BitVec 32 := Scalar.muli v2307 c128_i32_940
  let c64_i32_941 : BitVec 32 := 64#32
  let v2309 : BitVec 32 := Scalar.subi v2308 c64_i32_941
  let v2310 : BitVec 32 := Scalar.maxsi c0_i32_942 v2309
  let v2311 : BitVec 32 := Scalar.minsi c768_i32_943 v2310
  let v2312 : BitVec 32 := v2311
  let v2524 : Index := Scalar.indexCast v2312
  let c384_1034 : Index := 384#32
  ![0, 1, v2524.toNat, 384]
def k0_mult10 (i : grid0.Coords) : BitVec 32 :=
  let c768_i32_1063 : BitVec 32 := 768#32
  let c0_i32_1062 : BitVec 32 := 0#32
  let arg2 : BitVec 32 := BitVec.ofNat 32 (i 2).val
  let c8_i32_1058 : BitVec 32 := 8#32
  let v2593 : BitVec 32 := Scalar.muli arg2 c8_i32_1058
  let c1_i32_1059 : BitVec 32 := 1#32
  let v2594 : BitVec 32 := Scalar.addi v2593 c1_i32_1059
  let c128_i32_1060 : BitVec 32 := 128#32
  let v2595 : BitVec 32 := Scalar.muli v2594 c128_i32_1060
  let c64_i32_1061 : BitVec 32 := 64#32
  let v2596 : BitVec 32 := Scalar.subi v2595 c64_i32_1061
  let v2597 : BitVec 32 := Scalar.maxsi c0_i32_1062 v2596
  let v2598 : BitVec 32 := Scalar.minsi c768_i32_1063 v2597
  v2598
def k0_mult11 (i : grid0.Coords) : BitVec 32 :=
  let c768_i32_1183 : BitVec 32 := 768#32
  let c0_i32_1182 : BitVec 32 := 0#32
  let arg2 : BitVec 32 := BitVec.ofNat 32 (i 2).val
  let c8_i32_1178 : BitVec 32 := 8#32
  let v2880 : BitVec 32 := Scalar.muli arg2 c8_i32_1178
  let c2_i32_1179 : BitVec 32 := 2#32
  let v2881 : BitVec 32 := Scalar.addi v2880 c2_i32_1179
  let c128_i32_1180 : BitVec 32 := 128#32
  let v2882 : BitVec 32 := Scalar.muli v2881 c128_i32_1180
  let c64_i32_1181 : BitVec 32 := 64#32
  let v2883 : BitVec 32 := Scalar.subi v2882 c64_i32_1181
  let v2884 : BitVec 32 := Scalar.maxsi c0_i32_1182 v2883
  let v2885 : BitVec 32 := Scalar.minsi c768_i32_1183 v2884
  v2885
def k0_mult12 (i : grid0.Coords) : BitVec 32 :=
  let c768_i32_1303 : BitVec 32 := 768#32
  let c0_i32_1302 : BitVec 32 := 0#32
  let arg2 : BitVec 32 := BitVec.ofNat 32 (i 2).val
  let c8_i32_1298 : BitVec 32 := 8#32
  let v3167 : BitVec 32 := Scalar.muli arg2 c8_i32_1298
  let c3_i32_1299 : BitVec 32 := 3#32
  let v3168 : BitVec 32 := Scalar.addi v3167 c3_i32_1299
  let c128_i32_1300 : BitVec 32 := 128#32
  let v3169 : BitVec 32 := Scalar.muli v3168 c128_i32_1300
  let c64_i32_1301 : BitVec 32 := 64#32
  let v3170 : BitVec 32 := Scalar.subi v3169 c64_i32_1301
  let v3171 : BitVec 32 := Scalar.maxsi c0_i32_1302 v3170
  let v3172 : BitVec 32 := Scalar.minsi c768_i32_1303 v3171
  v3172
def k0_mult13 (i : grid0.Coords) : BitVec 32 :=
  let c768_i32_1423 : BitVec 32 := 768#32
  let c0_i32_1422 : BitVec 32 := 0#32
  let arg2 : BitVec 32 := BitVec.ofNat 32 (i 2).val
  let c8_i32_1418 : BitVec 32 := 8#32
  let v3454 : BitVec 32 := Scalar.muli arg2 c8_i32_1418
  let c4_i32_1419 : BitVec 32 := 4#32
  let v3455 : BitVec 32 := Scalar.addi v3454 c4_i32_1419
  let c128_i32_1420 : BitVec 32 := 128#32
  let v3456 : BitVec 32 := Scalar.muli v3455 c128_i32_1420
  let c64_i32_1421 : BitVec 32 := 64#32
  let v3457 : BitVec 32 := Scalar.subi v3456 c64_i32_1421
  let v3458 : BitVec 32 := Scalar.maxsi c0_i32_1422 v3457
  let v3459 : BitVec 32 := Scalar.minsi c768_i32_1423 v3458
  v3459
def k0_mult14 (i : grid0.Coords) : BitVec 32 :=
  let c768_i32_1543 : BitVec 32 := 768#32
  let c0_i32_1542 : BitVec 32 := 0#32
  let arg2 : BitVec 32 := BitVec.ofNat 32 (i 2).val
  let c8_i32_1538 : BitVec 32 := 8#32
  let v3741 : BitVec 32 := Scalar.muli arg2 c8_i32_1538
  let c5_i32_1539 : BitVec 32 := 5#32
  let v3742 : BitVec 32 := Scalar.addi v3741 c5_i32_1539
  let c128_i32_1540 : BitVec 32 := 128#32
  let v3743 : BitVec 32 := Scalar.muli v3742 c128_i32_1540
  let c64_i32_1541 : BitVec 32 := 64#32
  let v3744 : BitVec 32 := Scalar.subi v3743 c64_i32_1541
  let v3745 : BitVec 32 := Scalar.maxsi c0_i32_1542 v3744
  let v3746 : BitVec 32 := Scalar.minsi c768_i32_1543 v3745
  v3746
def k0_mult15 (i : grid0.Coords) : BitVec 32 :=
  let c768_i32_1663 : BitVec 32 := 768#32
  let c0_i32_1662 : BitVec 32 := 0#32
  let arg2 : BitVec 32 := BitVec.ofNat 32 (i 2).val
  let c8_i32_1658 : BitVec 32 := 8#32
  let v4028 : BitVec 32 := Scalar.muli arg2 c8_i32_1658
  let c6_i32_1659 : BitVec 32 := 6#32
  let v4029 : BitVec 32 := Scalar.addi v4028 c6_i32_1659
  let c128_i32_1660 : BitVec 32 := 128#32
  let v4030 : BitVec 32 := Scalar.muli v4029 c128_i32_1660
  let c64_i32_1661 : BitVec 32 := 64#32
  let v4031 : BitVec 32 := Scalar.subi v4030 c64_i32_1661
  let v4032 : BitVec 32 := Scalar.maxsi c0_i32_1662 v4031
  let v4033 : BitVec 32 := Scalar.minsi c768_i32_1663 v4032
  v4033
def k0_mult16 (i : grid0.Coords) : BitVec 32 :=
  let c768_i32_1783 : BitVec 32 := 768#32
  let c0_i32_1782 : BitVec 32 := 0#32
  let arg2 : BitVec 32 := BitVec.ofNat 32 (i 2).val
  let c8_i32_1778 : BitVec 32 := 8#32
  let v4315 : BitVec 32 := Scalar.muli arg2 c8_i32_1778
  let c7_i32_1779 : BitVec 32 := 7#32
  let v4316 : BitVec 32 := Scalar.addi v4315 c7_i32_1779
  let c128_i32_1780 : BitVec 32 := 128#32
  let v4317 : BitVec 32 := Scalar.muli v4316 c128_i32_1780
  let c64_i32_1781 : BitVec 32 := 64#32
  let v4318 : BitVec 32 := Scalar.subi v4317 c64_i32_1781
  let v4319 : BitVec 32 := Scalar.maxsi c0_i32_1782 v4318
  let v4320 : BitVec 32 := Scalar.minsi c768_i32_1783 v4319
  v4320
def k0_mult17 (i : grid0.Coords) : BitVec 32 :=
  let c768_i32_1903 : BitVec 32 := 768#32
  let c0_i32_1902 : BitVec 32 := 0#32
  let arg2 : BitVec 32 := BitVec.ofNat 32 (i 2).val
  let c8_i32_1898 : BitVec 32 := 8#32
  let v4602 : BitVec 32 := Scalar.muli arg2 c8_i32_1898
  let c0_i32_1899 : BitVec 32 := 0#32
  let v4603 : BitVec 32 := Scalar.addi v4602 c0_i32_1899
  let c128_i32_1900 : BitVec 32 := 128#32
  let v4604 : BitVec 32 := Scalar.muli v4603 c128_i32_1900
  let c64_i32_1901 : BitVec 32 := 64#32
  let v4605 : BitVec 32 := Scalar.subi v4604 c64_i32_1901
  let v4606 : BitVec 32 := Scalar.maxsi c0_i32_1902 v4605
  let v4607 : BitVec 32 := Scalar.minsi c768_i32_1903 v4606
  v4607
def k0_off13 (i : grid0.Coords) (c0_i32_1899 : BitVec 32) : Fin 4 → Nat :=
  let c0_1914 : Index := 0#32
  let c2_1915 : Index := 2#32
  let c768_i32_1903 : BitVec 32 := 768#32
  let c0_i32_1902 : BitVec 32 := 0#32
  let arg2 : BitVec 32 := BitVec.ofNat 32 (i 2).val
  let c8_i32_1898 : BitVec 32 := 8#32
  let v4602 : BitVec 32 := Scalar.muli arg2 c8_i32_1898
  let v4603 : BitVec 32 := Scalar.addi v4602 c0_i32_1899
  let c128_i32_1900 : BitVec 32 := 128#32
  let v4604 : BitVec 32 := Scalar.muli v4603 c128_i32_1900
  let c64_i32_1901 : BitVec 32 := 64#32
  let v4605 : BitVec 32 := Scalar.subi v4604 c64_i32_1901
  let v4606 : BitVec 32 := Scalar.maxsi c0_i32_1902 v4605
  let v4607 : BitVec 32 := Scalar.minsi c768_i32_1903 v4606
  let v4608 : BitVec 32 := v4607
  let v4616 : Index := Scalar.indexCast v4608
  let c0_1916 : Index := 0#32
  ![0, 2, v4616.toNat, 0]
def k0_off14 (i : grid0.Coords) (c0_i32_1899 : BitVec 32) : Fin 4 → Nat :=
  let c0_1940 : Index := 0#32
  let c2_1941 : Index := 2#32
  let c768_i32_1903 : BitVec 32 := 768#32
  let c0_i32_1902 : BitVec 32 := 0#32
  let arg2 : BitVec 32 := BitVec.ofNat 32 (i 2).val
  let c8_i32_1898 : BitVec 32 := 8#32
  let v4602 : BitVec 32 := Scalar.muli arg2 c8_i32_1898
  let v4603 : BitVec 32 := Scalar.addi v4602 c0_i32_1899
  let c128_i32_1900 : BitVec 32 := 128#32
  let v4604 : BitVec 32 := Scalar.muli v4603 c128_i32_1900
  let c64_i32_1901 : BitVec 32 := 64#32
  let v4605 : BitVec 32 := Scalar.subi v4604 c64_i32_1901
  let v4606 : BitVec 32 := Scalar.maxsi c0_i32_1902 v4605
  let v4607 : BitVec 32 := Scalar.minsi c768_i32_1903 v4606
  let v4608 : BitVec 32 := v4607
  let v4684 : Index := Scalar.indexCast v4608
  let c128_1942 : Index := 128#32
  ![0, 2, v4684.toNat, 128]
def k0_off15 (i : grid0.Coords) (c0_i32_1899 : BitVec 32) : Fin 4 → Nat :=
  let c0_1966 : Index := 0#32
  let c2_1967 : Index := 2#32
  let c768_i32_1903 : BitVec 32 := 768#32
  let c0_i32_1902 : BitVec 32 := 0#32
  let arg2 : BitVec 32 := BitVec.ofNat 32 (i 2).val
  let c8_i32_1898 : BitVec 32 := 8#32
  let v4602 : BitVec 32 := Scalar.muli arg2 c8_i32_1898
  let v4603 : BitVec 32 := Scalar.addi v4602 c0_i32_1899
  let c128_i32_1900 : BitVec 32 := 128#32
  let v4604 : BitVec 32 := Scalar.muli v4603 c128_i32_1900
  let c64_i32_1901 : BitVec 32 := 64#32
  let v4605 : BitVec 32 := Scalar.subi v4604 c64_i32_1901
  let v4606 : BitVec 32 := Scalar.maxsi c0_i32_1902 v4605
  let v4607 : BitVec 32 := Scalar.minsi c768_i32_1903 v4606
  let v4608 : BitVec 32 := v4607
  let v4752 : Index := Scalar.indexCast v4608
  let c256_1968 : Index := 256#32
  ![0, 2, v4752.toNat, 256]
def k0_off16 (i : grid0.Coords) (c0_i32_1899 : BitVec 32) : Fin 4 → Nat :=
  let c0_1992 : Index := 0#32
  let c2_1993 : Index := 2#32
  let c768_i32_1903 : BitVec 32 := 768#32
  let c0_i32_1902 : BitVec 32 := 0#32
  let arg2 : BitVec 32 := BitVec.ofNat 32 (i 2).val
  let c8_i32_1898 : BitVec 32 := 8#32
  let v4602 : BitVec 32 := Scalar.muli arg2 c8_i32_1898
  let v4603 : BitVec 32 := Scalar.addi v4602 c0_i32_1899
  let c128_i32_1900 : BitVec 32 := 128#32
  let v4604 : BitVec 32 := Scalar.muli v4603 c128_i32_1900
  let c64_i32_1901 : BitVec 32 := 64#32
  let v4605 : BitVec 32 := Scalar.subi v4604 c64_i32_1901
  let v4606 : BitVec 32 := Scalar.maxsi c0_i32_1902 v4605
  let v4607 : BitVec 32 := Scalar.minsi c768_i32_1903 v4606
  let v4608 : BitVec 32 := v4607
  let v4820 : Index := Scalar.indexCast v4608
  let c384_1994 : Index := 384#32
  ![0, 2, v4820.toNat, 384]
def k0_mult18 (i : grid0.Coords) : BitVec 32 :=
  let c768_i32_2023 : BitVec 32 := 768#32
  let c0_i32_2022 : BitVec 32 := 0#32
  let arg2 : BitVec 32 := BitVec.ofNat 32 (i 2).val
  let c8_i32_2018 : BitVec 32 := 8#32
  let v4889 : BitVec 32 := Scalar.muli arg2 c8_i32_2018
  let c1_i32_2019 : BitVec 32 := 1#32
  let v4890 : BitVec 32 := Scalar.addi v4889 c1_i32_2019
  let c128_i32_2020 : BitVec 32 := 128#32
  let v4891 : BitVec 32 := Scalar.muli v4890 c128_i32_2020
  let c64_i32_2021 : BitVec 32 := 64#32
  let v4892 : BitVec 32 := Scalar.subi v4891 c64_i32_2021
  let v4893 : BitVec 32 := Scalar.maxsi c0_i32_2022 v4892
  let v4894 : BitVec 32 := Scalar.minsi c768_i32_2023 v4893
  v4894
def k0_mult19 (i : grid0.Coords) : BitVec 32 :=
  let c768_i32_2143 : BitVec 32 := 768#32
  let c0_i32_2142 : BitVec 32 := 0#32
  let arg2 : BitVec 32 := BitVec.ofNat 32 (i 2).val
  let c8_i32_2138 : BitVec 32 := 8#32
  let v5176 : BitVec 32 := Scalar.muli arg2 c8_i32_2138
  let c2_i32_2139 : BitVec 32 := 2#32
  let v5177 : BitVec 32 := Scalar.addi v5176 c2_i32_2139
  let c128_i32_2140 : BitVec 32 := 128#32
  let v5178 : BitVec 32 := Scalar.muli v5177 c128_i32_2140
  let c64_i32_2141 : BitVec 32 := 64#32
  let v5179 : BitVec 32 := Scalar.subi v5178 c64_i32_2141
  let v5180 : BitVec 32 := Scalar.maxsi c0_i32_2142 v5179
  let v5181 : BitVec 32 := Scalar.minsi c768_i32_2143 v5180
  v5181
def k0_mult20 (i : grid0.Coords) : BitVec 32 :=
  let c768_i32_2263 : BitVec 32 := 768#32
  let c0_i32_2262 : BitVec 32 := 0#32
  let arg2 : BitVec 32 := BitVec.ofNat 32 (i 2).val
  let c8_i32_2258 : BitVec 32 := 8#32
  let v5463 : BitVec 32 := Scalar.muli arg2 c8_i32_2258
  let c3_i32_2259 : BitVec 32 := 3#32
  let v5464 : BitVec 32 := Scalar.addi v5463 c3_i32_2259
  let c128_i32_2260 : BitVec 32 := 128#32
  let v5465 : BitVec 32 := Scalar.muli v5464 c128_i32_2260
  let c64_i32_2261 : BitVec 32 := 64#32
  let v5466 : BitVec 32 := Scalar.subi v5465 c64_i32_2261
  let v5467 : BitVec 32 := Scalar.maxsi c0_i32_2262 v5466
  let v5468 : BitVec 32 := Scalar.minsi c768_i32_2263 v5467
  v5468
def k0_mult21 (i : grid0.Coords) : BitVec 32 :=
  let c768_i32_2383 : BitVec 32 := 768#32
  let c0_i32_2382 : BitVec 32 := 0#32
  let arg2 : BitVec 32 := BitVec.ofNat 32 (i 2).val
  let c8_i32_2378 : BitVec 32 := 8#32
  let v5750 : BitVec 32 := Scalar.muli arg2 c8_i32_2378
  let c4_i32_2379 : BitVec 32 := 4#32
  let v5751 : BitVec 32 := Scalar.addi v5750 c4_i32_2379
  let c128_i32_2380 : BitVec 32 := 128#32
  let v5752 : BitVec 32 := Scalar.muli v5751 c128_i32_2380
  let c64_i32_2381 : BitVec 32 := 64#32
  let v5753 : BitVec 32 := Scalar.subi v5752 c64_i32_2381
  let v5754 : BitVec 32 := Scalar.maxsi c0_i32_2382 v5753
  let v5755 : BitVec 32 := Scalar.minsi c768_i32_2383 v5754
  v5755
def k0_mult22 (i : grid0.Coords) : BitVec 32 :=
  let c768_i32_2503 : BitVec 32 := 768#32
  let c0_i32_2502 : BitVec 32 := 0#32
  let arg2 : BitVec 32 := BitVec.ofNat 32 (i 2).val
  let c8_i32_2498 : BitVec 32 := 8#32
  let v6037 : BitVec 32 := Scalar.muli arg2 c8_i32_2498
  let c5_i32_2499 : BitVec 32 := 5#32
  let v6038 : BitVec 32 := Scalar.addi v6037 c5_i32_2499
  let c128_i32_2500 : BitVec 32 := 128#32
  let v6039 : BitVec 32 := Scalar.muli v6038 c128_i32_2500
  let c64_i32_2501 : BitVec 32 := 64#32
  let v6040 : BitVec 32 := Scalar.subi v6039 c64_i32_2501
  let v6041 : BitVec 32 := Scalar.maxsi c0_i32_2502 v6040
  let v6042 : BitVec 32 := Scalar.minsi c768_i32_2503 v6041
  v6042
def k0_mult23 (i : grid0.Coords) : BitVec 32 :=
  let c768_i32_2623 : BitVec 32 := 768#32
  let c0_i32_2622 : BitVec 32 := 0#32
  let arg2 : BitVec 32 := BitVec.ofNat 32 (i 2).val
  let c8_i32_2618 : BitVec 32 := 8#32
  let v6324 : BitVec 32 := Scalar.muli arg2 c8_i32_2618
  let c6_i32_2619 : BitVec 32 := 6#32
  let v6325 : BitVec 32 := Scalar.addi v6324 c6_i32_2619
  let c128_i32_2620 : BitVec 32 := 128#32
  let v6326 : BitVec 32 := Scalar.muli v6325 c128_i32_2620
  let c64_i32_2621 : BitVec 32 := 64#32
  let v6327 : BitVec 32 := Scalar.subi v6326 c64_i32_2621
  let v6328 : BitVec 32 := Scalar.maxsi c0_i32_2622 v6327
  let v6329 : BitVec 32 := Scalar.minsi c768_i32_2623 v6328
  v6329
def k0_mult24 (i : grid0.Coords) : BitVec 32 :=
  let c768_i32_2743 : BitVec 32 := 768#32
  let c0_i32_2742 : BitVec 32 := 0#32
  let arg2 : BitVec 32 := BitVec.ofNat 32 (i 2).val
  let c8_i32_2738 : BitVec 32 := 8#32
  let v6611 : BitVec 32 := Scalar.muli arg2 c8_i32_2738
  let c7_i32_2739 : BitVec 32 := 7#32
  let v6612 : BitVec 32 := Scalar.addi v6611 c7_i32_2739
  let c128_i32_2740 : BitVec 32 := 128#32
  let v6613 : BitVec 32 := Scalar.muli v6612 c128_i32_2740
  let c64_i32_2741 : BitVec 32 := 64#32
  let v6614 : BitVec 32 := Scalar.subi v6613 c64_i32_2741
  let v6615 : BitVec 32 := Scalar.maxsi c0_i32_2742 v6614
  let v6616 : BitVec 32 := Scalar.minsi c768_i32_2743 v6615
  v6616
def k0_mult25 (i : grid0.Coords) : BitVec 32 :=
  let c768_i32_2863 : BitVec 32 := 768#32
  let c0_i32_2862 : BitVec 32 := 0#32
  let arg2 : BitVec 32 := BitVec.ofNat 32 (i 2).val
  let c8_i32_2858 : BitVec 32 := 8#32
  let v6898 : BitVec 32 := Scalar.muli arg2 c8_i32_2858
  let c0_i32_2859 : BitVec 32 := 0#32
  let v6899 : BitVec 32 := Scalar.addi v6898 c0_i32_2859
  let c128_i32_2860 : BitVec 32 := 128#32
  let v6900 : BitVec 32 := Scalar.muli v6899 c128_i32_2860
  let c64_i32_2861 : BitVec 32 := 64#32
  let v6901 : BitVec 32 := Scalar.subi v6900 c64_i32_2861
  let v6902 : BitVec 32 := Scalar.maxsi c0_i32_2862 v6901
  let v6903 : BitVec 32 := Scalar.minsi c768_i32_2863 v6902
  v6903
def k0_off17 (i : grid0.Coords) (c0_i32_2859 : BitVec 32) : Fin 4 → Nat :=
  let c0_2874 : Index := 0#32
  let c3_2875 : Index := 3#32
  let c768_i32_2863 : BitVec 32 := 768#32
  let c0_i32_2862 : BitVec 32 := 0#32
  let arg2 : BitVec 32 := BitVec.ofNat 32 (i 2).val
  let c8_i32_2858 : BitVec 32 := 8#32
  let v6898 : BitVec 32 := Scalar.muli arg2 c8_i32_2858
  let v6899 : BitVec 32 := Scalar.addi v6898 c0_i32_2859
  let c128_i32_2860 : BitVec 32 := 128#32
  let v6900 : BitVec 32 := Scalar.muli v6899 c128_i32_2860
  let c64_i32_2861 : BitVec 32 := 64#32
  let v6901 : BitVec 32 := Scalar.subi v6900 c64_i32_2861
  let v6902 : BitVec 32 := Scalar.maxsi c0_i32_2862 v6901
  let v6903 : BitVec 32 := Scalar.minsi c768_i32_2863 v6902
  let v6904 : BitVec 32 := v6903
  let v6912 : Index := Scalar.indexCast v6904
  let c0_2876 : Index := 0#32
  ![0, 3, v6912.toNat, 0]
def k0_off18 (i : grid0.Coords) (c0_i32_2859 : BitVec 32) : Fin 4 → Nat :=
  let c0_2900 : Index := 0#32
  let c3_2901 : Index := 3#32
  let c768_i32_2863 : BitVec 32 := 768#32
  let c0_i32_2862 : BitVec 32 := 0#32
  let arg2 : BitVec 32 := BitVec.ofNat 32 (i 2).val
  let c8_i32_2858 : BitVec 32 := 8#32
  let v6898 : BitVec 32 := Scalar.muli arg2 c8_i32_2858
  let v6899 : BitVec 32 := Scalar.addi v6898 c0_i32_2859
  let c128_i32_2860 : BitVec 32 := 128#32
  let v6900 : BitVec 32 := Scalar.muli v6899 c128_i32_2860
  let c64_i32_2861 : BitVec 32 := 64#32
  let v6901 : BitVec 32 := Scalar.subi v6900 c64_i32_2861
  let v6902 : BitVec 32 := Scalar.maxsi c0_i32_2862 v6901
  let v6903 : BitVec 32 := Scalar.minsi c768_i32_2863 v6902
  let v6904 : BitVec 32 := v6903
  let v6980 : Index := Scalar.indexCast v6904
  let c128_2902 : Index := 128#32
  ![0, 3, v6980.toNat, 128]
def k0_off19 (i : grid0.Coords) (c0_i32_2859 : BitVec 32) : Fin 4 → Nat :=
  let c0_2926 : Index := 0#32
  let c3_2927 : Index := 3#32
  let c768_i32_2863 : BitVec 32 := 768#32
  let c0_i32_2862 : BitVec 32 := 0#32
  let arg2 : BitVec 32 := BitVec.ofNat 32 (i 2).val
  let c8_i32_2858 : BitVec 32 := 8#32
  let v6898 : BitVec 32 := Scalar.muli arg2 c8_i32_2858
  let v6899 : BitVec 32 := Scalar.addi v6898 c0_i32_2859
  let c128_i32_2860 : BitVec 32 := 128#32
  let v6900 : BitVec 32 := Scalar.muli v6899 c128_i32_2860
  let c64_i32_2861 : BitVec 32 := 64#32
  let v6901 : BitVec 32 := Scalar.subi v6900 c64_i32_2861
  let v6902 : BitVec 32 := Scalar.maxsi c0_i32_2862 v6901
  let v6903 : BitVec 32 := Scalar.minsi c768_i32_2863 v6902
  let v6904 : BitVec 32 := v6903
  let v7048 : Index := Scalar.indexCast v6904
  let c256_2928 : Index := 256#32
  ![0, 3, v7048.toNat, 256]
def k0_off20 (i : grid0.Coords) (c0_i32_2859 : BitVec 32) : Fin 4 → Nat :=
  let c0_2952 : Index := 0#32
  let c3_2953 : Index := 3#32
  let c768_i32_2863 : BitVec 32 := 768#32
  let c0_i32_2862 : BitVec 32 := 0#32
  let arg2 : BitVec 32 := BitVec.ofNat 32 (i 2).val
  let c8_i32_2858 : BitVec 32 := 8#32
  let v6898 : BitVec 32 := Scalar.muli arg2 c8_i32_2858
  let v6899 : BitVec 32 := Scalar.addi v6898 c0_i32_2859
  let c128_i32_2860 : BitVec 32 := 128#32
  let v6900 : BitVec 32 := Scalar.muli v6899 c128_i32_2860
  let c64_i32_2861 : BitVec 32 := 64#32
  let v6901 : BitVec 32 := Scalar.subi v6900 c64_i32_2861
  let v6902 : BitVec 32 := Scalar.maxsi c0_i32_2862 v6901
  let v6903 : BitVec 32 := Scalar.minsi c768_i32_2863 v6902
  let v6904 : BitVec 32 := v6903
  let v7116 : Index := Scalar.indexCast v6904
  let c384_2954 : Index := 384#32
  ![0, 3, v7116.toNat, 384]
def k0_mult26 (i : grid0.Coords) : BitVec 32 :=
  let c768_i32_2983 : BitVec 32 := 768#32
  let c0_i32_2982 : BitVec 32 := 0#32
  let arg2 : BitVec 32 := BitVec.ofNat 32 (i 2).val
  let c8_i32_2978 : BitVec 32 := 8#32
  let v7185 : BitVec 32 := Scalar.muli arg2 c8_i32_2978
  let c1_i32_2979 : BitVec 32 := 1#32
  let v7186 : BitVec 32 := Scalar.addi v7185 c1_i32_2979
  let c128_i32_2980 : BitVec 32 := 128#32
  let v7187 : BitVec 32 := Scalar.muli v7186 c128_i32_2980
  let c64_i32_2981 : BitVec 32 := 64#32
  let v7188 : BitVec 32 := Scalar.subi v7187 c64_i32_2981
  let v7189 : BitVec 32 := Scalar.maxsi c0_i32_2982 v7188
  let v7190 : BitVec 32 := Scalar.minsi c768_i32_2983 v7189
  v7190
def k0_mult27 (i : grid0.Coords) : BitVec 32 :=
  let c768_i32_3103 : BitVec 32 := 768#32
  let c0_i32_3102 : BitVec 32 := 0#32
  let arg2 : BitVec 32 := BitVec.ofNat 32 (i 2).val
  let c8_i32_3098 : BitVec 32 := 8#32
  let v7472 : BitVec 32 := Scalar.muli arg2 c8_i32_3098
  let c2_i32_3099 : BitVec 32 := 2#32
  let v7473 : BitVec 32 := Scalar.addi v7472 c2_i32_3099
  let c128_i32_3100 : BitVec 32 := 128#32
  let v7474 : BitVec 32 := Scalar.muli v7473 c128_i32_3100
  let c64_i32_3101 : BitVec 32 := 64#32
  let v7475 : BitVec 32 := Scalar.subi v7474 c64_i32_3101
  let v7476 : BitVec 32 := Scalar.maxsi c0_i32_3102 v7475
  let v7477 : BitVec 32 := Scalar.minsi c768_i32_3103 v7476
  v7477
def k0_mult28 (i : grid0.Coords) : BitVec 32 :=
  let c768_i32_3223 : BitVec 32 := 768#32
  let c0_i32_3222 : BitVec 32 := 0#32
  let arg2 : BitVec 32 := BitVec.ofNat 32 (i 2).val
  let c8_i32_3218 : BitVec 32 := 8#32
  let v7759 : BitVec 32 := Scalar.muli arg2 c8_i32_3218
  let c3_i32_3219 : BitVec 32 := 3#32
  let v7760 : BitVec 32 := Scalar.addi v7759 c3_i32_3219
  let c128_i32_3220 : BitVec 32 := 128#32
  let v7761 : BitVec 32 := Scalar.muli v7760 c128_i32_3220
  let c64_i32_3221 : BitVec 32 := 64#32
  let v7762 : BitVec 32 := Scalar.subi v7761 c64_i32_3221
  let v7763 : BitVec 32 := Scalar.maxsi c0_i32_3222 v7762
  let v7764 : BitVec 32 := Scalar.minsi c768_i32_3223 v7763
  v7764
def k0_mult29 (i : grid0.Coords) : BitVec 32 :=
  let c768_i32_3343 : BitVec 32 := 768#32
  let c0_i32_3342 : BitVec 32 := 0#32
  let arg2 : BitVec 32 := BitVec.ofNat 32 (i 2).val
  let c8_i32_3338 : BitVec 32 := 8#32
  let v8046 : BitVec 32 := Scalar.muli arg2 c8_i32_3338
  let c4_i32_3339 : BitVec 32 := 4#32
  let v8047 : BitVec 32 := Scalar.addi v8046 c4_i32_3339
  let c128_i32_3340 : BitVec 32 := 128#32
  let v8048 : BitVec 32 := Scalar.muli v8047 c128_i32_3340
  let c64_i32_3341 : BitVec 32 := 64#32
  let v8049 : BitVec 32 := Scalar.subi v8048 c64_i32_3341
  let v8050 : BitVec 32 := Scalar.maxsi c0_i32_3342 v8049
  let v8051 : BitVec 32 := Scalar.minsi c768_i32_3343 v8050
  v8051
def k0_mult30 (i : grid0.Coords) : BitVec 32 :=
  let c768_i32_3463 : BitVec 32 := 768#32
  let c0_i32_3462 : BitVec 32 := 0#32
  let arg2 : BitVec 32 := BitVec.ofNat 32 (i 2).val
  let c8_i32_3458 : BitVec 32 := 8#32
  let v8333 : BitVec 32 := Scalar.muli arg2 c8_i32_3458
  let c5_i32_3459 : BitVec 32 := 5#32
  let v8334 : BitVec 32 := Scalar.addi v8333 c5_i32_3459
  let c128_i32_3460 : BitVec 32 := 128#32
  let v8335 : BitVec 32 := Scalar.muli v8334 c128_i32_3460
  let c64_i32_3461 : BitVec 32 := 64#32
  let v8336 : BitVec 32 := Scalar.subi v8335 c64_i32_3461
  let v8337 : BitVec 32 := Scalar.maxsi c0_i32_3462 v8336
  let v8338 : BitVec 32 := Scalar.minsi c768_i32_3463 v8337
  v8338
def k0_mult31 (i : grid0.Coords) : BitVec 32 :=
  let c768_i32_3583 : BitVec 32 := 768#32
  let c0_i32_3582 : BitVec 32 := 0#32
  let arg2 : BitVec 32 := BitVec.ofNat 32 (i 2).val
  let c8_i32_3578 : BitVec 32 := 8#32
  let v8620 : BitVec 32 := Scalar.muli arg2 c8_i32_3578
  let c6_i32_3579 : BitVec 32 := 6#32
  let v8621 : BitVec 32 := Scalar.addi v8620 c6_i32_3579
  let c128_i32_3580 : BitVec 32 := 128#32
  let v8622 : BitVec 32 := Scalar.muli v8621 c128_i32_3580
  let c64_i32_3581 : BitVec 32 := 64#32
  let v8623 : BitVec 32 := Scalar.subi v8622 c64_i32_3581
  let v8624 : BitVec 32 := Scalar.maxsi c0_i32_3582 v8623
  let v8625 : BitVec 32 := Scalar.minsi c768_i32_3583 v8624
  v8625
def k0_mult32 (i : grid0.Coords) : BitVec 32 :=
  let c768_i32_3703 : BitVec 32 := 768#32
  let c0_i32_3702 : BitVec 32 := 0#32
  let arg2 : BitVec 32 := BitVec.ofNat 32 (i 2).val
  let c8_i32_3698 : BitVec 32 := 8#32
  let v8907 : BitVec 32 := Scalar.muli arg2 c8_i32_3698
  let c7_i32_3699 : BitVec 32 := 7#32
  let v8908 : BitVec 32 := Scalar.addi v8907 c7_i32_3699
  let c128_i32_3700 : BitVec 32 := 128#32
  let v8909 : BitVec 32 := Scalar.muli v8908 c128_i32_3700
  let c64_i32_3701 : BitVec 32 := 64#32
  let v8910 : BitVec 32 := Scalar.subi v8909 c64_i32_3701
  let v8911 : BitVec 32 := Scalar.maxsi c0_i32_3702 v8910
  let v8912 : BitVec 32 := Scalar.minsi c768_i32_3703 v8911
  v8912
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, arg1.toNat, c0_i32.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  ![arg0.toNat, arg1.toNat, c0_i32.toNat, c2_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "slope0" => some ((-((Real.log 2)⁻¹ * (1 / 2)) : ℝ) : EReal)
  | "slope1" => some ((-((Real.log 2)⁻¹ * (6658043 / 16777216)) : ℝ) : EReal)
  | "slope2" => some ((-((Real.log 2)⁻¹ * (10568983 / 33554432)) : ℝ) : EReal)
  | "slope3" => some ((-((Real.log 2)⁻¹ * (1 / 4)) : ℝ) : EReal)
  | "slope4" => some ((-((Real.log 2)⁻¹ * (3329021 / 16777216)) : ℝ) : EReal)
  | "slope5" => some ((-((Real.log 2)⁻¹ * (10568985 / 67108864)) : ℝ) : EReal)
  | "slope6" => some ((-((Real.log 2)⁻¹ * (1 / 8)) : ℝ) : EReal)
  | "slope7" => some ((-((Real.log 2)⁻¹ * (3329021 / 33554432)) : ℝ) : EReal)
  | _ => none
-- ==== ReferenceIdeal.lean ====
abbrev S8x4096x8x64 : Shape := ⟨4, ![8, 4096, 8, 64]⟩
abbrev S8 : Shape := ⟨1, ![8]⟩
abbrev S8x1024x4x8x64 : Shape := ⟨5, ![8, 1024, 4, 8, 64]⟩
abbrev S8x4x1024x8x64 : Shape := ⟨5, ![8, 4, 1024, 8, 64]⟩
abbrev S_ : Shape := ⟨0, ![]⟩
abbrev S8x4x16x64x8x64 : Shape := ⟨6, ![8, 4, 16, 64, 8, 64]⟩
abbrev S8x4x1152x8x64 : Shape := ⟨5, ![8, 4, 1152, 8, 64]⟩
abbrev S8x4x18x64x8x64 : Shape := ⟨6, ![8, 4, 18, 64, 8, 64]⟩
abbrev S8x4x16x192x8x64 : Shape := ⟨6, ![8, 4, 16, 192, 8, 64]⟩
abbrev S8x4x8x16x64x192 : Shape := ⟨6, ![8, 4, 8, 16, 64, 192]⟩
abbrev S16 : Shape := ⟨1, ![16]⟩
abbrev S16x1 : Shape := ⟨2, ![16, 1]⟩
abbrev S64 : Shape := ⟨1, ![64]⟩
abbrev S1x64 : Shape := ⟨2, ![1, 64]⟩
abbrev S16x64 : Shape := ⟨2, ![16, 64]⟩
abbrev S192 : Shape := ⟨1, ![192]⟩
abbrev S1x192 : Shape := ⟨2, ![1, 192]⟩
abbrev S16x192 : Shape := ⟨2, ![16, 192]⟩
abbrev S16x1x192 : Shape := ⟨3, ![16, 1, 192]⟩
abbrev S16x64x1 : Shape := ⟨3, ![16, 64, 1]⟩
abbrev S16x64x192 : Shape := ⟨3, ![16, 64, 192]⟩
abbrev S8x1x1x1 : Shape := ⟨4, ![8, 1, 1, 1]⟩
abbrev S1x16x64x192 : Shape := ⟨4, ![1, 16, 64, 192]⟩
abbrev S8x16x64x192 : Shape := ⟨4, ![8, 16, 64, 192]⟩
abbrev S1x1x8x16x64x192 : Shape := ⟨6, ![1, 1, 8, 16, 64, 192]⟩
abbrev S8x4x8x16x64 : Shape := ⟨5, ![8, 4, 8, 16, 64]⟩
abbrev S8x4x8x16x64x1 : Shape := ⟨6, ![8, 4, 8, 16, 64, 1]⟩
abbrev S8x4x16x8x64x64 : Shape := ⟨6, ![8, 4, 16, 8, 64, 64]⟩
abbrev S8x4x8x1024 : Shape := ⟨4, ![8, 4, 8, 1024]⟩
abbrev S8x1024x4x8 : Shape := ⟨4, ![8, 1024, 4, 8]⟩
abbrev S8x4096x8 : Shape := ⟨3, ![8, 4096, 8]⟩
abbrev S8x1024x4x512 : Shape := ⟨4, ![8, 1024, 4, 512]⟩
abbrev S8x4x1024x512 : Shape := ⟨4, ![8, 4, 1024, 512]⟩
abbrev S8x1024x4x4x2 : Shape := ⟨5, ![8, 1024, 4, 4, 2]⟩
abbrev S8x4x1024x2x4 : Shape := ⟨5, ![8, 4, 1024, 2, 4]⟩
abbrev S8x4x1024x2x64 : Shape := ⟨5, ![8, 4, 1024, 2, 64]⟩
abbrev S8x4x1024x128 : Shape := ⟨4, ![8, 4, 1024, 128]⟩

abbrev nBuf : Space → Nat
  | .hbm => 128
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8, .f32⟩
  | .hbm, ⟨4, _⟩ => ⟨S8x1024x4x8x64, .f32⟩
  | .hbm, ⟨5, _⟩ => ⟨S8x4x1024x8x64, .f32⟩
  | .hbm, ⟨6, _⟩ => ⟨S_, .i32⟩
  | .hbm, ⟨7, _⟩ => ⟨S_, .f32⟩
  | .hbm, ⟨8, _⟩ => ⟨S8x4x1024x8x64, .f32⟩
  | .hbm, ⟨9, _⟩ => ⟨S8x4x16x64x8x64, .f32⟩
  | .hbm, ⟨10, _⟩ => ⟨S8x1024x4x8x64, .f32⟩
  | .hbm, ⟨11, _⟩ => ⟨S8x4x1024x8x64, .f32⟩
  | .hbm, ⟨12, _⟩ => ⟨S_, .i32⟩
  | .hbm, ⟨13, _⟩ => ⟨S_, .f32⟩
  | .hbm, ⟨14, _⟩ => ⟨S8x4x1152x8x64, .f32⟩
  | .hbm, ⟨15, _⟩ => ⟨S8x4x18x64x8x64, .f32⟩
  | .hbm, ⟨16, _⟩ => ⟨S8x4x16x64x8x64, .f32⟩
  | .hbm, ⟨17, _⟩ => ⟨S8x4x16x64x8x64, .f32⟩
  | .hbm, ⟨18, _⟩ => ⟨S8x4x16x64x8x64, .f32⟩
  | .hbm, ⟨19, _⟩ => ⟨S8x4x16x192x8x64, .f32⟩
  | .hbm, ⟨20, _⟩ => ⟨S8x1024x4x8x64, .f32⟩
  | .hbm, ⟨21, _⟩ => ⟨S8x4x1024x8x64, .f32⟩
  | .hbm, ⟨22, _⟩ => ⟨S_, .i32⟩
  | .hbm, ⟨23, _⟩ => ⟨S_, .f32⟩
  | .hbm, ⟨24, _⟩ => ⟨S8x4x1152x8x64, .f32⟩
  | .hbm, ⟨25, _⟩ => ⟨S8x4x18x64x8x64, .f32⟩
  | .hbm, ⟨26, _⟩ => ⟨S8x4x16x64x8x64, .f32⟩
  | .hbm, ⟨27, _⟩ => ⟨S8x4x16x64x8x64, .f32⟩
  | .hbm, ⟨28, _⟩ => ⟨S8x4x16x64x8x64, .f32⟩
  | .hbm, ⟨29, _⟩ => ⟨S8x4x16x192x8x64, .f32⟩
  | .hbm, ⟨30, _⟩ => ⟨S8x4x8x16x64x192, .f32⟩
  | .hbm, ⟨31, _⟩ => ⟨S_, .f32⟩
  | .hbm, ⟨32, _⟩ => ⟨S8x4x8x16x64x192, .f32⟩
  | .hbm, ⟨33, _⟩ => ⟨S8x4x8x16x64x192, .f32⟩
  | .hbm, ⟨34, _⟩ => ⟨S16, .i32⟩
  | .hbm, ⟨35, _⟩ => ⟨S16x1, .i32⟩
  | .hbm, ⟨36, _⟩ => ⟨S_, .i32⟩
  | .hbm, ⟨37, _⟩ => ⟨S16x1, .i32⟩
  | .hbm, ⟨38, _⟩ => ⟨S16x1, .i32⟩
  | .hbm, ⟨39, _⟩ => ⟨S64, .i32⟩
  | .hbm, ⟨40, _⟩ => ⟨S1x64, .i32⟩
  | .hbm, ⟨41, _⟩ => ⟨S16x64, .i32⟩
  | .hbm, ⟨42, _⟩ => ⟨S16x64, .i32⟩
  | .hbm, ⟨43, _⟩ => ⟨S16x64, .i32⟩
  | .hbm, ⟨44, _⟩ => ⟨S16, .i32⟩
  | .hbm, ⟨45, _⟩ => ⟨S16x1, .i32⟩
  | .hbm, ⟨46, _⟩ => ⟨S_, .i32⟩
  | .hbm, ⟨47, _⟩ => ⟨S16x1, .i32⟩
  | .hbm, ⟨48, _⟩ => ⟨S16x1, .i32⟩
  | .hbm, ⟨49, _⟩ => ⟨S_, .i32⟩
  | .hbm, ⟨50, _⟩ => ⟨S16x1, .i32⟩
  | .hbm, ⟨51, _⟩ => ⟨S16x1, .i32⟩
  | .hbm, ⟨52, _⟩ => ⟨S192, .i32⟩
  | .hbm, ⟨53, _⟩ => ⟨S1x192, .i32⟩
  | .hbm, ⟨54, _⟩ => ⟨S16x192, .i32⟩
  | .hbm, ⟨55, _⟩ => ⟨S16x192, .i32⟩
  | .hbm, ⟨56, _⟩ => ⟨S16x192, .i32⟩
  | .hbm, ⟨57, _⟩ => ⟨S16x1x192, .i32⟩
  | .hbm, ⟨58, _⟩ => ⟨S16x64x1, .i32⟩
  | .hbm, ⟨59, _⟩ => ⟨S16x64x192, .i32⟩
  | .hbm, ⟨60, _⟩ => ⟨S16x64x192, .i32⟩
  | .hbm, ⟨61, _⟩ => ⟨S16x64x192, .i32⟩
  | .hbm, ⟨62, _⟩ => ⟨S16x64x192, .i32⟩
  | .hbm, ⟨63, _⟩ => ⟨S_, .i32⟩
  | .hbm, ⟨64, _⟩ => ⟨S16x64x192, .i32⟩
  | .hbm, ⟨65, _⟩ => ⟨S16x64x192, .i1⟩
  | .hbm, ⟨66, _⟩ => ⟨S16x1x192, .i32⟩
  | .hbm, ⟨67, _⟩ => ⟨S_, .i32⟩
  | .hbm, ⟨68, _⟩ => ⟨S16x1x192, .i32⟩
  | .hbm, ⟨69, _⟩ => ⟨S16x1x192, .i1⟩
  | .hbm, ⟨70, _⟩ => ⟨S16x64x192, .i1⟩
  | .hbm, ⟨71, _⟩ => ⟨S16x64x192, .i1⟩
  | .hbm, ⟨72, _⟩ => ⟨S16x1x192, .i32⟩
  | .hbm, ⟨73, _⟩ => ⟨S_, .i32⟩
  | .hbm, ⟨74, _⟩ => ⟨S16x1x192, .i32⟩
  | .hbm, ⟨75, _⟩ => ⟨S16x1x192, .i1⟩
  | .hbm, ⟨76, _⟩ => ⟨S16x64x192, .i1⟩
  | .hbm, ⟨77, _⟩ => ⟨S16x64x192, .i1⟩
  | .hbm, ⟨78, _⟩ => ⟨S16x64x192, .i32⟩
  | .hbm, ⟨79, _⟩ => ⟨S_, .i32⟩
  | .hbm, ⟨80, _⟩ => ⟨S16x64x192, .i32⟩
  | .hbm, ⟨81, _⟩ => ⟨S16x64x192, .i32⟩
  | .hbm, ⟨82, _⟩ => ⟨S16x64x192, .f32⟩
  | .hbm, ⟨83, _⟩ => ⟨S8x1x1x1, .f32⟩
  | .hbm, ⟨84, _⟩ => ⟨S1x16x64x192, .f32⟩
  | .hbm, ⟨85, _⟩ => ⟨S8x16x64x192, .f32⟩
  | .hbm, ⟨86, _⟩ => ⟨S8x16x64x192, .f32⟩
  | .hbm, ⟨87, _⟩ => ⟨S8x16x64x192, .f32⟩
  | .hbm, ⟨88, _⟩ => ⟨S1x1x8x16x64x192, .f32⟩
  | .hbm, ⟨89, _⟩ => ⟨S8x4x8x16x64x192, .f32⟩
  | .hbm, ⟨90, _⟩ => ⟨S8x4x8x16x64x192, .f32⟩
  | .hbm, ⟨91, _⟩ => ⟨S_, .f32⟩
  | .hbm, ⟨92, _⟩ => ⟨S_, .f32⟩
  | .hbm, ⟨93, _⟩ => ⟨S8x4x8x16x64x192, .i1⟩
  | .hbm, ⟨94, _⟩ => ⟨S8x4x8x16x64x192, .f32⟩
  | .hbm, ⟨95, _⟩ => ⟨S8x4x8x16x64x192, .f32⟩
  | .hbm, ⟨96, _⟩ => ⟨S_, .f32⟩
  | .hbm, ⟨97, _⟩ => ⟨S8x4x8x16x64, .f32⟩
  | .hbm, ⟨98, _⟩ => ⟨S8x4x8x16x64x1, .f32⟩
  | .hbm, ⟨99, _⟩ => ⟨S8x4x8x16x64x192, .f32⟩
  | .hbm, ⟨100, _⟩ => ⟨S8x4x8x16x64x192, .f32⟩
  | .hbm, ⟨101, _⟩ => ⟨S8x4x8x16x64x192, .f32⟩
  | .hbm, ⟨102, _⟩ => ⟨S_, .f32⟩
  | .hbm, ⟨103, _⟩ => ⟨S8x4x8x16x64, .f32⟩
  | .hbm, ⟨104, _⟩ => ⟨S8x4x8x16x64, .f32⟩
  | .hbm, ⟨105, _⟩ => ⟨S8x4x8x16x64, .f32⟩
  | .hbm, ⟨106, _⟩ => ⟨S8x4x8x16x64, .f32⟩
  | .hbm, ⟨107, _⟩ => ⟨S8x4x8x16x64x1, .f32⟩
  | .hbm, ⟨108, _⟩ => ⟨S8x4x8x16x64x192, .f32⟩
  | .hbm, ⟨109, _⟩ => ⟨S8x4x8x16x64x192, .f32⟩
  | .hbm, ⟨110, _⟩ => ⟨S8x4x8x16x64x192, .f32⟩
  | .hbm, ⟨111, _⟩ => ⟨S8x4x16x8x64x64, .f32⟩
  | .hbm, ⟨112, _⟩ => ⟨S8x4x16x64x8x64, .f32⟩
  | .hbm, ⟨113, _⟩ => ⟨S8x4x1024x8x64, .f32⟩
  | .hbm, ⟨114, _⟩ => ⟨S8x1024x4x8x64, .f32⟩
  | .hbm, ⟨115, _⟩ => ⟨S8x4096x8x64, .f32⟩
  | .hbm, ⟨116, _⟩ => ⟨S8x4x8x1024, .f32⟩
  | .hbm, ⟨117, _⟩ => ⟨S8x1024x4x8, .f32⟩
  | .hbm, ⟨118, _⟩ => ⟨S8x4096x8, .f32⟩
  | .hbm, ⟨119, _⟩ => ⟨S8x1024x4x512, .f32⟩
  | .hbm, ⟨120, _⟩ => ⟨S8x4x1024x512, .f32⟩
  | .hbm, ⟨121, _⟩ => ⟨S8x1024x4x4x2, .f32⟩
  | .hbm, ⟨122, _⟩ => ⟨S8x4x1024x2x4, .f32⟩
  | .hbm, ⟨123, _⟩ => ⟨S_, .i32⟩
  | .hbm, ⟨124, _⟩ => ⟨S_, .f32⟩
  | .hbm, ⟨125, _⟩ => ⟨S8x4x1024x2x64, .f32⟩
  | .hbm, ⟨126, _⟩ => ⟨S8x4x1024x128, .f32⟩
  | .hbm, ⟨127, _⟩ => ⟨S8x4x1024x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call2_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_12 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_c_13 : Ref sig .tc := ⟨.hbm, 123, rfl⟩
abbrev main_call4_v0 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S32768x1024 : Shape := ⟨2, ![32768, 1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S16x1024 : Shape := ⟨2, ![16, 1024]⟩
abbrev S512x1024 : Shape := ⟨2, ![512, 1024]⟩
abbrev S528x1024 : Shape := ⟨2, ![528, 1024]⟩
abbrev S3x2x2x536x128 : Shape := ⟨5, ![3, 2, 2, 536, 128]⟩
abbrev S8x512x128 : Shape := ⟨3, ![8, 512, 128]⟩
abbrev S16x1 : Shape := ⟨2, ![16, 1]⟩
abbrev S1024x256 : Shape := ⟨2, ![1024, 256]⟩
abbrev S528x256 : Shape := ⟨2, ![528, 256]⟩
abbrev S528x128 : Shape := ⟨2, ![528, 128]⟩
abbrev S1x1x1x528x128 : Shape := ⟨5, ![1, 1, 1, 528, 128]⟩
abbrev S1x128 : Shape := ⟨2, ![1, 128]⟩
abbrev S1x1x1x1x128 : Shape := ⟨5, ![1, 1, 1, 1, 128]⟩
abbrev S1x1x1x536x128 : Shape := ⟨5, ![1, 1, 1, 536, 128]⟩
abbrev S536x128 : Shape := ⟨2, ![536, 128]⟩
abbrev S256x128 : Shape := ⟨2, ![256, 128]⟩
abbrev S256x256 : Shape := ⟨2, ![256, 256]⟩
abbrev S512x256 : Shape := ⟨2, ![512, 256]⟩
abbrev S256x1024 : Shape := ⟨2, ![256, 1024]⟩
abbrev S1x256x128 : Shape := ⟨3, ![1, 256, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S32768x1024, .f32⟩
  | .hbm, ⟨8, _⟩ => ⟨S32768x1024, .bf16⟩
  | .hbm, ⟨9, _⟩ => ⟨S32768x1024, .f32⟩
  | .hbm, ⟨10, _⟩ => ⟨S1024x5632, .f32⟩
  | .hbm, ⟨11, _⟩ => ⟨S1024x5632, .bf16⟩
  | .hbm, ⟨12, _⟩ => ⟨S3x5632, .f32⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S32768x1024, .f32⟩
  | .local _ .vmem, ⟨0, _⟩ => ⟨S16x1024, .bf16⟩
  | .local _ .vmem, ⟨1, _⟩ => ⟨S16x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S512x1024, .f32⟩
  | .local _ .vmem, ⟨7, _⟩ => ⟨S512x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S528x1024, .bf16⟩
  | .local _ .vmem, ⟨16, _⟩ => ⟨S3x2x2x536x128, .f32⟩
  | .local _ .vmem, ⟨17, _⟩ => ⟨S512x1024, .f32⟩
  | .local _ .vmem, ⟨18, _⟩ => ⟨S8x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S8x4096x5632 : Shape := ⟨3, ![8, 4096, 5632]⟩
abbrev S3x5632 : Shape := ⟨2, ![3, 5632]⟩
abbrev S5632 : Shape := ⟨1, ![5632]⟩
abbrev S_ : Shape := ⟨0, ![]⟩
abbrev S8x4098x5632 : Shape := ⟨3, ![8, 4098, 5632]⟩
abbrev S1x1x5632 : Shape := ⟨3, ![1, 1, 5632]⟩
abbrev S8x4096x2816 : Shape := ⟨3, ![8, 4096, 2816]⟩
abbrev S2816x1024 : Shape := ⟨2, ![2816, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024x5632, .f32⟩
  | .hbm, ⟨8, _⟩ => ⟨S8x4096x5632, .f32⟩
  | .hbm, ⟨9, _⟩ => ⟨S3x5632, .f32⟩
  | .hbm, ⟨10, _⟩ => ⟨S5632, .f32⟩
  | .hbm, ⟨11, _⟩ => ⟨S_, .i32⟩
  | .hbm, ⟨12, _⟩ => ⟨S_, .f32⟩
  | .hbm, ⟨13, _⟩ => ⟨S8x4098x5632, .f32⟩
  | .hbm, ⟨14, _⟩ => ⟨S8x4096x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S8x4096x5632, .f32⟩
  | .hbm, ⟨19, _⟩ => ⟨S8x4096x5632, .f32⟩
  | .hbm, ⟨20, _⟩ => ⟨S_, .f32⟩
  | .hbm, ⟨21, _⟩ => ⟨S8x4096x5632, .f32⟩
  | .hbm, ⟨22, _⟩ => ⟨S8x4096x5632, .f32⟩
  | .hbm, ⟨23, _⟩ => ⟨S8x4096x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S8x4096x5632, .f32⟩
  | .hbm, ⟨28, _⟩ => ⟨S8x4096x5632, .f32⟩
  | .hbm, ⟨29, _⟩ => ⟨S8x4096x5632, .f32⟩
  | .hbm, ⟨30, _⟩ => ⟨S8x4096x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S8x4096x5632, .f32⟩
  | .hbm, ⟨35, _⟩ => ⟨S8x4096x5632, .f32⟩
  | .hbm, ⟨36, _⟩ => ⟨S8x4096x5632, .f32⟩
  | .hbm, ⟨37, _⟩ => ⟨S1x1x5632, .f32⟩
  | .hbm, ⟨38, _⟩ => ⟨S8x4096x5632, .f32⟩
  | .hbm, ⟨39, _⟩ => ⟨S8x4096x5632, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S2816x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | .hbm, ⟨71, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_0 : Ref sig .tc := ⟨.hbm, 56, rfl⟩
abbrev main_v38 : Ref sig .tc := ⟨.hbm, 57, rfl⟩
abbrev main_v39 : Ref sig .tc := ⟨.hbm, 58, rfl⟩
abbrev main_cst_1 : Ref sig .tc := ⟨.hbm, 59, rfl⟩
abbrev main_v40 : Ref sig .tc := ⟨.hbm, 60, rfl⟩
abbrev main_v41 : Ref sig .tc := ⟨.hbm, 61, rfl⟩
abbrev main_cst_2 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x8x64 : Shape := ⟨4, ![8, 4096, 8, 64]⟩
abbrev S8x4096x8 : Shape := ⟨3, ![8, 4096, 8]⟩
abbrev S8x4096x2048 : Shape := ⟨3, ![8, 4096, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S8x4096x512 : Shape := ⟨3, ![8, 4096, 512]⟩
abbrev S8x4096x1x512 : Shape := ⟨4, ![8, 4096, 1, 512]⟩
abbrev S8x1x4096x512 : Shape := ⟨4, ![8, 1, 4096, 512]⟩
abbrev S8x1024x4x512 : Shape := ⟨4, ![8, 1024, 4, 512]⟩
abbrev S8x4x1024x512 : Shape := ⟨4, ![8, 4, 1024, 512]⟩
abbrev S8x256x16x512 : Shape := ⟨4, ![8, 256, 16, 512]⟩
abbrev S8x16x256x512 : Shape := ⟨4, ![8, 16, 256, 512]⟩
abbrev S8x4096x4x2 : Shape := ⟨4, ![8, 4096, 4, 2]⟩
abbrev S8x4096x2x4 : Shape := ⟨4, ![8, 4096, 2, 4]⟩
abbrev S_ : Shape := ⟨0, ![]⟩
abbrev S8x4096x2x64 : Shape := ⟨4, ![8, 4096, 2, 64]⟩
abbrev S8x4096x128 : Shape := ⟨3, ![8, 4096, 128]⟩
abbrev S8x4096x1x128 : Shape := ⟨4, ![8, 4096, 1, 128]⟩
abbrev S8x1x4096x128 : Shape := ⟨4, ![8, 1, 4096, 128]⟩
abbrev S8x1024x4x128 : Shape := ⟨4, ![8, 1024, 4, 128]⟩
abbrev S8x4x1024x128 : Shape := ⟨4, ![8, 4, 1024, 128]⟩
abbrev S8x256x16x128 : Shape := ⟨4, ![8, 256, 16, 128]⟩
abbrev S8x16x256x128 : Shape := ⟨4, ![8, 16, 256, 128]⟩
abbrev S32768x1024 : Shape := ⟨2, ![32768, 1024]⟩
abbrev S1024x1024 : Shape := ⟨2, ![1024, 1024]⟩
abbrev S512x1024 : Shape := ⟨2, ![512, 1024]⟩
abbrev S32768x2048 : Shape := ⟨2, ![32768, 2048]⟩
abbrev S32768x512 : Shape := ⟨2, ![32768, 512]⟩
abbrev S32768x128 : Shape := ⟨2, ![32768, 128]⟩
abbrev S512x512 : Shape := ⟨2, ![512, 512]⟩
abbrev S1x4x128x512 : Shape := ⟨4, ![1, 4, 128, 512]⟩
abbrev S1x16x32x512 : Shape := ⟨4, ![1, 16, 32, 512]⟩
abbrev S512x128 : Shape := ⟨2, ![512, 128]⟩
abbrev S1x4x128x128 : Shape := ⟨4, ![1, 4, 128, 128]⟩
abbrev S1x16x32x128 : Shape := ⟨4, ![1, 16, 32, 128]⟩
abbrev S512x2048 : Shape := ⟨2, ![512, 2048]⟩
abbrev S10x512x128 : Shape := ⟨3, ![10, 512, 128]⟩
abbrev S1x1x128x128 : Shape := ⟨4, ![1, 1, 128, 128]⟩
abbrev S128x128 : Shape := ⟨2, ![128, 128]⟩
abbrev S1x512x128 : Shape := ⟨3, ![1, 512, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩
abbrev S128x512 : Shape := ⟨2, ![128, 512]⟩
abbrev S256x512 : Shape := ⟨2, ![256, 512]⟩
abbrev S1x1x128x512 : Shape := ⟨4, ![1, 1, 128, 512]⟩
abbrev S4x512x128 : Shape := ⟨3, ![4, 512, 128]⟩
abbrev S1x1x32x512 : Shape := ⟨4, ![1, 1, 32, 512]⟩
abbrev S32x512 : Shape := ⟨2, ![32, 512]⟩
abbrev S512x256 : Shape := ⟨2, ![512, 256]⟩
abbrev S512 : Shape := ⟨1, ![512]⟩
abbrev S512x1 : Shape := ⟨2, ![512, 1]⟩

abbrev nBuf : Space → Nat
  | .hbm => 64
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x64, .f32⟩
  | .hbm, ⟨2, _⟩ => ⟨S8x4096x8x64, .f32⟩
  | .hbm, ⟨3, _⟩ => ⟨S8x4096x8x64, .f32⟩
  | .hbm, ⟨4, _⟩ => ⟨S8x4096x8, .f32⟩
  | .hbm, ⟨5, _⟩ => ⟨S8x4096x8, .f32⟩
  | .hbm, ⟨6, _⟩ => ⟨S8x4096x8, .f32⟩
  | .hbm, ⟨7, _⟩ => ⟨S8x4096x2048, .f32⟩
  | .hbm, ⟨8, _⟩ => ⟨S8x4096x1024, .f32⟩
  | .hbm, ⟨9, _⟩ => ⟨S1x1024x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S8x4096x512, .f32⟩
  | .hbm, ⟨14, _⟩ => ⟨S8x4096x1x512, .f32⟩
  | .hbm, ⟨15, _⟩ => ⟨S8x1x4096x512, .f32⟩
  | .hbm, ⟨16, _⟩ => ⟨S8x1x4096x512, .bf16⟩
  | .hbm, ⟨17, _⟩ => ⟨S8x4096x512, .f32⟩
  | .hbm, ⟨18, _⟩ => ⟨S8x1024x4x512, .f32⟩
  | .hbm, ⟨19, _⟩ => ⟨S8x4x1024x512, .f32⟩
  | .hbm, ⟨20, _⟩ => ⟨S8x4x1024x512, .bf16⟩
  | .hbm, ⟨21, _⟩ => ⟨S8x4096x512, .f32⟩
  | .hbm, ⟨22, _⟩ => ⟨S8x256x16x512, .f32⟩
  | .hbm, ⟨23, _⟩ => ⟨S8x16x256x512, .f32⟩
  | .hbm, ⟨24, _⟩ => ⟨S8x16x256x512, .bf16⟩
  | .hbm, ⟨25, _⟩ => ⟨S8x4096x4x2, .f32⟩
  | .hbm, ⟨26, _⟩ => ⟨S8x4096x2x4, .f32⟩
  | .hbm, ⟨27, _⟩ => ⟨S_, .i32⟩
  | .hbm, ⟨28, _⟩ => ⟨S_, .f32⟩
  | .hbm, ⟨29, _⟩ => ⟨S8x4096x2x64, .f32⟩
  | .hbm, ⟨30, _⟩ => ⟨S8x4096x128, .f32⟩
  | .hbm, ⟨31, _⟩ => ⟨S8x4096x1x128, .f32⟩
  | .hbm, ⟨32, _⟩ => ⟨S8x1x4096x128, .f32⟩
  | .hbm, ⟨33, _⟩ => ⟨S8x4096x4x2, .f32⟩
  | .hbm, ⟨34, _⟩ => ⟨S8x4096x2x4, .f32⟩
  | .hbm, ⟨35, _⟩ => ⟨S_, .i32⟩
  | .hbm, ⟨36, _⟩ => ⟨S_, .f32⟩
  | .hbm, ⟨37, _⟩ => ⟨S8x4096x2x64, .f32⟩
  | .hbm, ⟨38, _⟩ => ⟨S8x4096x128, .f32⟩
  | .hbm, ⟨39, _⟩ => ⟨S8x1024x4x128, .f32⟩
  | .hbm, ⟨40, _⟩ => ⟨S8x4x1024x128, .f32⟩
  | .hbm, ⟨41, _⟩ => ⟨S8x4096x4x2, .f32⟩
  | .hbm, ⟨42, _⟩ => ⟨S8x4096x2x4, .f32⟩
  | .hbm, ⟨43, _⟩ => ⟨S_, .i32⟩
  | .hbm, ⟨44, _⟩ => ⟨S_, .f32⟩
  | .hbm, ⟨45, _⟩ => ⟨S8x4096x2x64, .f32⟩
  | .hbm, ⟨46, _⟩ => ⟨S8x4096x128, .f32⟩
  | .hbm, ⟨47, _⟩ => ⟨S8x256x16x128, .f32⟩
  | .hbm, ⟨48, _⟩ => ⟨S8x16x256x128, .f32⟩
  | .hbm, ⟨49, _⟩ => ⟨S32768x1024, .f32⟩
  | .hbm, ⟨50, _⟩ => ⟨S32768x1024, .bf16⟩
  | .hbm, ⟨51, _⟩ => ⟨S1024x1024, .f32⟩
  | .hbm, ⟨52, _⟩ => ⟨S1024x1024, .bf16⟩
  | .hbm, ⟨53, _⟩ => ⟨S512x1024, .f32⟩
  | .hbm, ⟨54, _⟩ => ⟨S512x1024, .bf16⟩
  | .hbm, ⟨55, _⟩ => ⟨S32768x2048, .f32⟩
  | .hbm, ⟨56, _⟩ => ⟨S32768x2048, .bf16⟩
  | .hbm, ⟨57, _⟩ => ⟨S1024x1024, .f32⟩
  | .hbm, ⟨58, _⟩ => ⟨S1024x1024, .bf16⟩
  | .hbm, ⟨59, _⟩ => ⟨S32768x1024, .f32⟩
  | .hbm, ⟨60, _⟩ => ⟨S32768x512, .bf16⟩
  | .hbm, ⟨61, _⟩ => ⟨S32768x128, .f32⟩
  | .hbm, ⟨62, _⟩ => ⟨S32768x1024, .f32⟩
  | .hbm, ⟨63, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S1x4x128x512, .bf16⟩
  | .local _ .vmem, ⟨6, _⟩ => ⟨S1x4x128x512, .bf16⟩
  | .local _ .vmem, ⟨7, _⟩ => ⟨S1x16x32x512, .bf16⟩
  | .local _ .vmem, ⟨8, _⟩ => ⟨S1x16x32x512, .bf16⟩
  | .local _ .vmem, ⟨9, _⟩ => ⟨S512x128, .f32⟩
  | .local _ .vmem, ⟨10, _⟩ => ⟨S512x128, .f32⟩
  | .local _ .vmem, ⟨11, _⟩ => ⟨S1x4x128x128, .f32⟩
  | .local _ .vmem, ⟨12, _⟩ => ⟨S1x4x128x128, .f32⟩
  | .local _ .vmem, ⟨13, _⟩ => ⟨S1x16x32x128, .f32⟩
  | .local _ .vmem, ⟨14, _⟩ => ⟨S1x16x32x128, .f32⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S10x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_1 : Ref sig .tc := ⟨.hbm, 43, rfl⟩
abbrev main_call2_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43_0 : Ref sig .tc := ⟨.hbm, 62, rfl⟩
abbrev main_v43_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8x4096x1024 : Shape := ⟨3, ![8, 4096, 1024]⟩
abbrev S8x4096x8x64 : Shape := ⟨4, ![8, 4096, 8, 64]⟩
abbrev S8x4096x8 : Shape := ⟨3, ![8, 4096, 8]⟩
abbrev S8x4096x2048 : Shape := ⟨3, ![8, 4096, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S1024x1024 : Shape := ⟨2, ![1024, 1024]⟩
abbrev S1x8x4096x8 : Shape := ⟨4, ![1, 8, 4096, 8]⟩
abbrev S3x8x4096x8 : Shape := ⟨4, ![3, 8, 4096, 8]⟩
abbrev S_ : Shape := ⟨0, ![]⟩
abbrev S3x8x4096x8x1 : Shape := ⟨5, ![3, 8, 4096, 8, 1]⟩
abbrev S1x8x4096x8x64 : Shape := ⟨5, ![1, 8, 4096, 8, 64]⟩
abbrev S3x8x4096x8x64 : Shape := ⟨5, ![3, 8, 4096, 8, 64]⟩
abbrev S8x4096x512 : Shape := ⟨3, ![8, 4096, 512]⟩
abbrev S512x1024 : Shape := ⟨2, ![512, 1024]⟩
abbrev S8x4096x2x1024 : Shape := ⟨4, ![8, 4096, 2, 1024]⟩
abbrev S8x4096x1x1024 : Shape := ⟨4, ![8, 4096, 1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x64, .f32⟩
  | .hbm, ⟨2, _⟩ => ⟨S8x4096x8x64, .f32⟩
  | .hbm, ⟨3, _⟩ => ⟨S8x4096x8x64, .f32⟩
  | .hbm, ⟨4, _⟩ => ⟨S8x4096x8, .f32⟩
  | .hbm, ⟨5, _⟩ => ⟨S8x4096x8, .f32⟩
  | .hbm, ⟨6, _⟩ => ⟨S8x4096x8, .f32⟩
  | .hbm, ⟨7, _⟩ => ⟨S8x4096x2048, .f32⟩
  | .hbm, ⟨8, _⟩ => ⟨S8x4096x1024, .f32⟩
  | .hbm, ⟨9, _⟩ => ⟨S1x1024x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1024x1024, .f32⟩
  | .hbm, ⟨14, _⟩ => ⟨S8x4096x1024, .f32⟩
  | .hbm, ⟨15, _⟩ => ⟨S1x8x4096x8, .f32⟩
  | .hbm, ⟨16, _⟩ => ⟨S1x8x4096x8, .f32⟩
  | .hbm, ⟨17, _⟩ => ⟨S1x8x4096x8, .f32⟩
  | .hbm, ⟨18, _⟩ => ⟨S3x8x4096x8, .f32⟩
  | .hbm, ⟨19, _⟩ => ⟨S_, .f32⟩
  | .hbm, ⟨20, _⟩ => ⟨S8x4096x8, .f32⟩
  | .hbm, ⟨21, _⟩ => ⟨S_, .f32⟩
  | .hbm, ⟨22, _⟩ => ⟨S8x4096x8, .f32⟩
  | .hbm, ⟨23, _⟩ => ⟨S8x4096x8, .f32⟩
  | .hbm, ⟨24, _⟩ => ⟨S1x8x4096x8, .f32⟩
  | .hbm, ⟨25, _⟩ => ⟨S3x8x4096x8, .f32⟩
  | .hbm, ⟨26, _⟩ => ⟨S3x8x4096x8, .f32⟩
  | .hbm, ⟨27, _⟩ => ⟨S3x8x4096x8, .f32⟩
  | .hbm, ⟨28, _⟩ => ⟨S_, .f32⟩
  | .hbm, ⟨29, _⟩ => ⟨S8x4096x8, .f32⟩
  | .hbm, ⟨30, _⟩ => ⟨S1x8x4096x8, .f32⟩
  | .hbm, ⟨31, _⟩ => ⟨S3x8x4096x8, .f32⟩
  | .hbm, ⟨32, _⟩ => ⟨S3x8x4096x8, .f32⟩
  | .hbm, ⟨33, _⟩ => ⟨S3x8x4096x8x1, .f32⟩
  | .hbm, ⟨34, _⟩ => ⟨S1x8x4096x8x64, .f32⟩
  | .hbm, ⟨35, _⟩ => ⟨S1x8x4096x8x64, .f32⟩
  | .hbm, ⟨36, _⟩ => ⟨S1x8x4096x8x64, .f32⟩
  | .hbm, ⟨37, _⟩ => ⟨S3x8x4096x8x64, .f32⟩
  | .hbm, ⟨38, _⟩ => ⟨S3x8x4096x8x64, .f32⟩
  | .hbm, ⟨39, _⟩ => ⟨S3x8x4096x8x64, .f32⟩
  | .hbm, ⟨40, _⟩ => ⟨S_, .f32⟩
  | .hbm, ⟨41, _⟩ => ⟨S8x4096x8x64, .f32⟩
  | .hbm, ⟨42, _⟩ => ⟨S8x4096x512, .f32⟩
  | .hbm, ⟨43, _⟩ => ⟨S512x1024, .f32⟩
  | .hbm, ⟨44, _⟩ => ⟨S8x4096x1024, .f32⟩
  | .hbm, ⟨45, _⟩ => ⟨S8x4096x2x1024, .f32⟩
  | .hbm, ⟨46, _⟩ => ⟨S8x4096x1x1024, .f32⟩
  | .hbm, ⟨47, _⟩ => ⟨S8x4096x1024, .f32⟩
  | .hbm, ⟨48, _⟩ => ⟨S8x4096x1024, .f32⟩
  | .hbm, ⟨49, _⟩ => ⟨S8x4096x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S1024x1024, .f32⟩
  | .hbm, ⟨54, _⟩ => ⟨S8x4096x1024, .f32⟩
  | .hbm, ⟨55, _⟩ => ⟨S8x4096x1024, .f32⟩
  | .hbm, ⟨56, _⟩ => ⟨S1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S1x1x1024, .f32⟩
  | .hbm, ⟨71, _⟩ => ⟨S8x4096x1024, .f32⟩
  | .hbm, ⟨72, _⟩ => ⟨S8x4096x1024, .f32⟩
  | .hbm, ⟨73, _⟩ => ⟨S32768x1024, .f32⟩
  | .hbm, ⟨74, _⟩ => ⟨S32768x1024, .f32⟩
  | .hbm, ⟨75, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Proof.Pieces.lean ====
/- What the kernel's body stores, as three families of pieces: one block of outputs for each residue class, sub-block and pair of heads;
   one block of log-sums for each residue class and sub-block; one block of biases for each edge and head. The printed body unrolls all of
   them; here each family is one function of its number, and the printed list is shown to be that function's values, in the order stored. -/
module

public import proofs.«01_k».proof.Proof.Gen.KernelIdeal.Value

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]

/-- The numbers below `n`, the last first. -/
def down : ℕ → List ℕ
  | 0 => []
  | n + 1 => n :: down n

theorem mem_down {n a : ℕ} (h : a ∈ down n) : a < n := by
  induction n with
  | zero => cases h
  | succ n ih =>
    rcases List.mem_cons.1 h with rfl | h
    · omega
    · have := ih h; omega

/-! ## The biases -/

/-- How far column `c` is from row `r` in the block with edge `e`. -/
def dist (e : ℕ) : IVec S128x256 32 :=
  absi (subi (subi (iota .tc S128x256 32 [1] iota_S128x256_d1_w32) (iota .tc S128x256 32 [0] iota_S128x256_d0_w32))
    (broadcast S128x256 (BitVec.ofNat 32 (128 - 64 * e))))

/-- The slope of head `h`, with its sign and its factor `log2 e`. -/
def slope : ℕ → F .f32
  | 0 => Named.named κ "slope0" 0xBF38AA3B#32
  | 1 => Named.named κ "slope1" 0xBF129196#32
  | 2 => Named.named κ "slope2" 0xBEE8A9CB#32
  | 3 => Named.named κ "slope3" 0xBEB8AA3B#32
  | 4 => Named.named κ "slope4" 0xBE929194#32
  | 5 => Named.named κ "slope5" 0xBE68A9CE#32
  | 6 => Named.named κ "slope6" 0xBE38AA3B#32
  | _ => Named.named κ "slope7" 0xBE129194#32

/-- The biases of head `h` in a block with edge `e`: the slope times the distance, the mask outside the band. -/
def biasBlock (e h : ℕ) : FVec F S1x1x128x256 .f32 :=
  shapeCast S1x1x128x256
    (select (cmpi .sle (dist e) (broadcast S128x256 64#32))
      (mulf (broadcast S128x256 (slope (F := F) h)) (sitofp .f32 (dist e)))
      (broadcast S128x256 (Named.named κ "mask" 0xF149F2CA#32))) shapeCasts_S128x256_S1x1x128x256

theorem bias_inb (n : ℕ) : ∀ a, (![n / 8 % 3, n / 2 % 4, 128 * (n % 2), 0] : Fin 4 → ℕ) a + S1x1x128x256.size a ≤ S3x4x256x256.size a := by
  intro a
  have h1 : n / 8 % 3 < 3 := Nat.mod_lt _ (by decide)
  have h2 : n / 2 % 4 < 4 := Nat.mod_lt _ (by decide)
  have h3 : n % 2 < 2 := Nat.mod_lt _ (by decide)
  match a with
  | 0 => show n / 8 % 3 + 1 ≤ 3; omega
  | 1 => show n / 2 % 4 + 1 ≤ 4; omega
  | 2 => show 128 * (n % 2) + 128 ≤ 256; omega
  | 3 => show 0 + 256 ≤ 256; omega

/-- The piece of biases number `n`: edge `n / 8`, head `n % 8`. -/
def biasPiece (n : ℕ) : View.Piece (Elt F) S3x4x256x256 .f32 :=
  ⟨Rect.unit ![n / 8 % 3, n / 2 % 4, 128 * (n % 2), 0] S1x1x128x256.size (bias_inb n), biasBlock (n / 8) (n % 8)⟩

/-! ## Where a block of outputs reads -/

/-- The offset of the keys and values of class `n / 32 % 4` and pair `n % 4`. -/
def koff (n : ℕ) : grid0.Coords → BitVec 32 → Fin 4 → ℕ :=
  match n / 32 % 4, n % 4 with
  | 0, 0 => k0_off1 | 0, 1 => k0_off3 | 0, 2 => k0_off5 | 0, _ => k0_off7
  | 1, 0 => k0_off9 | 1, 1 => k0_off10 | 1, 2 => k0_off11 | 1, _ => k0_off12
  | 2, 0 => k0_off13 | 2, 1 => k0_off14 | 2, 2 => k0_off15 | 2, _ => k0_off16
  | _, 0 => k0_off17 | _, 1 => k0_off18 | _, 2 => k0_off19 | _, _ => k0_off20

/-- The offset of the biases of pair `n % 4`. -/
def boff (n : ℕ) : grid0.Coords → BitVec 32 → Fin 4 → ℕ :=
  match n % 4 with
  | 0 => k0_off2 | 1 => k0_off4 | 2 => k0_off6 | _ => k0_off8

theorem koff_inb (n : ℕ) (i : grid0.Coords) (r : ℕ) (hr : r < 8) :
    ∀ a, koff n i (BitVec.ofNat 32 r) a + S1x1x256x128.size a ≤ S1x4x1024x512.size a := by
  obtain ⟨f, hf⟩ : ∃ f, f = koff n := ⟨_, rfl⟩
  rw [← hf]
  unfold koff at hf
  split at hf <;> subst hf
  exacts [k0_off1_inb i ⟨r, hr⟩, k0_off3_inb i ⟨r, hr⟩, k0_off5_inb i ⟨r, hr⟩, k0_off7_inb i ⟨r, hr⟩,
    k0_off9_inb i ⟨r, hr⟩, k0_off10_inb i ⟨r, hr⟩, k0_off11_inb i ⟨r, hr⟩, k0_off12_inb i ⟨r, hr⟩,
    k0_off13_inb i ⟨r, hr⟩, k0_off14_inb i ⟨r, hr⟩, k0_off15_inb i ⟨r, hr⟩, k0_off16_inb i ⟨r, hr⟩,
    k0_off17_inb i ⟨r, hr⟩, k0_off18_inb i ⟨r, hr⟩, k0_off19_inb i ⟨r, hr⟩, k0_off20_inb i ⟨r, hr⟩]

theorem boff_inb (n : ℕ) (i : grid0.Coords) (r : ℕ) (hr : r < 8) :
    ∀ a, boff n i (BitVec.ofNat 32 r) a + S1x1x256x256.size a ≤ S3x4x256x256.size a := by
  obtain ⟨f, hf⟩ : ∃ f, f = boff n := ⟨_, rfl⟩
  rw [← hf]
  unfold boff at hf
  split at hf <;> subst hf
  exacts [k0_off2_inb i ⟨r, hr⟩, k0_off4_inb i ⟨r, hr⟩, k0_off6_inb i ⟨r, hr⟩, k0_off8_inb i ⟨r, hr⟩]

theorem sub_lt (n : ℕ) : n / 4 % 8 < 8 := Nat.mod_lt _ (by decide)

theorem out_inb (n : ℕ) : ∀ a, (![0, n / 32 % 4, 128 * (n / 4 % 8), 128 * (n % 4)] : Fin 4 → ℕ) a + S1x1x128x128.size a ≤ S1x4x1024x512.size a := by
  intro a
  have h1 : n / 32 % 4 < 4 := Nat.mod_lt _ (by decide)
  have h2 : n / 4 % 8 < 8 := Nat.mod_lt _ (by decide)
  have h3 : n % 4 < 4 := Nat.mod_lt _ (by decide)
  match a with
  | 0 => show 0 + 1 ≤ 1; omega
  | 1 => show n / 32 % 4 + 1 ≤ 4; omega
  | 2 => show 128 * (n / 4 % 8) + 128 ≤ 1024; omega
  | 3 => show 128 * (n % 4) + 128 ≤ 512; omega

theorem lse_inb (n : ℕ) : ∀ a, (![0, n / 8 % 4, 128 * (n % 8), 0] : Fin 4 → ℕ) a + S1x1x128x128.size a ≤ S1x4x1024x128.size a := by
  intro a
  have h1 : n / 8 % 4 < 4 := Nat.mod_lt _ (by decide)
  have h2 : n % 8 < 8 := Nat.mod_lt _ (by decide)
  match a with
  | 0 => show 0 + 1 ≤ 1; omega
  | 1 => show n / 8 % 4 + 1 ≤ 4; omega
  | 2 => show 128 * (n % 8) + 128 ≤ 1024; omega
  | 3 => show 0 + 128 ≤ 128; omega

section Pieces

variable (i : grid0.Coords) (arg3 : Memref sig .tc .vmem S1x4x1024x512 .bf16) (f3 : arg3.view.ty.Contents (Elt F))
  (arg4 : Memref sig .tc .vmem S1x4x1024x512 .bf16) (f4 : arg4.view.ty.Contents (Elt F))
  (arg5 : Memref sig .tc .vmem S1x4x1024x512 .bf16) (f5 : arg5.view.ty.Contents (Elt F))
  (arg8 : Memref sig .tc .vmem S3x4x256x256 .f32) (f8 : arg8.view.ty.Contents (Elt F))

/-- The queries of block `n`. -/
def qLoad (n : ℕ) : Vec F S1x1x128x128 .bf16 :=
  View.readAt (Elt F) arg3.view (Rect.unit (s := S1x4x1024x512) ![0, n / 32 % 4, 128 * (n / 4 % 8), 128 * (n % 4)] S1x1x128x128.size (out_inb n)).toLoadRect f3

/-- The keys (or values) of block `n`. -/
def kLoad (n : ℕ) : Vec F S1x1x256x128 .bf16 :=
  View.readAt (Elt F) arg4.view (Rect.unit (s := S1x4x1024x512) (koff n i (BitVec.ofNat 32 (n / 4 % 8))) S1x1x256x128.size (koff_inb n i _ (sub_lt n))).toLoadRect f4

/-- The biases of block `n`. -/
def bLoad (n : ℕ) : Vec F S1x1x256x256 .f32 :=
  View.readAt (Elt F) arg8.view (Rect.unit (s := S3x4x256x256) (boff n i (BitVec.ofNat 32 (n / 4 % 8))) S1x1x256x256.size (boff_inb n i _ (sub_lt n))).toLoadRect f8

/-- The outputs of block `n`: class `n / 32`, sub-block `n / 4 % 8`, pair `n % 4`. -/
def outPiece (n : ℕ) : View.Piece (Elt F) S1x4x1024x512 .bf16 :=
  ⟨Rect.unit ![0, n / 32 % 4, 128 * (n / 4 % 8), 128 * (n % 4)] S1x1x128x128.size (out_inb n),
    k0_pay49 k0_pay40 (k0_pay42 (qLoad arg3 f3 n)) (k0_pay43 (kLoad i arg4 f4 n)) (kLoad i arg5 f5 n) (bLoad i arg8 f8 n)⟩

/-- One pair's log-sums put into lanes `p` and `64 + p`. -/
def lseStep (p : ℕ) (acc den m2 : FVec F S128x128 .f32) : FVec F S128x128 .f32 :=
  select
    (broadcastTo S128x128
      (shapeCast S1x128
        (ori (cmpi .eq (iota .tc S1x128 32 [1] iota_S1x128_d1_w32) (broadcast S1x128 (BitVec.ofNat 32 p)))
          (cmpi .eq (iota .tc S1x128 32 [1] iota_S1x128_d1_w32) (broadcast S1x128 (BitVec.ofNat 32 (64 + p)))))
        shapeCasts_S1x128_S1x128) broadcasts_S1x128_S128x128)
    (mulf (addf m2 (mulf (log den) (broadcast S128x128 (Named.named κ "log2e" 0x3FB8AA3B#32))))
      (broadcast S128x128 (Named.named κ "ln2" 0x3F317218#32)))
    acc

/-- The log-sums after the first `p` pairs of sub-block `n`. -/
def lseRows (n : ℕ) : ℕ → FVec F S128x128 .f32
  | 0 => broadcast S128x128 (Scalar.ofBits .f32 0x00000000#32)
  | p + 1 => lseStep p (lseRows n p)
      (k0_pay47 k0_pay40 (k0_pay42 (qLoad arg3 f3 (4 * n + p))) (k0_pay43 (kLoad i arg4 f4 (4 * n + p))) (kLoad i arg5 f5 (4 * n + p)) (bLoad i arg8 f8 (4 * n + p)))
      (k0_pay48 k0_pay40 (k0_pay42 (qLoad arg3 f3 (4 * n + p))) (k0_pay43 (kLoad i arg4 f4 (4 * n + p))) (bLoad i arg8 f8 (4 * n + p)))

/-- The log-sums of sub-block `n % 8` of class `n / 8`. -/
def lsePiece (n : ℕ) : View.Piece (Elt F) S1x4x1024x128 .f32 :=
  ⟨Rect.unit ![0, n / 8 % 4, 128 * (n % 8), 0] S1x1x128x128.size (lse_inb n),
    k0_pay1 (lseRows i arg3 f3 arg4 f4 arg5 f5 arg8 f8 n 4)⟩

end Pieces

section Runs

variable (c : Dev nD) (i : grid0.Coords) (arg3 : Memref sig .tc .vmem S1x4x1024x512 .bf16) (harg3 : arg3.IsWhole)
  (arg4 : Memref sig .tc .vmem S1x4x1024x512 .bf16) (harg4 : arg4.IsWhole) (arg5 : Memref sig .tc .vmem S1x4x1024x512 .bf16) (harg5 : arg5.IsWhole)
  (arg6 : Memref sig .tc .vmem S1x4x1024x512 .bf16) (harg6 : arg6.IsWhole) (arg7 : Memref sig .tc .vmem S1x4x1024x128 .f32) (harg7 : arg7.IsWhole)
  (arg8 : Memref sig .tc .vmem S3x4x256x256 .f32) (harg8 : arg8.IsWhole)
  (x0 : Vec F S1x4x1024x512 .bf16) (x1 : Vec F S1x4x1024x512 .bf16) (x2 : Vec F S1x4x1024x512 .bf16) (xs0 : Vec F S3x4x256x256 .f32)

theorem out_B hc0 : (kernelRun0_B c i arg3 harg3 arg4 harg4 arg5 harg5 arg6 harg6 arg7 harg7 arg8 harg8 hc0 x0 x1 x2 xs0).1
    = (down 128).map (outPiece i arg3 (harg3.unread x0) arg4 (harg4.unread x1) arg5 (harg5.unread x2) arg8 (harg8.unread xs0)) := by
  sl_kernel_rfl

theorem lse_B hc0 : (kernelRun0_B c i arg3 harg3 arg4 harg4 arg5 harg5 arg6 harg6 arg7 harg7 arg8 harg8 hc0 x0 x1 x2 xs0).2.1
    = (down 32).map (lsePiece i arg3 (harg3.unread x0) arg4 (harg4.unread x1) arg5 (harg5.unread x2) arg8 (harg8.unread xs0)) := by
  sl_kernel_rfl

theorem bias_A hc0 : (kernelRun0_A c i arg3 harg3 arg4 harg4 arg5 harg5 arg6 harg6 arg7 harg7 arg8 harg8 hc0 x0 x1 x2).2.2.1
    = (down 24).map (biasPiece (F := F)) := by
  sl_kernel_rfl

theorem out_A hc0 : (kernelRun0_A c i arg3 harg3 arg4 harg4 arg5 harg5 arg6 harg6 arg7 harg7 arg8 harg8 hc0 x0 x1 x2).1
    = (down 128).map (outPiece i arg3 (harg3.unread x0) arg4 (harg4.unread x1) arg5 (harg5.unread x2) arg8
        (arg8.view.writes (Elt F) arg8.view.junk ((down 24).map (biasPiece (F := F))))) := by
  sl_kernel_rfl

theorem lse_A hc0 : (kernelRun0_A c i arg3 harg3 arg4 harg4 arg5 harg5 arg6 harg6 arg7 harg7 arg8 harg8 hc0 x0 x1 x2).2.1
    = (down 32).map (lsePiece i arg3 (harg3.unread x0) arg4 (harg4.unread x1) arg5 (harg5.unread x2) arg8
        (arg8.view.writes (Elt F) arg8.view.junk ((down 24).map (biasPiece (F := F))))) := by
  sl_kernel_rfl

end Runs

end Cert.Attn

end
-- ==== Proof.Softmax.lean ====
/- The softmax of one query over a band of keys, on the extended reals, with no program in sight. Positions are counted in the padded
   sequence (position `x` holds key `x - 64`). A query at `t` sees the positions of its band that hold a key (`Valid`). What is shown:
   a maximum, a sum of exponentials or a weighted sum taken over any run of positions that contains the band is the one over the band,
   so that it does not matter how a program cuts the run; and the base-2 form is the base-e form. -/
module

public import Idealize.ShloMosaic.PureOps.Ideal
public import Mathlib.Algebra.BigOperators.Intervals
public import Mathlib.Analysis.SpecialFunctions.Pow.Real
public import Mathlib.Data.Finset.Fold

@[expose] public section

noncomputable section

namespace Cert.Attn

open Idealize.ShloMosaic

/-- Position `x` of the padded sequence holds a key, and it is within 64 of the query at `t`. -/
def Valid (t x : ℕ) : Prop := t ≤ x ∧ x ≤ t + 128 ∧ 64 ≤ x ∧ x < 1088

instance (t x : ℕ) : Decidable (Valid t x) := inferInstanceAs (Decidable (_ ∧ _ ∧ _ ∧ _))

/-- The positions a query sees. -/
def band (t : ℕ) : Finset ℕ := (Finset.range 1152).filter (Valid t)

theorem mem_band {t x : ℕ} : x ∈ band t ↔ Valid t x := by
  rw [band, Finset.mem_filter, Finset.mem_range]
  unfold Valid
  omega

theorem band_nonempty (t : Fin 1024) : (band t).Nonempty :=
  ⟨t.val + 64, mem_band.mpr (by unfold Valid; have := t.isLt; omega)⟩

/-- The scores with the mask: outside the band, minus infinity. -/
def masked (b : ℕ → ℝ) (t x : ℕ) : EReal := if Valid t x then ((b x : ℝ) : EReal) else ⊥

/-- The largest score. -/
def top (a : ℕ → ℝ) (t : Fin 1024) : ℝ := (band t).sup' (band_nonempty t) a

/-- The unnormalised weight of a position. -/
def weight (a : ℕ → ℝ) (t : Fin 1024) (x : ℕ) : ℝ := Real.exp (a x - top a t)

/-- The normaliser. -/
def total (a : ℕ → ℝ) (t : Fin 1024) : ℝ := ∑ x ∈ band t, weight a t x

theorem total_pos (a : ℕ → ℝ) (t : Fin 1024) : 0 < total a t :=
  Finset.sum_pos (fun _ _ => Real.exp_pos _) (band_nonempty t)

/-- The attention output: the weighted mean of the values. -/
def mean (a : ℕ → ℝ) (t : Fin 1024) (w : ℕ → EReal) : EReal :=
  (∑ x ∈ band t, ((weight a t x : ℝ) : EReal) * w x) * ((1 / total a t : ℝ) : EReal)

/-- The logarithm of the sum of the exponentials of the scores. -/
def lse (a : ℕ → ℝ) (t : Fin 1024) : ℝ := Real.log (total a t) + top a t

/-- The run of `n` positions from `o` contains the band. -/
def Covers (t o n : ℕ) : Prop := ∀ x, Valid t x → o ≤ x ∧ x < o + n

theorem sum_run {t o n : ℕ} (h : Covers t o n) (g : ℕ → EReal) (hg : ∀ x, ¬Valid t x → g x = 0) :
    ∑ c : Fin n, g (o + c.val) = ∑ x ∈ band t, g x := by
  rw [Fin.sum_univ_eq_sum_range (fun c => g (o + c)) n]
  have e : ∑ c ∈ Finset.range n, g (o + c) = ∑ x ∈ Finset.Ico o (o + n), g x := by
    rw [Finset.sum_Ico_eq_sum_range, Nat.add_sub_cancel_left]
  rw [e]
  refine (Finset.sum_subset ?_ fun x _ hx => hg x fun hv => hx (mem_band.mpr hv)).symm
  intro x hx
  have := h x (mem_band.mp hx)
  exact Finset.mem_Ico.mpr this

theorem max_run {t : Fin 1024} {o n : ℕ} (h : Covers t o n) (b : ℕ → ℝ) :
    Finset.univ.fold max ⊥ (fun c : Fin n => masked b t (o + c.val))
      = (((band t).sup' (band_nonempty t) b : ℝ) : EReal) := by
  apply le_antisymm
  · refine (Finset.fold_max_le _).mpr ⟨bot_le, fun c _ => ?_⟩
    unfold masked
    split
    · rename_i hv
      exact EReal.coe_le_coe_iff.mpr (Finset.le_sup' b (mem_band.mpr hv))
    · exact bot_le
  · obtain ⟨x, hx, e⟩ := Finset.exists_mem_eq_sup' (band_nonempty t) b
    rw [e]
    have hv := mem_band.mp hx
    have hc := h x hv
    refine (Finset.le_fold_max _).mpr (.inr ⟨⟨x - o, by omega⟩, Finset.mem_univ _, ?_⟩)
    have : o + (x - o) = x := by omega
    simp only [this, masked, if_pos hv, le_refl]

/-! ## Base e -/

theorem max_e {t : Fin 1024} {o n : ℕ} (h : Covers t o n) (a : ℕ → ℝ) :
    Finset.univ.fold max ⊥ (fun c : Fin n => masked a t (o + c.val)) = ((top a t : ℝ) : EReal) := max_run h a

theorem exp_masked (a : ℕ → ℝ) (t : Fin 1024) (x : ℕ) (r : ℝ) :
    Ideal.exp (masked a t x - ((r : ℝ) : EReal)) = if Valid t x then ((Real.exp (a x - r) : ℝ) : EReal) else 0 := by
  unfold masked
  split
  · rw [← EReal.coe_sub, Ideal.exp_coe]
  · rw [EReal.bot_sub, Ideal.exp_bot]

theorem sum_coe {ι : Type} (s : Finset ι) (f : ι → ℝ) : ∑ x ∈ s, ((f x : ℝ) : EReal) = ((∑ x ∈ s, f x : ℝ) : EReal) := by
  induction s using Finset.cons_induction with
  | empty => simp
  | cons x s hx ih => rw [Finset.sum_cons, Finset.sum_cons, ih, EReal.coe_add]

theorem total_e {t : Fin 1024} {o n : ℕ} (h : Covers t o n) (a : ℕ → ℝ) :
    ∑ c : Fin n, Ideal.exp (masked a t (o + c.val) - ((top a t : ℝ) : EReal)) = ((total a t : ℝ) : EReal) := by
  rw [sum_run h (fun x => Ideal.exp (masked a t x - ((top a t : ℝ) : EReal)))
    (fun x hx => by rw [exp_masked, if_neg hx])]
  rw [total, ← sum_coe]
  refine Finset.sum_congr rfl fun x hx => ?_
  rw [exp_masked, if_pos (mem_band.mp hx), weight]

theorem mul_sum_real (r : ℝ) (hr : 0 ≤ r) (s : Finset ℕ) (f : ℕ → EReal) :
    (∑ x ∈ s, f x) * ((r : ℝ) : EReal) = ∑ x ∈ s, f x * ((r : ℝ) : EReal) := by
  induction s using Finset.cons_induction with
  | empty => simp
  | cons x s hx ih =>
    rw [Finset.sum_cons, Finset.sum_cons, ← ih,
      EReal.right_distrib_of_nonneg_of_ne_top (EReal.coe_nonneg.mpr hr) (EReal.coe_ne_top r)]

/-- The weighted sum of the values by normalised weights is the mean. -/
theorem mean_e {t : Fin 1024} {o n : ℕ} (h : Covers t o n) (a : ℕ → ℝ) (w : ℕ → EReal) :
    ∑ c : Fin n, w (o + c.val) * Ideal.exp (masked a t (o + c.val) - ((lse a t : ℝ) : EReal)) = mean a t w := by
  rw [sum_run h (fun x => w x * Ideal.exp (masked a t x - ((lse a t : ℝ) : EReal)))
    (fun x hx => by rw [exp_masked, if_neg hx, mul_zero])]
  rw [mean, mul_sum_real _ (one_div_nonneg.mpr (total_pos a t).le)]
  refine Finset.sum_congr rfl fun x hx => ?_
  rw [exp_masked, if_pos (mem_band.mp hx), weight, lse, mul_comm _ (w x), mul_assoc, ← EReal.coe_mul]
  congr 2
  rw [show a x - (Real.log (total a t) + top a t) = (a x - top a t) + -Real.log (total a t) by ring, Real.exp_add,
    Real.exp_neg, Real.exp_log (total_pos a t), one_div]

/-! ## Base 2: scores scaled by the logarithm of e to the base 2 -/

/-- `log₂ e`. -/
def L : ℝ := (Real.log 2)⁻¹

theorem log_two_pos : 0 < Real.log 2 := Real.log_pos one_lt_two

theorem L_pos : 0 < L := inv_pos.mpr log_two_pos

theorem max_2 {t : Fin 1024} {o n : ℕ} (h : Covers t o n) (a : ℕ → ℝ) :
    Finset.univ.fold max ⊥ (fun c : Fin n => masked (fun x => L * a x) t (o + c.val)) = ((L * top a t : ℝ) : EReal) := by
  rw [max_run h, top]
  congr 1
  exact (Finset.comp_sup'_eq_sup'_comp (band_nonempty t) (fun y => L * y)
    (fun x y => mul_max_of_nonneg x y L_pos.le)).symm

theorem rpow_scaled (y z : ℝ) : Real.rpow 2 (L * y - L * z) = Real.exp (y - z) := by
  show (2 : ℝ) ^ (L * y - L * z) = _
  rw [Real.rpow_def_of_pos two_pos, ← mul_sub, ← mul_assoc, L, mul_inv_cancel₀ log_two_pos.ne', one_mul]

theorem exp2_masked (a : ℕ → ℝ) (t : Fin 1024) (x : ℕ) :
    Ideal.exp2 (masked (fun x => L * a x) t x - ((L * top a t : ℝ) : EReal))
      = if Valid t x then ((weight a t x : ℝ) : EReal) else 0 := by
  unfold masked
  split
  · rw [← EReal.coe_sub, Ideal.exp2_coe, rpow_scaled, weight]
  · rw [EReal.bot_sub, Ideal.exp2_bot]

theorem weighted_2 {t : Fin 1024} {o n : ℕ} (h : Covers t o n) (a : ℕ → ℝ) (w : ℕ → EReal) :
    ∑ c : Fin n, Ideal.exp2 (masked (fun x => L * a x) t (o + c.val) - ((L * top a t : ℝ) : EReal)) * w (o + c.val)
      = ∑ x ∈ band t, ((weight a t x : ℝ) : EReal) * w x := by
  rw [sum_run h (fun x => Ideal.exp2 (masked (fun x => L * a x) t x - ((L * top a t : ℝ) : EReal)) * w x)
    (fun x hx => by rw [exp2_masked, if_neg hx, zero_mul])]
  exact Finset.sum_congr rfl fun x hx => by rw [exp2_masked, if_pos (mem_band.mp hx)]

theorem total_2 {t : Fin 1024} {o n : ℕ} (h : Covers t o n) (a : ℕ → ℝ) :
    ∑ c : Fin n, Ideal.exp2 (masked (fun x => L * a x) t (o + c.val) - ((L * top a t : ℝ) : EReal)) * 1
      = ((total a t : ℝ) : EReal) := by
  rw [weighted_2 h a (fun _ => 1), total, ← sum_coe]
  exact Finset.sum_congr rfl fun x _ => mul_one _

/-- The quotient of the two sums is the mean. -/
theorem mean_2 (a : ℕ → ℝ) (t : Fin 1024) (w : ℕ → EReal) :
    Ideal.div (∑ x ∈ band t, ((weight a t x : ℝ) : EReal) * w x) ((total a t : ℝ) : EReal) = mean a t w := by
  rw [Ideal.div_coe (total_pos a t).ne', mean]

/-- The base-2 logarithm of the sum, brought back to base e. -/
theorem lse_2 (a : ℕ → ℝ) (t : Fin 1024) :
    (((L * top a t : ℝ) : EReal) + Ideal.log ((total a t : ℝ) : EReal) * ((L : ℝ) : EReal)) * ((Real.log 2 : ℝ) : EReal)
      = ((lse a t : ℝ) : EReal) := by
  rw [Ideal.log_coe, if_neg (total_pos a t).not_ge, ← EReal.coe_mul, ← EReal.coe_add, ← EReal.coe_mul, lse, L]
  congr 1
  have := log_two_pos.ne'
  field_simp
  ring

end Cert.Attn

end
-- ==== Proof.Scores.lean ====
/- The attention of one residue class in plain formulas: what a query scores against a key position, and the two
   results in the call's layout. Both programs' results are shown equal to these. -/
module

public import proofs.«01_k».proof.Proof.Softmax

@[expose] public section

noncomputable section

namespace Cert.Attn

/-- What one position of distance costs, by head: four times the head's slope (the dilation is 4). -/
def step : Fin 8 → ℝ :=
  ![1 / 2, 6658043 / 16777216, 10568983 / 33554432, 1 / 4, 3329021 / 16777216, 10568985 / 67108864, 1 / 8, 3329021 / 33554432]

/-- The place in the sequence of position `t` of class `c`. -/
def place (c : Fin 4) (t : Fin 1024) : Fin 4096 := ⟨4 * t.val + c.val, by omega⟩

/-- A sequence at padded position `x` of class `c`: 64 zeros, the class's 1024 rows, 64 zeros. -/
def padAt {α : Type} [Zero α] (k : Fin 4096 → α) (c : Fin 4) (x : ℕ) : α :=
  if h : 64 ≤ x ∧ x < 1088 then k (place c ⟨x - 64, by omega⟩) else 0

variable (q k : Fin 8 → Fin 4096 → Fin 8 → Fin 64 → ℝ) (v : Fin 8 → Fin 4096 → Fin 8 → Fin 64 → EReal)

/-- The score of query `t` against padded position `x`. -/
def score (b : Fin 8) (c : Fin 4) (h : Fin 8) (t : Fin 1024) (x : ℕ) : ℝ :=
  (∑ d : Fin 64, q b (place c t) h d * padAt (fun p => k b p h d) c x) * (1 / 8) - step h * |(x : ℝ) - 64 - t.val|

/-- The attention's output at row `t`, lane `l`: lane `l` is channel `l % 64` of head `l / 64`. -/
def outAt (b : Fin 8) (c : Fin 4) (t : Fin 1024) (l : Fin 512) : EReal :=
  mean (score q k b c ⟨l.val / 64, by omega⟩ t) t (padAt (fun p => v b p ⟨l.val / 64, by omega⟩ ⟨l.val % 64, by omega⟩) c)

/-- The log-sums at row `t`, lane `l`: lane `64 * (h % 2) + h / 2` holds head `h`, the other lanes hold zero. -/
def lseAt (b : Fin 8) (c : Fin 4) (t : Fin 1024) (l : Fin 128) : EReal :=
  if h : l.val % 64 < 4 then ((lse (score q k b c ⟨2 * (l.val % 64) + l.val / 64, by omega⟩ t) t : ℝ) : EReal) else 0

end Cert.Attn

end
-- ==== Proof.Words.lean ====
/- What the 32-bit index arithmetic of both programs comes to. -/
module

public import Idealize.ShloMosaic.PureOps.Ideal
public import proofs.«01_k».proof.Proof.Softmax

@[expose] public section

namespace Cert.Attn

open Idealize.ShloMosaic

theorem toInt_word (x : BitVec 32) (z : ℤ) (h : -(2 ^ 31) ≤ z) (h' : z < 2 ^ 31) (hx : (x.toNat : ℤ) = z % 2 ^ 32) : x.toInt = z := by
  rw [BitVec.toInt_eq_toNat_cond]
  split <;> omega

theorem toInt_absi (x : BitVec 32) (h : -(2 ^ 31) < x.toInt) : (IntOp.absi x).toInt = |x.toInt| := by
  unfold IntOp.absi
  have hm := BitVec.msb_eq_toInt (x := x)
  split
  · next hx =>
    rw [hx] at hm
    have hn : x.toInt < 0 := by simpa using hm.symm
    rw [abs_of_neg hn, BitVec.toInt_neg_of_ne_intMin]
    rintro rfl
    exact absurd h (by decide)
  · next hx =>
    have hn : ¬ x.toInt < 0 := by simp at hx; rw [hx] at hm; simpa using hm.symm
    rw [abs_of_nonneg (not_lt.mp hn)]

theorem sle_word (x y : BitVec 32) : IntOp.cmpi .sle x y = if x.toInt ≤ y.toInt then 1#1 else 0#1 := by
  show BitVec.ofBool (x.sle y) = _
  rw [BitVec.sle_eq_decide]
  by_cases h : x.toInt ≤ y.toInt <;> simp [h]

theorem sge_word (x y : BitVec 32) : IntOp.cmpi .sge x y = if y.toInt ≤ x.toInt then 1#1 else 0#1 := by
  show BitVec.ofBool (y.sle x) = _
  rw [BitVec.sle_eq_decide]
  by_cases h : y.toInt ≤ x.toInt <;> simp [h]

theorem slt_word (x y : BitVec 32) : IntOp.cmpi .slt x y = if x.toInt < y.toInt then 1#1 else 0#1 := by
  show BitVec.ofBool (x.slt y) = _
  rw [BitVec.slt_eq_decide]
  by_cases h : x.toInt < y.toInt <;> simp [h]

theorem and_word (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem select_word {α : Type} (p : Prop) [Decidable p] (a b : α) :
    Scalar.select (if p then 1#1 else 0#1) a b = if p then a else b := by
  by_cases hp : p <;> simp [hp, Scalar.select]

/-- The position of key `w` of window `n`. -/
theorem key_word (n : Fin 16) (w : Fin 192) :
    (IntOp.addi (IntOp.muli (IntOp.subi (BitVec.ofNat 32 n.val) 1#32) 64#32) (BitVec.ofNat 32 w.val)).toInt = 64 * n.val + w.val - 64 := by
  apply toInt_word <;> try omega
  simp only [IntOp.addi, IntOp.muli, IntOp.subi, BitVec.toNat_add, BitVec.toNat_mul, BitVec.toNat_sub, BitVec.toNat_ofNat]
  omega

/-- The position of query `r` of block `n`. -/
theorem query_word (n : Fin 16) (r : Fin 64) :
    (IntOp.addi (IntOp.muli (BitVec.ofNat 32 n.val) 64#32) (BitVec.ofNat 32 r.val)).toInt = 64 * n.val + r.val := by
  apply toInt_word <;> try omega
  simp only [IntOp.addi, IntOp.muli, BitVec.toNat_add, BitVec.toNat_mul, BitVec.toNat_ofNat]
  omega

theorem toInt_sub_word (x y : BitVec 32) (h : |x.toInt| < 2 ^ 30) (h' : |y.toInt| < 2 ^ 30) : (IntOp.subi x y).toInt = x.toInt - y.toInt := by
  rw [abs_lt] at h h'
  show (x - y).toInt = _
  rw [BitVec.toInt_sub, Int.bmod_eq_of_le] <;> omega

theorem toInt_mul_word (x : BitVec 32) (h : |x.toInt| < 2 ^ 20) : (IntOp.muli x 4#32).toInt = 4 * x.toInt := by
  rw [abs_lt] at h
  show (x * 4#32).toInt = _
  rw [BitVec.toInt_mul, show (4#32).toInt = 4 from by decide, mul_comm, Int.bmod_eq_of_le] <;> omega

end Cert.Attn
-- ==== Proof.Block.lean ====
/- One block of the kernel: 128 queries of one residue class against a window of 256 keys, for a pair of heads side by side. What
   the block's payloads hold at an index, and that they are the attention of those queries. -/
module

public import proofs.«01_k».proof.Proof.Pieces
public import proofs.«01_k».proof.Proof.Scores
public import proofs.«01_k».proof.Proof.Words
public import Idealize.ShloMosaic.Lib.Pointwise

@[expose] public section

set_option maxRecDepth 16384

noncomputable section

namespace Cert.Attn

open Idealize.ShloMosaic Idealize.ShloMosaic.TcCoe Idealize.ShloMosaic.Tactic
open Cert.KernelIdeal Cert.KernelIdeal.Gen

/-! ## The constants -/

theorem f32_neg_inf : Ideal.ofBits .f32 0xFF800000#32 = ⊥ := by simp [Ideal.ofBits, Ideal.ieee]

theorem slope_eq (h : Fin 8) : slope (F := Ideal) h.val = ((-(L * step h) : ℝ) : EReal) := by
  match h with
  | 0 => exact (IdealRules.named_const.ideal_named_scalar _ _ _ _ rfl).trans (by simp [step, L])
  | 1 => exact (IdealRules.named_const.ideal_named_scalar _ _ _ _ rfl).trans (by simp [step, L])
  | 2 => exact (IdealRules.named_const.ideal_named_scalar _ _ _ _ rfl).trans (by simp [step, L])
  | 3 => exact (IdealRules.named_const.ideal_named_scalar _ _ _ _ rfl).trans (by simp [step, L])
  | 4 => exact (IdealRules.named_const.ideal_named_scalar _ _ _ _ rfl).trans (by simp [step, L])
  | 5 => exact (IdealRules.named_const.ideal_named_scalar _ _ _ _ rfl).trans (by simp [step, L])
  | 6 => exact (IdealRules.named_const.ideal_named_scalar _ _ _ _ rfl).trans (by simp [step, L])
  | 7 => exact (IdealRules.named_const.ideal_named_scalar _ _ _ _ rfl).trans (by simp [step, L])

theorem mask_eq : (Named.named κ "mask" 0xF149F2CA#32 : Ideal .f32) = ⊥ :=
  IdealRules.named_const.ideal_named_scalar _ _ _ _ rfl

theorem log2e_eq : (Named.named κ "log2e" 0x3FB8AA3B#32 : Ideal .f32) = ((L : ℝ) : EReal) :=
  IdealRules.named_const.ideal_named_scalar _ _ _ _ rfl

theorem ln2_eq : (Named.named κ "ln2" 0x3F317218#32 : Ideal .f32) = ((Real.log 2 : ℝ) : EReal) :=
  IdealRules.named_const.ideal_named_scalar _ _ _ _ rfl

/-! ## The biases -/

/-- How far column `c` is from row `r`, with the sign. -/
def gap (e : ℕ) (r : Fin 128) (c : Fin 256) : ℤ := (c.val : ℤ) - r.val - (128 - 64 * e : ℕ)

/-- The bias of head `h` between row `r` and column `c` of a block with edge `e`. -/
def biasAt (e : ℕ) (h : Fin 8) (r : Fin 128) (c : Fin 256) : EReal :=
  if |gap e r c| ≤ 64 then ((-(L * step h) * ((|gap e r c| : ℤ) : ℝ) : ℝ) : EReal) else ⊥

theorem toInt_ofNat (n : ℕ) (h : n < 1024) : (BitVec.ofNat 32 n).toInt = n := by
  apply toInt_word
  · omega
  · omega
  · rw [BitVec.toNat_ofNat]; omega

theorem dist_apply (e : ℕ) (r : Fin 128) (c : Fin 256) : (dist e (ix2 r c)).toInt = |gap e r c| := by
  pointwise [dist]
  have hc := toInt_ofNat c.val (by omega)
  have hr := toInt_ofNat r.val (by omega)
  have he := toInt_ofNat (128 - 64 * e) (by omega)
  have h1 : (IntOp.subi (BitVec.ofNat 32 c.val) (BitVec.ofNat 32 r.val)).toInt = c.val - r.val := by
    rw [toInt_sub_word _ _ (by rw [hc, abs_lt]; omega) (by rw [hr, abs_lt]; omega), hc, hr]
  have h2 : (IntOp.subi (IntOp.subi (BitVec.ofNat 32 c.val) (BitVec.ofNat 32 r.val)) (BitVec.ofNat 32 (128 - 64 * e))).toInt = gap e r c := by
    rw [toInt_sub_word _ _ (by rw [h1, abs_lt]; omega) (by rw [he, abs_lt]; omega), h1, he, gap]
  rw [toInt_absi _ (by rw [h2, gap]; omega), h2]

theorem biasBlock_apply (e : ℕ) (h : Fin 8) (r : Fin 128) (c : Fin 256) :
    biasBlock (F := Ideal) e h.val (ix4 0 0 r c) = biasAt e h r c := by
  pointwise [biasBlock]
  rw [sle_word, dist_apply, select_word, slope_eq, mask_eq, biasAt]
  show (if |gap e r c| ≤ (64#32).toInt then _ * ((((dist e (ix2 r c)).toInt : ℝ)) : EReal) else _) = _
  rw [dist_apply, show (64#32).toInt = 64 from by decide, ← EReal.coe_mul]

/-! ## The payloads at an index -/

section Payloads

variable (m : IVec S1x128 1) (q : Vec Ideal S1x1x128x128 .bf16) (k : Vec Ideal S1x1x256x128 .bf16) (v : Vec Ideal S1x1x256x128 .bf16)
  (b : Vec Ideal S1x1x256x256 .f32) (q' : FVec Ideal S128x128 .bf16) (k' : FVec Ideal S256x128 .bf16)

theorem lower_apply (l : Fin 128) : k0_pay40 (ix2 0 l) = if l.val < 64 then 1#1 else 0#1 := by
  pointwise [k0_pay40]
  rw [slt_word, toInt_ofNat _ (by omega), show (64#32).toInt = 64 from by decide]
  simp only [Nat.cast_lt_ofNat]

theorem pay44_apply (r c : Fin 256) : k0_pay44 m (k0_pay42 q) (k0_pay43 k) b (ix2 r c)
    = (∑ l : Fin 128, (if h : r.val < 128 then Scalar.select (m (ix2 0 l)) (q (ix4 0 0 ⟨r.val, h⟩ l)) 0
        else Scalar.select (m (ix2 0 l)) 0 (q (ix4 0 0 ⟨r.val - 128, by omega⟩ l))) * k (ix4 0 0 c l)) + b (ix4 0 0 r c) := by
  pointwise [k0_pay44, k0_pay42, k0_pay43]

theorem pay45_apply (r : Fin 256) :
    k0_pay45 m q' k' b (ix2 r 0) = Finset.univ.fold max ⊥ (fun c : Fin 256 => k0_pay44 m q' k' b (ix2 r c)) := by
  pointwise [k0_pay45]
  rw [f32_neg_inf]

theorem pay46_apply (r x : Fin 256) : k0_pay46 m q' k' v b (ix2 r x)
    = ∑ c : Fin 256, Ideal.exp2 (k0_pay44 m q' k' b (ix2 r c) - k0_pay45 m q' k' b (ix2 r 0))
        * (if h : x.val < 128 then v (ix4 0 0 c ⟨x.val, h⟩) else 1) := by
  pointwise [k0_pay46]
  rfl

theorem pay47_apply (r l : Fin 128) : k0_pay47 m q' k' v b (ix2 r l)
    = Scalar.select (m (ix2 0 l)) (k0_pay46 m q' k' v b (ix2 ⟨r.val, by omega⟩ ⟨128 + l.val, by omega⟩))
        (k0_pay46 m q' k' v b (ix2 ⟨128 + r.val, by omega⟩ ⟨128 + l.val, by omega⟩)) := by
  pointwise [k0_pay47]

theorem pay48_apply (r l : Fin 128) : k0_pay48 m q' k' b (ix2 r l)
    = Scalar.select (m (ix2 0 l)) (k0_pay45 m q' k' b (ix2 ⟨r.val, by omega⟩ 0)) (k0_pay45 m q' k' b (ix2 ⟨128 + r.val, by omega⟩ 0)) := by
  pointwise [k0_pay48]

theorem pay49_apply (r l : Fin 128) : k0_pay49 m q' k' v b (ix4 0 0 r l)
    = Ideal.div (Scalar.select (m (ix2 0 l)) (k0_pay46 m q' k' v b (ix2 ⟨r.val, by omega⟩ ⟨l.val, by omega⟩))
        (k0_pay46 m q' k' v b (ix2 ⟨128 + r.val, by omega⟩ ⟨l.val, by omega⟩))) (k0_pay47 m q' k' v b (ix2 r l)) := by
  pointwise [k0_pay49]

theorem pay1_apply (x : FVec Ideal S128x128 .f32) (r l : Fin 128) : k0_pay1 x (ix4 0 0 r l) = x (ix2 r l) := by
  pointwise [k0_pay1]

/-- A choice by the lane's half, of the rows of the two heads. -/
theorem half {α : Type} (r l : Fin 128) (f : Fin 256 → α) :
    Scalar.select (k0_pay40 (ix2 0 l)) (f ⟨r.val, by omega⟩) (f ⟨128 + r.val, by omega⟩) = f ⟨128 * (l.val / 64) + r.val, by omega⟩ := by
  rw [lower_apply, select_word]
  split
  · exact congrArg f (Fin.ext (by simp only []; omega))
  · exact congrArg f (Fin.ext (by simp only []; omega))

theorem den_apply (r l : Fin 128) : k0_pay47 k0_pay40 q' k' v b (ix2 r l)
    = ∑ c : Fin 256, Ideal.exp2 (k0_pay44 k0_pay40 q' k' b (ix2 ⟨128 * (l.val / 64) + r.val, by omega⟩ c)
        - k0_pay45 k0_pay40 q' k' b (ix2 ⟨128 * (l.val / 64) + r.val, by omega⟩ 0)) * 1 := by
  rw [pay47_apply, half r l (fun y => k0_pay46 k0_pay40 q' k' v b (ix2 y ⟨128 + l.val, by omega⟩)), pay46_apply]
  refine Finset.sum_congr rfl fun c _ => ?_
  rw [dif_neg (by simp)]

theorem m2_apply (r l : Fin 128) : k0_pay48 k0_pay40 q' k' b (ix2 r l)
    = k0_pay45 k0_pay40 q' k' b (ix2 ⟨128 * (l.val / 64) + r.val, by omega⟩ 0) := by
  rw [pay48_apply, half r l (fun y => k0_pay45 k0_pay40 q' k' b (ix2 y 0))]

theorem quot_apply (r l : Fin 128) : k0_pay49 k0_pay40 q' k' v b (ix4 0 0 r l)
    = Ideal.div (∑ c : Fin 256, Ideal.exp2 (k0_pay44 k0_pay40 q' k' b (ix2 ⟨128 * (l.val / 64) + r.val, by omega⟩ c)
        - k0_pay45 k0_pay40 q' k' b (ix2 ⟨128 * (l.val / 64) + r.val, by omega⟩ 0)) * v (ix4 0 0 c l)) (k0_pay47 k0_pay40 q' k' v b (ix2 r l)) := by
  rw [pay49_apply, half r l (fun y => k0_pay46 k0_pay40 q' k' v b (ix2 y ⟨l.val, by omega⟩)), pay46_apply]
  congr 1
  refine Finset.sum_congr rfl fun c _ => ?_
  rw [dif_pos l.isLt]

/-- A sum over the 64 lanes of one half. -/
theorem sum_half (a : Fin 2) (f : Fin 128 → EReal) :
    ∑ l : Fin 128, (if l.val / 64 = a.val then f l else 0) = ∑ d : Fin 64, f ⟨64 * a.val + d.val, by omega⟩ := by
  refine (Fin.sum_univ_add (a := 64) (b := 64) (fun l : Fin (64 + 64) => if l.val / 64 = a.val then f l else 0)).trans ?_
  have ha : a.val = 0 ∨ a.val = 1 := by omega
  rcases ha with ha | ha
  · rw [Finset.sum_eq_zero (f := fun d : Fin 64 => if (Fin.natAdd 64 d).val / 64 = a.val then f (Fin.natAdd 64 d) else 0)
      (fun d _ => if_neg (by rw [Fin.val_natAdd]; omega)), add_zero]
    refine Finset.sum_congr rfl fun d _ => ?_
    rw [if_pos (by rw [Fin.val_castAdd]; omega)]
    exact congrArg f (Fin.ext (by rw [Fin.val_castAdd]; simp only []; omega))
  · rw [Finset.sum_eq_zero (f := fun d : Fin 64 => if (Fin.castAdd 64 d).val / 64 = a.val then f (Fin.castAdd 64 d) else 0)
      (fun d _ => if_neg (by rw [Fin.val_castAdd]; omega)), zero_add]
    refine Finset.sum_congr rfl fun d _ => ?_
    rw [if_pos (by rw [Fin.val_natAdd]; omega)]
    exact congrArg f (Fin.ext (by rw [Fin.val_natAdd]; simp only []; omega))

/-- One product of a row with a key, by the head's own 64 lanes. -/
theorem dot_apply (a : Fin 2) (r : Fin 128) (c : Fin 256) :
    k0_pay44 k0_pay40 (k0_pay42 q) (k0_pay43 k) b (ix2 ⟨128 * a.val + r.val, by omega⟩ c)
      = (∑ d : Fin 64, q (ix4 0 0 r ⟨64 * a.val + d.val, by omega⟩) * k (ix4 0 0 c ⟨64 * a.val + d.val, by omega⟩))
        + b (ix4 0 0 ⟨128 * a.val + r.val, by omega⟩ c) := by
  rw [pay44_apply, ← sum_half a (fun l => q (ix4 0 0 r l) * k (ix4 0 0 c l))]
  congr 1
  refine Finset.sum_congr rfl fun l _ => ?_
  rw [lower_apply]
  have ha : a.val = 0 ∨ a.val = 1 := by omega
  rcases ha with ha | ha
  · rw [dif_pos (show 128 * a.val + r.val < 128 by omega), select_word, show (⟨128 * a.val + r.val, by omega⟩ : Fin 128) = r from Fin.ext (by simp only []; omega)]
    by_cases hl : l.val < 64
    · rw [if_pos hl, if_pos (by omega)]
    · rw [if_neg hl, if_neg (by omega), zero_mul]
  · rw [dif_neg (show ¬128 * a.val + r.val < 128 by omega), select_word, show (⟨128 * a.val + r.val - 128, by omega⟩ : Fin 128) = r from Fin.ext (by simp only []; omega)]
    by_cases hl : l.val < 64
    · rw [if_pos hl, if_neg (by omega), zero_mul]
    · rw [if_neg hl, if_pos (by omega)]

end Payloads

/-! ## The block's attention -/

/-- Where the window of sub-block `j` starts, and which edge it touches. -/
def start (j : ℕ) : ℕ := min (128 * j - 64) 768

def edge (j : ℕ) : ℕ := if j = 0 then 2 else if j = 7 then 0 else 1

theorem start_le (j : ℕ) : start j ≤ 768 := Nat.min_le_right _ _

theorem edge_le (j : ℕ) : edge j ≤ 2 := by unfold edge; split <;> [skip; split] <;> omega

theorem start_edge (j : ℕ) (hj : j < 8) : (start j : ℤ) = 128 * j - (128 - 64 * edge j : ℕ) := by
  unfold start edge
  split
  · omega
  · split <;> omega

section Attention

variable (Q K : Fin 8 → Fin 4096 → Fin 8 → Fin 64 → ℝ) (V : Fin 8 → Fin 4096 → Fin 8 → Fin 64 → EReal)
variable (n : Fin 8) (cls : Fin 4) (j : Fin 8) (p : Fin 4)
variable (q : Vec Ideal S1x1x128x128 .bf16) (k : Vec Ideal S1x1x256x128 .bf16) (v : Vec Ideal S1x1x256x128 .bf16)
  (b : Vec Ideal S1x1x256x256 .f32)

/-- The query row `r` of sub-block `j`. -/
def rowOf (j : Fin 8) (r : Fin 128) : Fin 1024 := ⟨128 * j.val + r.val, by omega⟩

/-- The key row `x` of the window of sub-block `j`. -/
def colOf (j : Fin 8) (x : Fin 256) : Fin 1024 := ⟨start j.val + x.val, by have := start_le j.val; omega⟩

/-- The head of half `a` of pair `p`. -/
def headOf (p : Fin 4) (a : Fin 2) : Fin 8 := ⟨2 * p.val + a.val, by omega⟩

/-- The half of a lane. -/
def halfOf (l : Fin 128) : Fin 2 := ⟨l.val / 64, by omega⟩

/-- The channel of a lane. -/
def chanOf (l : Fin 128) : Fin 64 := ⟨l.val % 64, by omega⟩

/-- What a block has loaded. -/
structure Loaded : Prop where
  q_eq : ∀ r l, q (ix4 0 0 r l) = ((L * (Q n (place cls (rowOf j r)) (headOf p (halfOf l)) (chanOf l) * (1 / 8)) : ℝ) : EReal)
  k_eq : ∀ x l, k (ix4 0 0 x l) = ((K n (place cls (colOf j x)) (headOf p (halfOf l)) (chanOf l) : ℝ) : EReal)
  v_eq : ∀ x l, v (ix4 0 0 x l) = V n (place cls (colOf j x)) (headOf p (halfOf l)) (chanOf l)
  b_eq : ∀ (a : Fin 2) (r : Fin 128) x, b (ix4 0 0 ⟨128 * a.val + r.val, by omega⟩ x) = biasAt (edge j.val) (headOf p a) r x

variable {Q K V n cls j p q k v b}

theorem covers (r : Fin 128) : Covers (rowOf j r) (start j.val + 64) 256 := by
  intro x hx
  unfold Valid rowOf at hx
  simp only [] at hx
  unfold start
  omega

theorem padAt_col {α : Type} [Zero α] (f : Fin 4096 → α) (x : Fin 256) : padAt f cls (start j.val + 64 + x.val) = f (place cls (colOf j x)) := by
  have := start_le j.val
  rw [padAt, dif_pos (by omega)]
  exact congrArg (fun z => f (place cls z)) (Fin.ext (by simp only [colOf]; omega))

/-- A row's scores: the attention's, in powers of two. -/
theorem scores_block (H : Loaded Q K V n cls j p q k v b) (a : Fin 2) (r : Fin 128) (x : Fin 256) :
    k0_pay44 k0_pay40 (k0_pay42 q) (k0_pay43 k) b (ix2 ⟨128 * a.val + r.val, by omega⟩ x)
      = masked (fun y => L * score Q K n cls (headOf p a) (rowOf j r) y) (rowOf j r) (start j.val + 64 + x.val) := by
  have hs := start_le j.val
  have hse := start_edge j.val j.isLt
  have hd : ∀ d : Fin 64, halfOf ⟨64 * a.val + d.val, by omega⟩ = a ∧ chanOf ⟨64 * a.val + d.val, by omega⟩ = d := fun d =>
    ⟨Fin.ext (by simp only [halfOf]; omega), Fin.ext (by simp only [chanOf]; omega)⟩
  rw [dot_apply, H.b_eq, biasAt, masked]
  have hg : gap (edge j.val) r x = ((start j.val + 64 + x.val : ℕ) : ℤ) - 64 - (rowOf j r).val := by
    rw [gap, rowOf]; push_cast; omega
  have hv : |gap (edge j.val) r x| ≤ 64 ↔ Valid (rowOf j r).val (start j.val + 64 + x.val) := by
    rw [hg, abs_le]; unfold Valid; omega
  by_cases h : |gap (edge j.val) r x| ≤ 64
  · rw [if_pos h, if_pos (hv.mp h), score]
    simp only [H.q_eq, H.k_eq, (hd _).1, (hd _).2, ← EReal.coe_mul, padAt_col]
    rw [sum_coe, ← EReal.coe_add, hg]
    congr 1
    push_cast
    rw [mul_sub, Finset.sum_mul, Finset.mul_sum]
    rw [show ∀ s u w : ℝ, s + -(L * u) * w = s - L * (u * w) from fun s u w => by ring]
    congr 1
    exact Finset.sum_congr rfl fun d _ => by ring
  · rw [if_neg h, if_neg (fun h' => h (hv.mpr h')), EReal.add_bot]

theorem head_lane (r l : Fin 128) : (⟨128 * (l.val / 64) + r.val, by omega⟩ : Fin 256) = ⟨128 * (halfOf l).val + r.val, by have := (halfOf l).isLt; omega⟩ := rfl

theorem max_block (H : Loaded Q K V n cls j p q k v b) (r l : Fin 128) :
    k0_pay45 k0_pay40 (k0_pay42 q) (k0_pay43 k) b (ix2 ⟨128 * (l.val / 64) + r.val, by omega⟩ 0)
      = ((L * top (score Q K n cls (headOf p (halfOf l)) (rowOf j r)) (rowOf j r) : ℝ) : EReal) := by
  rw [pay45_apply, head_lane]
  simp only [scores_block H]
  exact max_2 (covers r) _

theorem den_block (H : Loaded Q K V n cls j p q k v b) (r l : Fin 128) :
    k0_pay47 k0_pay40 (k0_pay42 q) (k0_pay43 k) v b (ix2 r l)
      = ((total (score Q K n cls (headOf p (halfOf l)) (rowOf j r)) (rowOf j r) : ℝ) : EReal) := by
  rw [den_apply, max_block H, head_lane]
  simp only [scores_block H]
  exact total_2 (covers r) _

theorem m2_block (H : Loaded Q K V n cls j p q k v b) (r l : Fin 128) :
    k0_pay48 k0_pay40 (k0_pay42 q) (k0_pay43 k) b (ix2 r l)
      = ((L * top (score Q K n cls (headOf p (halfOf l)) (rowOf j r)) (rowOf j r) : ℝ) : EReal) := by
  rw [m2_apply, max_block H]

/-- The block's outputs are the attention's. -/
theorem out_block (H : Loaded Q K V n cls j p q k v b) (r l : Fin 128) :
    k0_pay49 k0_pay40 (k0_pay42 q) (k0_pay43 k) v b (ix4 0 0 r l)
      = mean (score Q K n cls (headOf p (halfOf l)) (rowOf j r)) (rowOf j r) (padAt (fun y => V n y (headOf p (halfOf l)) (chanOf l)) cls) := by
  rw [quot_apply, den_block H, max_block H, head_lane, ← mean_2]
  congr 1
  simp only [scores_block H, H.v_eq]
  rw [← weighted_2 (covers r)]
  refine Finset.sum_congr rfl fun x _ => ?_
  rw [padAt_col (j := j)]

/-- One pair's log-sums put into their two lanes. -/
theorem lse_block (H : Loaded Q K V n cls j p q k v b) (acc : FVec Ideal S128x128 .f32) (r l : Fin 128) :
    lseStep p.val acc (k0_pay47 k0_pay40 (k0_pay42 q) (k0_pay43 k) v b) (k0_pay48 k0_pay40 (k0_pay42 q) (k0_pay43 k) b) (ix2 r l)
      = if l.val % 64 = p.val then ((lse (score Q K n cls (headOf p (halfOf l)) (rowOf j r)) (rowOf j r) : ℝ) : EReal) else acc (ix2 r l) := by
  have e : ∀ m, m < 128 → IntOp.cmpi .eq (BitVec.ofNat 32 l.val) (BitVec.ofNat 32 m) = if l.val = m then 1#1 else 0#1 := fun m hm => by
    show BitVec.ofBool (BitVec.ofNat 32 l.val == BitVec.ofNat 32 m) = _
    by_cases h : l.val = m
    · rw [if_pos h, h]; simp
    · rw [if_neg h, beq_eq_false_iff_ne.mpr fun h' => h ?_]
      · rfl
      · have := congrArg BitVec.toNat h'
        simp only [BitVec.toNat_ofNat] at this
        omega
  have o : IntOp.ori (if l.val = p.val then 1#1 else 0#1) (if l.val = 64 + p.val then 1#1 else 0#1) = if l.val % 64 = p.val then 1#1 else 0#1 := by
    by_cases h : l.val = p.val
    · rw [if_pos h, if_neg (by omega), if_pos (by omega)]; rfl
    · by_cases h' : l.val = 64 + p.val
      · rw [if_neg h, if_pos h', if_pos (by omega)]; rfl
      · rw [if_neg h, if_neg h', if_neg (by omega)]; rfl
  pointwise [lseStep]
  rw [e _ (by omega), e _ (by omega), o, select_word, den_block H, m2_block H, log2e_eq, ln2_eq, lse_2]

end Attention

end Cert.Attn

end
-- ==== Proof.Contents.lean ====
/- What the kernel's body leaves in its two output buffers and in its scratch, given what its three input buffers hold: the attention
   and its log-sums, and the biases. -/
module

public import proofs.«01_k».proof.Proof.Block

@[expose] public section

set_option maxRecDepth 16384

noncomputable section

namespace Cert.Attn

open Idealize.ShloMosaic Idealize.ShloMosaic.TcCoe Idealize.ShloMosaic.Tactic
open Cert.KernelIdeal Cert.KernelIdeal.Gen

/-! ## The offsets -/

theorem window_word (w : ℕ) (hw : w = 0) : ∀ j : Fin 8,
    (Scalar.indexCast (Scalar.minsi 768#32 (Scalar.maxsi 0#32 (Scalar.subi (Scalar.muli (Scalar.addi (Scalar.muli (BitVec.ofNat 32 w) 8#32) (BitVec.ofNat 32 j.val)) 128#32) 64#32)))).toNat
      = start j.val := by
  subst hw; decide

theorem edge_word (w : ℕ) (hw : w = 0) : ∀ j : Fin 8,
    (Scalar.indexCast (Scalar.select (Scalar.cmpi .eq (Scalar.addi (Scalar.muli (BitVec.ofNat 32 w) 8#32) (BitVec.ofNat 32 j.val)) 0#32) 2#32
      (Scalar.select (Scalar.cmpi .eq (Scalar.addi (Scalar.muli (BitVec.ofNat 32 w) 8#32) (BitVec.ofNat 32 j.val)) 7#32) 0#32 1#32))).toNat
      = edge j.val := by
  subst hw; decide

theorem koff_eq (n : ℕ) (i : grid0.Coords) (hi : (i 2).val = 0) (j : Fin 8) :
    koff n i (BitVec.ofNat 32 j.val) = ![0, n / 32 % 4, start j.val, 128 * (n % 4)] := by
  have ha : n / 32 % 4 = 0 ∨ n / 32 % 4 = 1 ∨ n / 32 % 4 = 2 ∨ n / 32 % 4 = 3 := by omega
  have hb : n % 4 = 0 ∨ n % 4 = 1 ∨ n % 4 = 2 ∨ n % 4 = 3 := by omega
  rw [← window_word (i 2).val hi j]
  rcases ha with ha | ha | ha | ha <;> rcases hb with hb | hb | hb | hb <;> unfold koff <;> simp only [ha, hb] <;> rfl

theorem boff_eq (n : ℕ) (i : grid0.Coords) (hi : (i 2).val = 0) (j : Fin 8) :
    boff n i (BitVec.ofNat 32 j.val) = ![edge j.val, n % 4, 0, 0] := by
  have hb : n % 4 = 0 ∨ n % 4 = 1 ∨ n % 4 = 2 ∨ n % 4 = 3 := by omega
  rw [← edge_word (i 2).val hi j]
  rcases hb with hb | hb | hb | hb <;> unfold boff <;> simp only [hb] <;> rfl

/-! ## The scratch -/

/-- The biases by edge, pair, row of the pair's two heads, column. -/
def biases : Vec Ideal S3x4x256x256 .f32 := fun i =>
  biasAt (i 0).val ⟨2 * (i 1).val + (i 2).val / 128, by have h1 : (i 1).val < 4 := (i 1).isLt; have h2 : (i 2).val < 256 := (i 2).isLt; omega⟩
    ⟨(i 2).val % 128, by omega⟩ (i 3)

theorem biases_apply (e : Fin 3) (p : Fin 4) (a : Fin 2) (r : Fin 128) (x : Fin 256) :
    biases (ix4 e p ⟨128 * a.val + r.val, by omega⟩ x) = biasAt e.val (headOf p a) r x := by
  show biasAt e.val ⟨2 * p.val + (128 * a.val + r.val) / 128, _⟩ ⟨(128 * a.val + r.val) % 128, _⟩ x = _
  congr 1
  · exact Fin.ext (by simp only [headOf]; omega)
  · exact Fin.ext (by simp only []; omega)

theorem biasPiece_eq (n : ℕ) (hn : n < 24) (x : (biasPiece (F := Ideal) n).1.shape.Idx) :
    (biasPiece (F := Ideal) n).2 x = biases ((biasPiece (F := Ideal) n).1.emb x) := by
  obtain ⟨r, c, rfl⟩ : ∃ (r : Fin 128) (c : Fin 256), x = ix4 0 0 r c :=
    ⟨x 2, x 3, by funext a; match a with | 0 => exact Subsingleton.elim (α := Fin 1) _ _ | 1 => exact Subsingleton.elim (α := Fin 1) _ _ | 2 => rfl | 3 => rfl⟩
  have e : (biasPiece (F := Ideal) n).1.emb (ix4 0 0 r c)
      = ix4 ⟨n / 8 % 3, by omega⟩ ⟨n / 2 % 4, by omega⟩ ⟨128 * (⟨n % 2, by omega⟩ : Fin 2).val + r.val, by simp only []; omega⟩ c := by
    funext a
    match a with
    | 0 => exact Fin.ext (by show n / 8 % 3 + 1 * 0 = n / 8 % 3; omega)
    | 1 => exact Fin.ext (by show n / 2 % 4 + 1 * 0 = n / 2 % 4; omega)
    | 2 => exact Fin.ext (by show 128 * (n % 2) + 1 * r.val = 128 * (n % 2) + r.val; omega)
    | 3 => exact Fin.ext (by show 0 + 1 * c.val = c.val; omega)
  rw [e, biases_apply]
  show biasBlock (n / 8) (⟨n % 8, by omega⟩ : Fin 8).val (ix4 0 0 r c) = _
  rw [biasBlock_apply]
  congr 1
  · show n / 8 = n / 8 % 3; omega
  · exact Fin.ext (by simp only [headOf]; omega)

theorem bias_pieces : ∀ p ∈ (down 24).map (biasPiece (F := Ideal)), ∀ x : p.1.shape.Idx, p.2 x = biases (p.1.emb x) := by
  intro p hp
  obtain ⟨n, hn, rfl⟩ := List.mem_map.1 hp
  exact biasPiece_eq n (mem_down hn)

section Body

variable (Q K : Fin 8 → Fin 4096 → Fin 8 → Fin 64 → ℝ) (V : Fin 8 → Fin 4096 → Fin 8 → Fin 64 → EReal) (b : Fin 8)

/-- One batch entry's outputs. -/
def outBlock : Vec Ideal S1x4x1024x512 .bf16 := fun i => outAt Q K V b (i 1) (i 2) (i 3)

/-- One batch entry's log-sums. -/
def lseBlock : Vec Ideal S1x4x1024x128 .f32 := fun i => lseAt Q K b (i 1) (i 2) (i 3)

/-- What the input buffers hold for batch entry `b`. -/
structure Inputs (x0 x1 x2 : Vec Ideal S1x4x1024x512 .bf16) : Prop where
  q_eq : ∀ (c : Fin 4) (t : Fin 1024) (l : Fin 512), x0 (ix4 0 c t l) = ((L * (Q b (place c t) ⟨l.val / 64, by omega⟩ ⟨l.val % 64, by omega⟩ * (1 / 8)) : ℝ) : EReal)
  k_eq : ∀ (c : Fin 4) (t : Fin 1024) (l : Fin 512), x1 (ix4 0 c t l) = ((K b (place c t) ⟨l.val / 64, by omega⟩ ⟨l.val % 64, by omega⟩ : ℝ) : EReal)
  v_eq : ∀ (c : Fin 4) (t : Fin 1024) (l : Fin 512), x2 (ix4 0 c t l) = V b (place c t) ⟨l.val / 64, by omega⟩ ⟨l.val % 64, by omega⟩

variable {Q K V b}
variable (i : grid0.Coords) (arg3 : Memref sig .tc .vmem S1x4x1024x512 .bf16) (harg3 : arg3.IsWhole)
  (arg4 : Memref sig .tc .vmem S1x4x1024x512 .bf16) (harg4 : arg4.IsWhole) (arg5 : Memref sig .tc .vmem S1x4x1024x512 .bf16) (harg5 : arg5.IsWhole)
  (arg8 : Memref sig .tc .vmem S3x4x256x256 .f32) (f8 : arg8.view.ty.Contents (Elt Ideal))
  (x0 : Vec Ideal S1x4x1024x512 .bf16) (x1 : Vec Ideal S1x4x1024x512 .bf16) (x2 : Vec Ideal S1x4x1024x512 .bf16)

theorem qLoad_apply (n : ℕ) (r l : Fin 128) :
    qLoad arg3 (harg3.unread x0) n (ix4 0 0 r l)
      = x0 (ix4 0 ⟨n / 32 % 4, by omega⟩ (rowOf ⟨n / 4 % 8, by omega⟩ r) ⟨128 * (n % 4) + l.val, by omega⟩) := by
  refine (congrFun (harg3.read_unread x0) _).trans (congrArg x0 ?_)
  funext a
  match a with
  | 0 => rfl
  | 1 => exact Fin.ext (by show n / 32 % 4 + 1 * 0 = n / 32 % 4; omega)
  | 2 => exact Fin.ext (by show 128 * (n / 4 % 8) + 1 * r.val = 128 * (n / 4 % 8) + r.val; omega)
  | 3 => exact Fin.ext (by show 128 * (n % 4) + 1 * l.val = 128 * (n % 4) + l.val; omega)

theorem kLoad_apply (hi : (i 2).val = 0) (n : ℕ) (x : Fin 256) (l : Fin 128) :
    kLoad i arg4 (harg4.unread x1) n (ix4 0 0 x l)
      = x1 (ix4 0 ⟨n / 32 % 4, by omega⟩ (colOf ⟨n / 4 % 8, by omega⟩ x) ⟨128 * (n % 4) + l.val, by omega⟩) := by
  refine (congrFun (harg4.read_unread x1) _).trans (congrArg x1 ?_)
  have hk := koff_eq n i hi ⟨n / 4 % 8, by omega⟩
  funext a
  match a with
  | 0 => exact Subsingleton.elim (α := Fin 1) _ _
  | 1 => exact Fin.ext (by show koff n i (BitVec.ofNat 32 (n / 4 % 8)) 1 + 1 * 0 = n / 32 % 4; rw [hk]; rfl)
  | 2 => exact Fin.ext (by show koff n i (BitVec.ofNat 32 (n / 4 % 8)) 2 + 1 * x.val = start (n / 4 % 8) + x.val; rw [hk, one_mul]; rfl)
  | 3 => exact Fin.ext (by show koff n i (BitVec.ofNat 32 (n / 4 % 8)) 3 + 1 * l.val = 128 * (n % 4) + l.val; rw [hk, one_mul]; rfl)

theorem bLoad_apply (hi : (i 2).val = 0) (h8 : arg8.view.read (Elt Ideal) f8 = biases) (n : ℕ) (y x : Fin 256) :
    bLoad i arg8 f8 n (ix4 0 0 y x) = biases (ix4 ⟨edge (n / 4 % 8), by have := edge_le (n / 4 % 8); omega⟩ ⟨n % 4, by omega⟩ y x) := by
  refine (congrFun h8 _).trans (congrArg biases ?_)
  have hk := boff_eq n i hi ⟨n / 4 % 8, by omega⟩
  funext a
  match a with
  | 0 => exact Fin.ext (by show boff n i (BitVec.ofNat 32 (n / 4 % 8)) 0 + 1 * 0 = edge (n / 4 % 8); rw [hk]; rfl)
  | 1 => exact Fin.ext (by show boff n i (BitVec.ofNat 32 (n / 4 % 8)) 1 + 1 * 0 = n % 4; rw [hk]; rfl)
  | 2 => exact Fin.ext (by show boff n i (BitVec.ofNat 32 (n / 4 % 8)) 2 + 1 * y.val = y.val; rw [hk, one_mul]; exact Nat.zero_add _)
  | 3 => exact Fin.ext (by show boff n i (BitVec.ofNat 32 (n / 4 % 8)) 3 + 1 * x.val = x.val; rw [hk, one_mul]; exact Nat.zero_add _)

variable {i x0 x1 x2}

/-- What block `n` has loaded. -/
theorem loaded (hx : Inputs Q K V b x0 x1 x2) (hi : (i 2).val = 0) (h8 : arg8.view.read (Elt Ideal) f8 = biases) (n : ℕ)
    (c : Fin 4) (j : Fin 8) (p : Fin 4) (hc : n / 32 % 4 = c.val) (hj : n / 4 % 8 = j.val) (hp : n % 4 = p.val) :
    Loaded Q K V b c j p (qLoad arg3 (harg3.unread x0) n) (kLoad i arg4 (harg4.unread x1) n) (kLoad i arg5 (harg5.unread x2) n) (bLoad i arg8 f8 n) := by
  rw [show c = ⟨n / 32 % 4, by omega⟩ from Fin.ext hc.symm, show j = ⟨n / 4 % 8, by omega⟩ from Fin.ext hj.symm, show p = ⟨n % 4, by omega⟩ from Fin.ext hp.symm]
  have lane : ∀ l : Fin 128, (⟨(128 * (n % 4) + l.val) / 64, by omega⟩ : Fin 8) = headOf ⟨n % 4, by omega⟩ (halfOf l) := fun l =>
    Fin.ext (by simp only [headOf, halfOf]; omega)
  have chan : ∀ l : Fin 128, (⟨(128 * (n % 4) + l.val) % 64, by omega⟩ : Fin 64) = chanOf l := fun l => Fin.ext (by simp only [chanOf]; omega)
  constructor
  · intro r l
    rw [qLoad_apply, hx.q_eq, lane, chan]
  · intro x l
    rw [kLoad_apply _ _ _ _ hi, hx.k_eq, lane, chan]
  · intro x l
    rw [kLoad_apply _ _ _ _ hi, hx.v_eq, lane, chan]
  · intro a r x
    rw [bLoad_apply _ _ _ hi h8, biases_apply]

theorem outPiece_eq (hx : Inputs Q K V b x0 x1 x2) (hi : (i 2).val = 0) (h8 : arg8.view.read (Elt Ideal) f8 = biases) (n : ℕ)
    (y : (outPiece i arg3 (harg3.unread x0) arg4 (harg4.unread x1) arg5 (harg5.unread x2) arg8 f8 n).1.shape.Idx) :
    (outPiece i arg3 (harg3.unread x0) arg4 (harg4.unread x1) arg5 (harg5.unread x2) arg8 f8 n).2 y
      = outBlock Q K V b ((outPiece i arg3 (harg3.unread x0) arg4 (harg4.unread x1) arg5 (harg5.unread x2) arg8 f8 n).1.emb y) := by
  obtain ⟨r, l, rfl⟩ : ∃ (r : Fin 128) (l : Fin 128), y = ix4 0 0 r l :=
    ⟨y 2, y 3, by funext a; match a with | 0 => exact Subsingleton.elim (α := Fin 1) _ _ | 1 => exact Subsingleton.elim (α := Fin 1) _ _ | 2 => rfl | 3 => rfl⟩
  have e : (outPiece i arg3 (harg3.unread x0) arg4 (harg4.unread x1) arg5 (harg5.unread x2) arg8 f8 n).1.emb (ix4 0 0 r l)
      = ix4 0 ⟨n / 32 % 4, by omega⟩ (rowOf ⟨n / 4 % 8, by omega⟩ r) ⟨128 * (n % 4) + l.val, by omega⟩ := by
    funext a
    match a with
    | 0 => rfl
    | 1 => exact Fin.ext (by show n / 32 % 4 + 1 * 0 = n / 32 % 4; omega)
    | 2 => exact Fin.ext (by show 128 * (n / 4 % 8) + 1 * r.val = 128 * (n / 4 % 8) + r.val; omega)
    | 3 => exact Fin.ext (by show 128 * (n % 4) + 1 * l.val = 128 * (n % 4) + l.val; omega)
  rw [e]
  refine (out_block (loaded arg3 harg3 arg4 harg4 arg5 harg5 arg8 f8 hx hi h8 n ⟨n / 32 % 4, by omega⟩ ⟨n / 4 % 8, by omega⟩ ⟨n % 4, by omega⟩ rfl rfl rfl) r l).trans ?_
  show _ = outAt Q K V b ⟨n / 32 % 4, _⟩ (rowOf ⟨n / 4 % 8, _⟩ r) ⟨128 * (n % 4) + l.val, _⟩
  have lane : (⟨(128 * (n % 4) + l.val) / 64, by omega⟩ : Fin 8) = headOf ⟨n % 4, by omega⟩ (halfOf l) :=
    Fin.ext (by simp only [headOf, halfOf]; omega)
  have chan : (⟨(128 * (n % 4) + l.val) % 64, by omega⟩ : Fin 64) = chanOf l := Fin.ext (by simp only [chanOf]; omega)
  rw [outAt, lane, chan]

theorem lseRows_apply (hx : Inputs Q K V b x0 x1 x2) (hi : (i 2).val = 0) (h8 : arg8.view.read (Elt Ideal) f8 = biases) (n : ℕ)
    (c : Fin 4) (j : Fin 8) (hc : n / 8 % 4 = c.val) (hj : n % 8 = j.val) (r l : Fin 128) : ∀ P : ℕ, P ≤ 4 →
    lseRows i arg3 (harg3.unread x0) arg4 (harg4.unread x1) arg5 (harg5.unread x2) arg8 f8 n P (ix2 r l)
      = if h : l.val % 64 < P ∧ l.val % 64 < 4 then ((lse (score Q K b c (headOf ⟨l.val % 64, h.2⟩ (halfOf l)) (rowOf j r)) (rowOf j r) : ℝ) : EReal) else 0
  | 0, _ => by
    rw [dif_neg (by omega)]
    exact Ideal.ofBits_zero_f32
  | P + 1, hP => by
    have H := loaded arg3 harg3 arg4 harg4 arg5 harg5 arg8 f8 hx hi h8 (4 * n + P) c j ⟨P, by omega⟩ (by omega) (by omega) (by simp only []; omega)
    refine (lse_block H _ r l).trans ?_
    rw [lseRows_apply hx hi h8 n c j hc hj r l P (by omega)]
    by_cases h : l.val % 64 = P
    · rw [if_pos h, dif_pos (by omega)]
      subst h
      rfl
    · rw [if_neg h]
      by_cases h' : l.val % 64 < P
      · rw [dif_pos (by omega), dif_pos (by omega)]
      · rw [dif_neg (by omega), dif_neg (by omega)]

theorem lsePiece_eq (hx : Inputs Q K V b x0 x1 x2) (hi : (i 2).val = 0) (h8 : arg8.view.read (Elt Ideal) f8 = biases) (n : ℕ)
    (y : (lsePiece i arg3 (harg3.unread x0) arg4 (harg4.unread x1) arg5 (harg5.unread x2) arg8 f8 n).1.shape.Idx) :
    (lsePiece i arg3 (harg3.unread x0) arg4 (harg4.unread x1) arg5 (harg5.unread x2) arg8 f8 n).2 y
      = lseBlock Q K b ((lsePiece i arg3 (harg3.unread x0) arg4 (harg4.unread x1) arg5 (harg5.unread x2) arg8 f8 n).1.emb y) := by
  obtain ⟨r, l, rfl⟩ : ∃ (r : Fin 128) (l : Fin 128), y = ix4 0 0 r l :=
    ⟨y 2, y 3, by funext a; match a with | 0 => exact Subsingleton.elim (α := Fin 1) _ _ | 1 => exact Subsingleton.elim (α := Fin 1) _ _ | 2 => rfl | 3 => rfl⟩
  have e : (lsePiece i arg3 (harg3.unread x0) arg4 (harg4.unread x1) arg5 (harg5.unread x2) arg8 f8 n).1.emb (ix4 0 0 r l)
      = ix4 0 ⟨n / 8 % 4, by omega⟩ (rowOf ⟨n % 8, by omega⟩ r) l := by
    funext a
    match a with
    | 0 => rfl
    | 1 => exact Fin.ext (by show n / 8 % 4 + 1 * 0 = n / 8 % 4; omega)
    | 2 => exact Fin.ext (by show 128 * (n % 8) + 1 * r.val = 128 * (n % 8) + r.val; omega)
    | 3 => exact Fin.ext (by show 0 + 1 * l.val = l.val; omega)
  rw [e]
  refine (pay1_apply _ r l).trans ((lseRows_apply arg3 harg3 arg4 harg4 arg5 harg5 arg8 f8 hx hi h8 n ⟨n / 8 % 4, by omega⟩ ⟨n % 8, by omega⟩ rfl rfl r l 4 le_rfl).trans ?_)
  show _ = lseAt Q K b ⟨n / 8 % 4, _⟩ (rowOf ⟨n % 8, _⟩ r) l
  rw [lseAt]
  by_cases h : l.val % 64 < 4
  · rw [dif_pos ⟨h, h⟩, dif_pos h]; rfl
  · rw [dif_neg (by omega), dif_neg h]

end Body

/-! ## The two cases -/

section Cases

theorem coord_zero (i : grid0.Coords) : (i 2).val = 0 := Nat.lt_one_iff.1 (i 2).isLt

variable {Q K : Fin 8 → Fin 4096 → Fin 8 → Fin 64 → ℝ} {V : Fin 8 → Fin 4096 → Fin 8 → Fin 64 → EReal} {b : Fin 8}
variable (c : Dev nD) (i : grid0.Coords) (arg3 : Memref sig .tc .vmem S1x4x1024x512 .bf16) (harg3 : arg3.IsWhole)
  (arg4 : Memref sig .tc .vmem S1x4x1024x512 .bf16) (harg4 : arg4.IsWhole) (arg5 : Memref sig .tc .vmem S1x4x1024x512 .bf16) (harg5 : arg5.IsWhole)
  (arg6 : Memref sig .tc .vmem S1x4x1024x512 .bf16) (harg6 : arg6.IsWhole) (arg7 : Memref sig .tc .vmem S1x4x1024x128 .f32) (harg7 : arg7.IsWhole)
  (arg8 : Memref sig .tc .vmem S3x4x256x256 .f32) (harg8 : arg8.IsWhole)
  {x0 : Vec Ideal S1x4x1024x512 .bf16} {x1 : Vec Ideal S1x4x1024x512 .bf16} {x2 : Vec Ideal S1x4x1024x512 .bf16}

theorem out0_B_3_eq (hx : Inputs Q K V b x0 x1 x2) (hc0) :
    out0_B_3 c i arg3 harg3 arg4 harg4 arg5 harg5 arg6 harg6 arg7 harg7 arg8 harg8 hc0 x0 x1 x2 biases = outBlock Q K V b := by
  funext y
  refine View.read_writes_apply_of_pieces _ _ (outBlock Q K V b) _ ?_ y (cover0_B_3 c i arg3 harg3 arg4 harg4 arg5 harg5 arg6 harg6 arg7 harg7 arg8 harg8 hc0 x0 x1 x2 biases y)
  rw [out_B]
  intro p hp
  obtain ⟨n, hn, rfl⟩ := List.mem_map.1 hp
  exact outPiece_eq arg3 harg3 arg4 harg4 arg5 harg5 arg8 _ hx (coord_zero i) (harg8.read_unread _) n

theorem out0_B_4_eq (hx : Inputs Q K V b x0 x1 x2) (hc0) :
    out0_B_4 c i arg3 harg3 arg4 harg4 arg5 harg5 arg6 harg6 arg7 harg7 arg8 harg8 hc0 x0 x1 x2 biases = lseBlock Q K b := by
  funext y
  refine View.read_writes_apply_of_pieces _ _ (lseBlock Q K b) _ ?_ y (cover0_B_4 c i arg3 harg3 arg4 harg4 arg5 harg5 arg6 harg6 arg7 harg7 arg8 harg8 hc0 x0 x1 x2 biases y)
  rw [lse_B]
  intro p hp
  obtain ⟨n, hn, rfl⟩ := List.mem_map.1 hp
  exact lsePiece_eq arg3 harg3 arg4 harg4 arg5 harg5 arg8 _ hx (coord_zero i) (harg8.read_unread _) n

include c harg3 harg4 harg5 arg6 harg6 arg7 harg7 harg8 in
theorem biases_written (x0 x1 x2 : Vec Ideal S1x4x1024x512 .bf16) (hc0 : cond0_0 i) (v : View sig .tc .vmem S3x4x256x256 .f32) (f : v.ty.Contents (Elt Ideal)) :
    v.read (Elt Ideal) (v.writes (Elt Ideal) f ((down 24).map (biasPiece (F := Ideal)))) = biases := by
  funext y
  refine View.read_writes_apply_of_pieces _ _ biases _ bias_pieces y ?_
  have h := scover0_A_0 c i arg3 harg3 arg4 harg4 arg5 harg5 arg6 harg6 arg7 harg7 arg8 harg8 hc0 x0 x1 x2 y
  rw [bias_A] at h
  exact h

theorem sout0_A_0_eq (hc0) :
    sout0_A_0 c i arg3 harg3 arg4 harg4 arg5 harg5 arg6 harg6 arg7 harg7 arg8 harg8 hc0 x0 x1 x2 = biases := by
  unfold sout0_A_0
  rw [bias_A]
  exact biases_written c i arg3 harg3 arg4 harg4 arg5 harg5 arg6 harg6 arg7 harg7 arg8 harg8 x0 x1 x2 hc0 _ _

theorem out0_A_3_eq (hx : Inputs Q K V b x0 x1 x2) (hc0) :
    out0_A_3 c i arg3 harg3 arg4 harg4 arg5 harg5 arg6 harg6 arg7 harg7 arg8 harg8 hc0 x0 x1 x2 = outBlock Q K V b := by
  funext y
  refine View.read_writes_apply_of_pieces _ _ (outBlock Q K V b) _ ?_ y (cover0_A_3 c i arg3 harg3 arg4 harg4 arg5 harg5 arg6 harg6 arg7 harg7 arg8 harg8 hc0 x0 x1 x2 y)
  rw [out_A]
  intro p hp
  obtain ⟨n, hn, rfl⟩ := List.mem_map.1 hp
  exact outPiece_eq arg3 harg3 arg4 harg4 arg5 harg5 arg8 _ hx (coord_zero i)
    (biases_written c i arg3 harg3 arg4 harg4 arg5 harg5 arg6 harg6 arg7 harg7 arg8 harg8 x0 x1 x2 hc0 _ _) n

theorem out0_A_4_eq (hx : Inputs Q K V b x0 x1 x2) (hc0) :
    out0_A_4 c i arg3 harg3 arg4 harg4 arg5 harg5 arg6 harg6 arg7 harg7 arg8 harg8 hc0 x0 x1 x2 = lseBlock Q K b := by
  funext y
  refine View.read_writes_apply_of_pieces _ _ (lseBlock Q K b) _ ?_ y (cover0_A_4 c i arg3 harg3 arg4 harg4 arg5 harg5 arg6 harg6 arg7 harg7 arg8 harg8 hc0 x0 x1 x2 y)
  rw [lse_A]
  intro p hp
  obtain ⟨n, hn, rfl⟩ := List.mem_map.1 hp
  exact lsePiece_eq arg3 harg3 arg4 harg4 arg5 harg5 arg8 _ hx (coord_zero i)
    (biases_written c i arg3 harg3 arg4 harg4 arg5 harg5 arg6 harg6 arg7 harg7 arg8 harg8 x0 x1 x2 hc0 _ _) n

end Cases

end Cert.Attn

end
-- ==== Proof.Inputs.lean ====
/- What the kernel's launch hands its body: the queries, scaled for powers of two, the keys and the values, by residue class, side by side
   in one array of which the body takes one batch entry at a time. -/
module

public import proofs.«01_k».proof.Proof.Contents

@[expose] public section

set_option maxRecDepth 16384

noncomputable section

namespace Cert.Attn

open Idealize.ShloMosaic Idealize.ShloMosaic.TcCoe
open Cert.KernelIdeal Cert.KernelIdeal.Gen

variable (q k v : FVec Ideal S8x4096x8x64 .f32)

/-- Rows by residue class. -/
def classes : FVec Ideal S8x4x1024x512 .bf16 :=
  truncf .bf16 (transpose S8x4x1024x512 [0, 2, 1, 3] (shapeCast S8x1024x4x512 q shapeCasts_S8x4096x8x64_S8x1024x4x512) transposes_S8x1024x4x512_S8x4x1024x512_0_2_1_3) bitsLt_bf16_f32

/-- The queries, scaled. -/
def scaled : FVec Ideal S8x4096x8x64 .f32 :=
  Host.divf (mulf q (broadcastInDim S8x4096x8x64 ![] bcast_S_S8x4096x8x64 (constant S_ .f32 0x3E000000#32)))
    (broadcastInDim S8x4096x8x64 ![] bcast_S_S8x4096x8x64 (Host.log (constant S_ .f32 0x40000000#32)))

/-- The three side by side. -/
def packed : FVec Ideal S8x4x1024x1536 .bf16 :=
  concatenate S8x4x1024x1536 3 [⟨S8x4x1024x512, classes (scaled q)⟩, ⟨S8x4x1024x512, classes k⟩, ⟨S8x4x1024x512, classes v⟩] concatenates_S8x4x1024x512_S8x4x1024x512_S8x4x1024x512_S8x4x1024x1536_d3

variable (m : (ℓ : Loc nD τ sig) → Buf (Elt Ideal) ℓ) (c : Dev nD)

theorem entry_packed : V m c main_v14 = packed (m ((c.tc : Thread nD τ).loc main_arg0)) (m ((c.tc : Thread nD τ).loc main_arg1)) (m ((c.tc : Thread nD τ).loc main_arg2)) := by
  show StableHlo.after hostOps0 _ (Proc.devRef .tc main_v14) = _
  after_results
  rfl

theorem classes_apply (b : Fin 8) (cl : Fin 4) (t : Fin 1024) (l : Fin 512) :
    classes q (ix4 b cl t l) = q (ix4 b (place cl t) ⟨l.val / 64, by omega⟩ ⟨l.val % 64, by omega⟩) := by
  pointwise [classes]
  refine congrArg (fun z => q (ix4 b z ⟨l.val / 64, by omega⟩ ⟨l.val % 64, by omega⟩)) (Fin.ext ?_)
  show _ = 4 * t.val + cl.val
  simp only []
  omega

theorem eighth_bits : Ideal.ofBits .f32 0x3E000000#32 = ((1 / 8 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

theorem scaled_apply (b : Fin 8) (p : Fin 4096) (h : Fin 8) (d : Fin 64) (x : ℝ) (hq : q (ix4 b p h d) = ((x : ℝ) : EReal)) :
    scaled q (ix4 b p h d) = ((L * (x * (1 / 8)) : ℝ) : EReal) := by
  pointwise [scaled]
  rw [hq, eighth_bits, two_bits, Ideal.log_coe, if_neg (by norm_num), Ideal.div_coe log_two_pos.ne', ← EReal.coe_mul, ← EReal.coe_mul, L]
  congr 1
  ring

theorem packed_q (b : Fin 8) (cl : Fin 4) (t : Fin 1024) (l : Fin 512) :
    packed q k v (ix4 b cl t ⟨l.val, by omega⟩) = classes (scaled q) (ix4 b cl t l) := by
  pointwise [packed]

theorem packed_k (b : Fin 8) (cl : Fin 4) (t : Fin 1024) (l : Fin 512) :
    packed q k v (ix4 b cl t ⟨512 + l.val, by omega⟩) = classes k (ix4 b cl t l) := by
  pointwise [packed]

theorem packed_v (b : Fin 8) (cl : Fin 4) (t : Fin 1024) (l : Fin 512) :
    packed q k v (ix4 b cl t ⟨1024 + l.val, by omega⟩) = classes v (ix4 b cl t l) := by
  pointwise [packed]
  rw [dif_neg (by omega), dif_neg (by omega)]
  refine congrArg (fun z => classes v (ix4 b cl t z)) (Fin.ext ?_)
  simp only []
  omega

/-! ## What the body is handed -/

theorem index0 : ∀ t : Fin grid0.N, win0_0.index t = ![t.val, 0, 0, 0] := by
  decide +kernel

theorem index1 : ∀ t : Fin grid0.N, win0_1.index t = ![t.val, 0, 0, 1] := by
  decide +kernel

theorem index2 : ∀ t : Fin grid0.N, win0_2.index t = ![t.val, 0, 0, 2] := by
  decide +kernel

/-- A grid point's batch entry. -/
def batchOf (t : Fin cfg0.N) : Fin 8 := ⟨t.val, lt_of_lt_of_eq t.isLt N_0⟩

theorem iblk0 (t : Fin cfg0.N) (cl : Fin 4) (r : Fin 1024) (l : Fin 512) :
    iblk m c 0 t (ix4 0 cl r l) = V m c main_v14 (ix4 (batchOf t) cl r ⟨l.val, by omega⟩) := by
  show V m c main_v14 (((cfg0.win 0).blk t).view.emb (ix4 0 cl r l)) = _
  refine congrArg (V m c main_v14) ?_
  funext a
  match a with
  | 0 => exact Fin.ext (by show win0_0.index t (0 : Fin 4) * 1 + 1 * 0 = t.val; rw [index0]; show t.val * 1 + 1 * 0 = t.val; omega)
  | 1 => exact Fin.ext (by show win0_0.index t (1 : Fin 4) * 4 + 1 * cl.val = cl.val; rw [index0]; show 0 * 4 + 1 * cl.val = cl.val; omega)
  | 2 => exact Fin.ext (by show win0_0.index t (2 : Fin 4) * 1024 + 1 * r.val = r.val; rw [index0]; show 0 * 1024 + 1 * r.val = r.val; omega)
  | 3 => exact Fin.ext (by show win0_0.index t (3 : Fin 4) * 512 + 1 * l.val = l.val; rw [index0]; show 0 * 512 + 1 * l.val = l.val; omega)

theorem iblk1 (t : Fin cfg0.N) (cl : Fin 4) (r : Fin 1024) (l : Fin 512) :
    iblk m c 1 t (ix4 0 cl r l) = V m c main_v14 (ix4 (batchOf t) cl r ⟨512 + l.val, by omega⟩) := by
  show V m c main_v14 (((cfg0.win 1).blk t).view.emb (ix4 0 cl r l)) = _
  refine congrArg (V m c main_v14) ?_
  funext a
  match a with
  | 0 => exact Fin.ext (by show win0_1.index t (0 : Fin 4) * 1 + 1 * 0 = t.val; rw [index1]; show t.val * 1 + 1 * 0 = t.val; omega)
  | 1 => exact Fin.ext (by show win0_1.index t (1 : Fin 4) * 4 + 1 * cl.val = cl.val; rw [index1]; show 0 * 4 + 1 * cl.val = cl.val; omega)
  | 2 => exact Fin.ext (by show win0_1.index t (2 : Fin 4) * 1024 + 1 * r.val = r.val; rw [index1]; show 0 * 1024 + 1 * r.val = r.val; omega)
  | 3 => exact Fin.ext (by show win0_1.index t (3 : Fin 4) * 512 + 1 * l.val = 512 + l.val; rw [index1]; show 1 * 512 + 1 * l.val = 512 + l.val; omega)

theorem iblk2 (t : Fin cfg0.N) (cl : Fin 4) (r : Fin 1024) (l : Fin 512) :
    iblk m c 2 t (ix4 0 cl r l) = V m c main_v14 (ix4 (batchOf t) cl r ⟨1024 + l.val, by omega⟩) := by
  show V m c main_v14 (((cfg0.win 2).blk t).view.emb (ix4 0 cl r l)) = _
  refine congrArg (V m c main_v14) ?_
  funext a
  match a with
  | 0 => exact Fin.ext (by show win0_2.index t (0 : Fin 4) * 1 + 1 * 0 = t.val; rw [index2]; show t.val * 1 + 1 * 0 = t.val; omega)
  | 1 => exact Fin.ext (by show win0_2.index t (1 : Fin 4) * 4 + 1 * cl.val = cl.val; rw [index2]; show 0 * 4 + 1 * cl.val = cl.val; omega)
  | 2 => exact Fin.ext (by show win0_2.index t (2 : Fin 4) * 1024 + 1 * r.val = r.val; rw [index2]; show 0 * 1024 + 1 * r.val = r.val; omega)
  | 3 => exact Fin.ext (by show win0_2.index t (3 : Fin 4) * 512 + 1 * l.val = 1024 + l.val; rw [index2]; show 2 * 512 + 1 * l.val = 1024 + l.val; omega)

/-- The queries, keys and values at the memory's start, the first two real. -/
structure Starts (Q K : Fin 8 → Fin 4096 → Fin 8 → Fin 64 → ℝ) (W : Fin 8 → Fin 4096 → Fin 8 → Fin 64 → EReal) (q k v : FVec Ideal S8x4096x8x64 .f32) : Prop where
  q_eq : ∀ b p h d, q (ix4 b p h d) = ((Q b p h d : ℝ) : EReal)
  k_eq : ∀ b p h d, k (ix4 b p h d) = ((K b p h d : ℝ) : EReal)
  v_eq : ∀ b p h d, v (ix4 b p h d) = W b p h d

theorem inputs {Q K : Fin 8 → Fin 4096 → Fin 8 → Fin 64 → ℝ} {W : Fin 8 → Fin 4096 → Fin 8 → Fin 64 → EReal}
    (hs : Starts Q K W (m ((c.tc : Thread nD τ).loc main_arg0)) (m ((c.tc : Thread nD τ).loc main_arg1)) (m ((c.tc : Thread nD τ).loc main_arg2))) (t : Fin cfg0.N) :
    Inputs Q K W (batchOf t) (iblk m c 0 t) (iblk m c 1 t) (iblk m c 2 t) := by
  constructor
  · intro cl r l
    rw [iblk0, entry_packed, packed_q, classes_apply, scaled_apply _ _ _ _ _ _ (hs.q_eq _ _ _ _)]
  · intro cl r l
    rw [iblk1, entry_packed, packed_k, classes_apply, hs.k_eq]
  · intro cl r l
    rw [iblk2, entry_packed, packed_v, classes_apply, hs.v_eq]

end Cert.Attn

end
-- ==== Proof.KernelValue.lean ====
/- The two arrays the kernel leaves: at every grid point its body leaves that batch entry's attention and log-sums. -/
module

public import proofs.«01_k».proof.Proof.Inputs
public import proofs.«01_k».proof.Proof.Gen.KernelIdeal.Value

@[expose] public section

set_option maxRecDepth 16384

noncomputable section

namespace Cert.Attn

open Idealize.ShloMosaic Idealize.ShloMosaic.TcCoe
open Cert.KernelIdeal Cert.KernelIdeal.Gen Cert.KernelIdeal.Value

variable {m : (ℓ : Loc nD τ sig) → Buf (Elt Ideal) ℓ} {c : Dev nD}
  {Q K : Fin 8 → Fin 4096 → Fin 8 → Fin 64 → ℝ} {W : Fin 8 → Fin 4096 → Fin 8 → Fin 64 → EReal}

theorem carried (hs : Starts Q K W (m ((c.tc : Thread nD τ).loc main_arg0)) (m ((c.tc : Thread nD τ).loc main_arg1)) (m ((c.tc : Thread nD τ).loc main_arg2))) :
    ∀ (n : ℕ) (hn : n < cfg0.N), outsAt0 m c n hn = (outBlock Q K W (batchOf ⟨n, hn⟩), lseBlock Q K (batchOf ⟨n, hn⟩), biases)
  | 0, hn => by
    rw [outsAt0_zero, stAt0_A m c ⟨0, hn⟩ _ (Nat.zero_mod _)]
    rw [out0_A_3_eq _ _ _ _ _ _ _ _ _ _ _ _ _ _ (inputs m c hs ⟨0, hn⟩), out0_A_4_eq _ _ _ _ _ _ _ _ _ _ _ _ _ _ (inputs m c hs ⟨0, hn⟩), sout0_A_0_eq]
  | n + 1, hn => by
    have h0 : ¬ (n + 1) % 8 = 0 := by
      have : n + 1 < 8 := lt_of_lt_of_eq hn N_0
      omega
    rw [outsAt0_succ, carried hs n, stAt0_B m c ⟨n + 1, hn⟩ _ h0]
    rw [out0_B_3_eq _ _ _ _ _ _ _ _ _ _ _ _ _ _ (inputs m c hs ⟨n + 1, hn⟩), out0_B_4_eq _ _ _ _ _ _ _ _ _ _ _ _ _ _ (inputs m c hs ⟨n + 1, hn⟩)]
    rfl

theorem kernel_out (hs : Starts Q K W (m ((c.tc : Thread nD τ).loc main_arg0)) (m ((c.tc : Thread nD τ).loc main_arg1)) (m ((c.tc : Thread nD τ).loc main_arg2)))
    (b : Fin 8) (cl : Fin 4) (t : Fin 1024) (l : Fin 512) : G3 m c (ix4 b cl t l) = outAt Q K W b cl t l := by
  have hp : pt3Of (ix4 b cl t l) = b.val := by
    show 1 * (b.val / 1 - 0) + 1 * (cl.val / 4 - 0) + 1 * (t.val / 1024 - 0) + 1 * (l.val / 512 - 0) = b.val
    omega
  have hN : pt3Of (ix4 b cl t l) < cfg0.N := by rw [hp]; exact lt_of_lt_of_eq b.isLt N_0.symm
  unfold G3
  rw [dif_pos hN, ← outsAt0_sweep, carried hs]
  show outAt Q K W (batchOf ⟨pt3Of (ix4 b cl t l), hN⟩) ⟨cl.val % 4, _⟩ ⟨t.val % 1024, _⟩ ⟨l.val % 512, _⟩ = _
  congr 1
  · exact Fin.ext hp
  · exact Fin.ext (Nat.mod_eq_of_lt cl.isLt)
  · exact Fin.ext (Nat.mod_eq_of_lt t.isLt)
  · exact Fin.ext (Nat.mod_eq_of_lt l.isLt)

theorem kernel_lse (hs : Starts Q K W (m ((c.tc : Thread nD τ).loc main_arg0)) (m ((c.tc : Thread nD τ).loc main_arg1)) (m ((c.tc : Thread nD τ).loc main_arg2)))
    (b : Fin 8) (cl : Fin 4) (t : Fin 1024) (l : Fin 128) : G4 m c (ix4 b cl t l) = lseAt Q K b cl t l := by
  have hp : pt4Of (ix4 b cl t l) = b.val := by
    show 1 * (b.val / 1 - 0) + 1 * (cl.val / 4 - 0) + 1 * (t.val / 1024 - 0) + 1 * (l.val / 128 - 0) = b.val
    omega
  have hN : pt4Of (ix4 b cl t l) < cfg0.N := by rw [hp]; exact lt_of_lt_of_eq b.isLt N_0.symm
  unfold G4
  rw [dif_pos hN, ← outsAt0_sweep, carried hs]
  show lseAt Q K (batchOf ⟨pt4Of (ix4 b cl t l), hN⟩) ⟨cl.val % 4, _⟩ ⟨t.val % 1024, _⟩ ⟨l.val % 128, _⟩ = _
  congr 1
  · exact Fin.ext hp
  · exact Fin.ext (Nat.mod_eq_of_lt cl.isLt)
  · exact Fin.ext (Nat.mod_eq_of_lt t.isLt)
  · exact Fin.ext (Nat.mod_eq_of_lt l.isLt)

end Cert.Attn

end
-- ==== Proof.Reference.lean ====
/- The reference's arrays, stage by stage, and what each holds at an index. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.Attn.Reference

open Idealize.ShloMosaic Idealize.ShloMosaic.TcCoe
open Cert.ReferenceIdeal Cert.ReferenceIdeal.Gen

/-! ## The stages -/

variable (q k v : FVec Ideal S8x4096x8x64 .f32)

/-- The queries by residue class, in blocks of 64. -/
def blocks : FVec Ideal S8x4x16x64x8x64 .f32 :=
  shapeCast _ (pad S8x4x1024x8x64 ![0, 0, 0, 0, 0] ![0, 0, 0, 0, 0] ![0, 0, 0, 0, 0] (transpose S8x4x1024x8x64 [0, 2, 1, 3, 4] (shapeCast _ q shapeCasts_S8x4096x8x64_S8x1024x4x8x64) transposes_S8x1024x4x8x64_S8x4x1024x8x64_0_2_1_3_4) (sitofp .f32 (constantI S_ 32 0#32)) pads_S8x4x1024x8x64_S8x4x1024x8x64_000_000_000_000_000 h_S_) shapeCasts_S8x4x1024x8x64_S8x4x16x64x8x64

/-- The keys (or values) by residue class, 64 zeros before and after. -/
def padded : FVec Ideal S8x4x1152x8x64 .f32 :=
  pad S8x4x1152x8x64 ![0, 0, 64, 0, 0] ![0, 0, 64, 0, 0] ![0, 0, 0, 0, 0] (transpose S8x4x1024x8x64 [0, 2, 1, 3, 4] (shapeCast _ k shapeCasts_S8x4096x8x64_S8x1024x4x8x64) transposes_S8x1024x4x8x64_S8x4x1024x8x64_0_2_1_3_4) (sitofp .f32 (constantI S_ 32 0#32)) pads_S8x4x1024x8x64_S8x4x1152x8x64_000_000_64640_000_000 h_S_

/-- The 192 keys (or values) that each block of queries looks at. -/
def windows (x : FVec Ideal S8x4x1152x8x64 .f32) : FVec Ideal S8x4x16x192x8x64 .f32 :=
  let y : FVec Ideal S8x4x18x64x8x64 .f32 := shapeCast _ x shapeCasts_S8x4x1152x8x64_S8x4x18x64x8x64
  concatenate S8x4x16x192x8x64 3 [⟨S8x4x16x64x8x64, extractStridedSlice S8x4x16x64x8x64 ![0, 0, 0, 0, 0, 0] y slices_S8x4x18x64x8x64_S8x4x16x64x8x64_0_0_0_0_0_0⟩, ⟨S8x4x16x64x8x64, extractStridedSlice S8x4x16x64x8x64 ![0, 0, 1, 0, 0, 0] y slices_S8x4x18x64x8x64_S8x4x16x64x8x64_0_0_1_0_0_0⟩, ⟨S8x4x16x64x8x64, extractStridedSlice S8x4x16x64x8x64 ![0, 0, 2, 0, 0, 0] y slices_S8x4x18x64x8x64_S8x4x16x64x8x64_0_0_2_0_0_0⟩] concatenates_S8x4x16x64x8x64_S8x4x16x64x8x64_S8x4x16x64x8x64_S8x4x16x192x8x64_d3

/-- The position of each key of each window. -/
def keyAt : IVec S16x1x192 32 :=
  broadcastInDim S16x1x192 ![0, 2] bcast_S16x192_S16x1x192_0_2 (addi (broadcastInDim S16x192 ![0, 1] bcast_S16x1_S16x192_0_1 (muli (subi (broadcastInDim S16x1 ![0] bcast_S16_S16x1_0 (iotaInDim S16 32 0)) (broadcastInDim S16x1 ![] bcast_S_S16x1 (constantI S_ 32 1#32))) (broadcastInDim S16x1 ![] bcast_S_S16x1 (constantI S_ 32 64#32)))) (broadcastInDim S16x192 ![0, 1] bcast_S1x192_S16x192_0_1 (broadcastInDim S1x192 ![1] bcast_S192_S1x192_1 (iotaInDim S192 32 0))))

/-- The distance of each key of a window from each query of its block. -/
def away : IVec S16x64x192 32 :=
  absi (subi (broadcastInDim S16x64x192 ![0, 1, 2] bcast_S16x1x192_S16x64x192_0_1_2 keyAt) (broadcastInDim S16x64x192 ![0, 1, 2] bcast_S16x64x1_S16x64x192_0_1_2 (broadcastInDim S16x64x1 ![0, 1] bcast_S16x64_S16x64x1_0_1 (addi (broadcastInDim S16x64 ![0, 1] bcast_S16x1_S16x64_0_1 (muli (broadcastInDim S16x1 ![0] bcast_S16_S16x1_0 (iotaInDim S16 32 0)) (broadcastInDim S16x1 ![] bcast_S_S16x1 (constantI S_ 32 64#32)))) (broadcastInDim S16x64 ![0, 1] bcast_S1x64_S16x64_0_1 (broadcastInDim S1x64 ![1] bcast_S64_S1x64_1 (iotaInDim S64 32 0)))))))

/-- Which keys a query sees. -/
def seen : IVec S16x64x192 1 :=
  andi (andi (cmpi .sle away (broadcastInDim S16x64x192 ![] bcast_S_S16x64x192 (constantI S_ 32 64#32))) (broadcastInDim S16x64x192 ![0, 1, 2] bcast_S16x1x192_S16x64x192_0_1_2 (cmpi .sge keyAt (broadcastInDim S16x1x192 ![] bcast_S_S16x1x192 (constantI S_ 32 0#32))))) (broadcastInDim S16x64x192 ![0, 1, 2] bcast_S16x1x192_S16x64x192_0_1_2 (cmpi .slt keyAt (broadcastInDim S16x1x192 ![] bcast_S_S16x1x192 (constantI S_ 32 1024#32))))

/-- What the distance costs, by head. -/
def cost : FVec Ideal S8x16x64x192 .f32 :=
  mulf (broadcastInDim S8x16x64x192 ![0, 1, 2, 3] bcast_S8x1x1x1_S8x16x64x192_0_1_2_3 (broadcastInDim S8x1x1x1 ![0] bcast_S8_S8x1x1x1_0 ((fun i => FloatOps.ofBits .f32 (lit0 (S8.rowMajor i)))))) (broadcastInDim S8x16x64x192 ![0, 1, 2, 3] bcast_S1x16x64x192_S8x16x64x192_0_1_2_3 (broadcastInDim S1x16x64x192 ![1, 2, 3] bcast_S16x64x192_S1x16x64x192_1_2_3 (sitofp .f32 (muli away (broadcastInDim S16x64x192 ![] bcast_S_S16x64x192 (constantI S_ 32 4#32))))))

/-- The scores. -/
def scores : FVec Ideal S8x4x8x16x64x192 .f32 :=
  select (broadcastInDim S8x4x8x16x64x192 ![3, 4, 5] bcast_S16x64x192_S8x4x8x16x64x192_3_4_5 seen)
    (subf (mulf (Host.dotGeneral dot_S8x4x16x64x8x64_S8x4x16x192x8x64_S8x4x8x16x64x192_5_5_3_3_0142_0142 none (blocks q) (windows (padded k))) (broadcastInDim S8x4x8x16x64x192 ![] bcast_S_S8x4x8x16x64x192 (constant S_ .f32 0x3E000000#32)))
      (broadcastInDim S8x4x8x16x64x192 ![0, 1, 2, 3, 4, 5] bcast_S1x1x8x16x64x192_S8x4x8x16x64x192_0_1_2_3_4_5 (broadcastInDim S1x1x8x16x64x192 ![2, 3, 4, 5] bcast_S8x16x64x192_S1x1x8x16x64x192_2_3_4_5 cost)))
    (broadcastInDim S8x4x8x16x64x192 ![] bcast_S_S8x4x8x16x64x192 (constant S_ .f32 0xFF800000#32))

/-- The largest score of each query. -/
def largest (s : FVec Ideal S8x4x8x16x64x192 .f32) : FVec Ideal S8x4x8x16x64x1 .f32 :=
  broadcastInDim S8x4x8x16x64x1 ![0, 1, 2, 3, 4] bcast_S8x4x8x16x64_S8x4x8x16x64x1_0_1_2_3_4 (Host.reduce FloatOps.maximumf s (constant S_ .f32 0xFF800000#32) reducesTo_S8x4x8x16x64x192_S8x4x8x16x64_d5 h_S_)

/-- The logarithm of the sum of the exponentials of each query's scores. -/
def logSum (s : FVec Ideal S8x4x8x16x64x192 .f32) : FVec Ideal S8x4x8x16x64 .f32 :=
  addf (Host.log (Host.reduceAdd (Host.exp (subf s (broadcastInDim S8x4x8x16x64x192 ![0, 1, 2, 3, 4, 5] bcast_S8x4x8x16x64x1_S8x4x8x16x64x192_0_1_2_3_4_5 (largest s)))) (constant S_ .f32 0x00000000#32) reducesTo_S8x4x8x16x64x192_S8x4x8x16x64_d5 h_S_)) (shapeCast _ (largest s) shapeCasts_S8x4x8x16x64x1_S8x4x8x16x64)

/-- The weights. -/
def weights (s : FVec Ideal S8x4x8x16x64x192 .f32) : FVec Ideal S8x4x8x16x64x192 .f32 :=
  Host.exp (subf s (broadcastInDim S8x4x8x16x64x192 ![0, 1, 2, 3, 4, 5] bcast_S8x4x8x16x64x1_S8x4x8x16x64x192_0_1_2_3_4_5 (broadcastInDim S8x4x8x16x64x1 ![0, 1, 2, 3, 4] bcast_S8x4x8x16x64_S8x4x8x16x64x1_0_1_2_3_4 (logSum s))))

/-- The attention's output, by blocks. -/
def attended (s : FVec Ideal S8x4x8x16x64x192 .f32) (w : FVec Ideal S8x4x16x192x8x64 .f32) : FVec Ideal S8x4x16x8x64x64 .f32 :=
  Host.dotGeneral dot_S8x4x16x192x8x64_S8x4x8x16x64x192_S8x4x16x8x64x64_3_5_5_4_0124_0132 none w (weights s)

/-- The output in the call's layout. -/
def outLayout (o : FVec Ideal S8x4x16x8x64x64 .f32) : FVec Ideal S8x4x1024x512 .bf16 :=
  truncf .bf16 (transpose S8x4x1024x512 [0, 2, 1, 3] (shapeCast _ (shapeCast S8x4096x8x64 (transpose S8x1024x4x8x64 [0, 2, 1, 3, 4] (shapeCast _ (transpose S8x4x16x64x8x64 [0, 1, 2, 5, 3, 4] o transposes_S8x4x16x8x64x64_S8x4x16x64x8x64_0_1_2_5_3_4) shapeCasts_S8x4x16x64x8x64_S8x4x1024x8x64) transposes_S8x4x1024x8x64_S8x1024x4x8x64_0_2_1_3_4) shapeCasts_S8x1024x4x8x64_S8x4096x8x64) shapeCasts_S8x4096x8x64_S8x1024x4x512) transposes_S8x1024x4x512_S8x4x1024x512_0_2_1_3) bitsLt_bf16_f32

/-- The log-sums in the call's layout. -/
def lseLayout (l : FVec Ideal S8x4x8x16x64 .f32) : FVec Ideal S8x4x1024x128 .f32 :=
  shapeCast _ (pad S8x4x1024x2x64 ![0, 0, 0, 0, 0] ![0, 0, 0, 0, 60] ![0, 0, 0, 0, 0] (transpose S8x4x1024x2x4 [0, 2, 1, 4, 3] (shapeCast _ (shapeCast S8x4096x8 (transpose S8x1024x4x8 [0, 3, 1, 2] (shapeCast S8x4x8x1024 l shapeCasts_S8x4x8x16x64_S8x4x8x1024) transposes_S8x4x8x1024_S8x1024x4x8_0_3_1_2) shapeCasts_S8x1024x4x8_S8x4096x8) shapeCasts_S8x4096x8_S8x1024x4x4x2) transposes_S8x1024x4x4x2_S8x4x1024x2x4_0_2_1_4_3) (sitofp .f32 (constantI S_ 32 0#32)) pads_S8x4x1024x2x4_S8x4x1024x2x64_000_000_000_000_0600 h_S_) shapeCasts_S8x4x1024x2x64_S8x4x1024x128

/-! ## The program's results are these stages -/

theorem out_eq (m : (ℓ : Loc nD τ sig) → Buf (Elt Ideal) ℓ) (c : Dev nD) :
    Cert.ReferenceIdeal.Value.res_out0 m c
      = outLayout (attended (scores (m ((c.tc : Thread nD τ).loc main_arg0)) (m ((c.tc : Thread nD τ).loc main_arg1)))
          (windows (padded (m ((c.tc : Thread nD τ).loc main_arg2))))) := rfl

theorem lse_eq (m : (ℓ : Loc nD τ sig) → Buf (Elt Ideal) ℓ) (c : Dev nD) :
    Cert.ReferenceIdeal.Value.res_out1 m c
      = lseLayout (logSum (scores (m ((c.tc : Thread nD τ).loc main_arg0)) (m ((c.tc : Thread nD τ).loc main_arg1)))) := rfl

end Cert.Attn.Reference

end
-- ==== Proof.Lookup.lean ====
/- What the stages of the reference hold at an index. -/
module

public import proofs.«01_k».proof.Proof.Reference
public import proofs.«01_k».proof.Proof.Scores
public import proofs.«01_k».proof.Proof.Words

@[expose] public section

set_option maxRecDepth 16384

noncomputable section

namespace Cert.Attn.Reference

open Idealize.ShloMosaic Idealize.ShloMosaic.TcCoe
open Cert.ReferenceIdeal Cert.ReferenceIdeal.Gen

theorem blocks_apply (q : FVec Ideal S8x4096x8x64 .f32) (b : Fin 8) (c : Fin 4) (n : Fin 16) (r : Fin 64) (h : Fin 8) (d : Fin 64) :
    blocks q (ix6 b c n r h d) = q (ix4 b (place c ⟨64 * n.val + r.val, by omega⟩) h d) := by
  pointwise [blocks]
  rw [dif_pos (by omega)]
  refine congrArg (fun z => q (ix4 b z h d)) (Fin.ext ?_)
  show _ = 4 * (64 * n.val + r.val) + c.val
  simp only []
  omega

theorem zero_word : (FloatOps.sitofp .f32 (0#32) : Ideal .f32) = 0 := by
  show (((0#32).toInt : ℝ) : EReal) = 0
  simp

theorem padded_apply (k : FVec Ideal S8x4096x8x64 .f32) (b : Fin 8) (c : Fin 4) (x : Fin 1152) (h : Fin 8) (d : Fin 64) :
    padded k (ix5 b c x h d) = padAt (fun p => k (ix4 b p h d)) c x.val := by
  pointwise [padded, padAt]
  by_cases hx : 64 ≤ x.val ∧ x.val < 1088
  · rw [dif_pos (by omega), dif_pos hx]
    refine congrArg (fun z => k (ix4 b z h d)) (Fin.ext ?_)
    show _ = 4 * (x.val - 64) + c.val
    simp only []
    omega
  · rw [dif_neg (by omega), dif_neg hx, zero_word]

theorem windows_apply (x : FVec Ideal S8x4x1152x8x64 .f32) (b : Fin 8) (c : Fin 4) (n : Fin 16) (w : Fin 192) (h : Fin 8) (d : Fin 64) :
    windows x (ix6 b c n w h d) = x (ix5 b c ⟨64 * n.val + w.val, by omega⟩ h d) := by
  pointwise [windows]
  split
  · refine congrArg (fun z => x (ix5 b c z h d)) (Fin.ext ?_)
    simp only []
    omega
  · split
    · refine congrArg (fun z => x (ix5 b c z h d)) (Fin.ext ?_)
      simp only []
      omega
    · refine congrArg (fun z => x (ix5 b c z h d)) (Fin.ext ?_)
      simp only []
      omega

theorem keyAt_apply (n : Fin 16) (w : Fin 192) : (keyAt (ix3 n 0 w)).toInt = 64 * n.val + w.val - 64 := by
  pointwise [keyAt]
  exact key_word n w

theorem away_apply (n : Fin 16) (r : Fin 64) (w : Fin 192) : (away (ix3 n r w)).toInt = |(w.val : ℤ) - 64 - r.val| := by
  have e : away (ix3 n r w) = IntOp.absi (IntOp.subi (keyAt (ix3 n 0 w)) (IntOp.addi (IntOp.muli (BitVec.ofNat 32 n.val) 64#32) (BitVec.ofNat 32 r.val))) := by
    pointwise [away]
  have s : (IntOp.subi (keyAt (ix3 n 0 w)) (IntOp.addi (IntOp.muli (BitVec.ofNat 32 n.val) 64#32) (BitVec.ofNat 32 r.val))).toInt = (w.val : ℤ) - 64 - r.val := by
    rw [toInt_sub_word _ _ (by rw [keyAt_apply, abs_lt]; omega) (by rw [query_word, abs_lt]; omega), keyAt_apply, query_word]
    omega
  rw [e, toInt_absi _ (by rw [s]; omega), s]

theorem seen_apply (n : Fin 16) (r : Fin 64) (w : Fin 192) :
    seen (ix3 n r w) = if Valid (64 * n.val + r.val) (64 * n.val + w.val) then 1#1 else 0#1 := by
  pointwise [seen]
  rw [sle_word, sge_word, slt_word, and_word, and_word, away_apply, keyAt_apply]
  refine if_congr ?_ rfl rfl
  rw [show (64#32).toInt = 64 from by decide, show (0#32).toInt = 0 from by decide, show (1024#32).toInt = 1024 from by decide, abs_le]
  unfold Valid
  omega

/-- What a distance costs a head. -/
theorem slope_bits (h : Fin 8) : Ideal.ofBits .f32 (lit0 h) = ((step h / 4 : ℝ) : EReal) := by
  fin_cases h <;> simp [lit0, step, Ideal.ofBits, Ideal.ieee, -EReal.coe_mul] <;> norm_num

theorem weights_apply (s : FVec Ideal S8x4x8x16x64x192 .f32) (b : Fin 8) (c : Fin 4) (h : Fin 8) (n : Fin 16) (r : Fin 64) (w : Fin 192) :
    weights s (ix6 b c h n r w) = Ideal.exp (s (ix6 b c h n r w) - logSum s (ix5 b c h n r)) := by
  pointwise [weights]

theorem attended_apply (s : FVec Ideal S8x4x8x16x64x192 .f32) (x : FVec Ideal S8x4x16x192x8x64 .f32) (b : Fin 8) (c : Fin 4) (n : Fin 16) (h : Fin 8) (d : Fin 64) (r : Fin 64) :
    attended s x (ix6 b c n h d r) = ∑ w : Fin 192, x (ix6 b c n w h d) * weights s (ix6 b c h n r w) := by
  pointwise [attended]

set_option maxHeartbeats 1000000 in
theorem lseLayout_apply (o : FVec Ideal S8x4x8x16x64 .f32) (b : Fin 8) (c : Fin 4) (t : Fin 1024) (l : Fin 128) :
    lseLayout o (ix4 b c t l) = if h : l.val % 64 < 4 then o (ix5 b c ⟨2 * (l.val % 64) + l.val / 64, by omega⟩ ⟨t.val / 64, by omega⟩ ⟨t.val % 64, by omega⟩) else 0 := by
  pointwise [lseLayout]
  by_cases h : l.val % 64 < 4
  · rw [dif_pos (by omega), dif_pos h]
    refine congrArg (fun z => o (ix5 b c z ⟨t.val / 64, by omega⟩ ⟨t.val % 64, by omega⟩)) (Fin.ext ?_)
    simp only []
    omega
  · rw [dif_neg (by omega), dif_neg h, zero_word]

/-! ## The reductions -/

theorem lift_last (h : S8x4x8x16x64x192.Reduces [5] S8x4x8x16x64) (b : Fin 8) (c : Fin 4) (e : Fin 8) (n : Fin 16) (r : Fin 64) (w : Fin 192) :
    h.lift (ix5 b c e n r) w = ix6 b c e n r w := by
  funext a
  match a with
  | 0 => rfl
  | 1 => rfl
  | 2 => rfl
  | 3 => rfl
  | 4 => rfl
  | 5 => rfl

theorem reduces_last : S8x4x8x16x64x192.Reduces [5] S8x4x8x16x64 := by decide

theorem rowMax (s : FVec Ideal S8x4x8x16x64x192 .f32) (b : Fin 8) (c : Fin 4) (h : Fin 8) (n : Fin 16) (r : Fin 64) :
    Host.reduce FloatOps.maximumf s (constant S_ .f32 0xFF800000#32) reducesTo_S8x4x8x16x64x192_S8x4x8x16x64_d5 h_S_ (ix5 b c h n r)
      = Finset.univ.fold max (Ideal.ofBits .f32 0xFF800000#32) (fun w : Fin 192 => s (ix6 b c h n r w)) := by
  refine (Host.reduce_eq_fold_single FloatOps.maximumf s _ reducesTo_S8x4x8x16x64x192_S8x4x8x16x64_d5 reduces_last h_S_ _).trans ?_
  have hf : s ∘ reduces_last.lift (ix5 b c h n r) = fun w : Fin 192 => s (ix6 b c h n r w) :=
    funext fun w => congrArg s (lift_last reduces_last b c h n r w)
  exact congrArg (fun f => Finset.fold max (Ideal.ofBits .f32 0xFF800000#32) f (Finset.univ : Finset (Fin 192))) hf

theorem rowSum (s : FVec Ideal S8x4x8x16x64x192 .f32) (b : Fin 8) (c : Fin 4) (h : Fin 8) (n : Fin 16) (r : Fin 64) :
    Ideal.hostReduceAdd reducesTo_S8x4x8x16x64x192_S8x4x8x16x64_d5 s 0 (ix5 b c h n r) = ∑ w : Fin 192, s (ix6 b c h n r w) := by
  unfold Ideal.hostReduceAdd
  rw [Shape.ReducesTo.drop_eq_drop reducesTo_S8x4x8x16x64x192_S8x4x8x16x64_d5 reduces_last, zero_add]
  refine (Shape.Reduces.sum_filter_drop_single reduces_last s _).trans ?_
  exact Finset.sum_congr rfl fun w _ => congrArg s (lift_last reduces_last b c h n r w)

theorem largest_apply (s : FVec Ideal S8x4x8x16x64x192 .f32) (b : Fin 8) (c : Fin 4) (h : Fin 8) (n : Fin 16) (r : Fin 64) :
    largest s (ix6 b c h n r 0) = Finset.univ.fold max (Ideal.ofBits .f32 0xFF800000#32) (fun w : Fin 192 => s (ix6 b c h n r w)) := by
  rw [← rowMax]
  unfold largest
  generalize Host.reduce FloatOps.maximumf s (constant S_ .f32 0xFF800000#32) reducesTo_S8x4x8x16x64x192_S8x4x8x16x64_d5 h_S_ = y
  pointwise []

theorem shifted_apply (s : FVec Ideal S8x4x8x16x64x192 .f32) (y : FVec Ideal S8x4x8x16x64x1 .f32) (b : Fin 8) (c : Fin 4) (h : Fin 8) (n : Fin 16) (r : Fin 64) (w : Fin 192) :
    Host.exp (subf s (broadcastInDim S8x4x8x16x64x192 ![0, 1, 2, 3, 4, 5] bcast_S8x4x8x16x64x1_S8x4x8x16x64x192_0_1_2_3_4_5 y)) (ix6 b c h n r w)
      = Ideal.exp (s (ix6 b c h n r w) - y (ix6 b c h n r 0)) := by
  pointwise []

theorem logSum_apply (s : FVec Ideal S8x4x8x16x64x192 .f32) (b : Fin 8) (c : Fin 4) (h : Fin 8) (n : Fin 16) (r : Fin 64) :
    logSum s (ix5 b c h n r) = Ideal.log (∑ w : Fin 192, Ideal.exp (s (ix6 b c h n r w) - largest s (ix6 b c h n r 0))) + largest s (ix6 b c h n r 0) := by
  pointwise [logSum]
  rw [rowSum]
  exact congrArg (fun z => Ideal.log z + largest s (ix6 b c h n r 0)) (Finset.sum_congr rfl fun w _ => shifted_apply s (largest s) b c h n r w)

end Cert.Attn.Reference

end
-- ==== Proof.OutLayout.lean ====
/- The output of the reference in the layout of the call, at an index. -/
module

public import proofs.«01_k».proof.Proof.Reference

@[expose] public section

set_option maxRecDepth 16384

noncomputable section

namespace Cert.Attn.Reference

open Idealize.ShloMosaic Idealize.ShloMosaic.TcCoe
open Cert.ReferenceIdeal Cert.ReferenceIdeal.Gen

theorem outLayout_apply (o : FVec Ideal S8x4x16x8x64x64 .f32) (b : Fin 8) (c : Fin 4) (t : Fin 1024) (l : Fin 512) :
    outLayout o (ix4 b c t l) = o (ix6 b c ⟨t.val / 64, by omega⟩ ⟨l.val / 64, by omega⟩ ⟨l.val % 64, by omega⟩ ⟨t.val % 64, by omega⟩) := by
  pointwise [outLayout]

end Cert.Attn.Reference

end
-- ==== Proof.Cost.lean ====
/- What the distance costs each head in the reference, at an index. -/
module

public import proofs.«01_k».proof.Proof.Reference

@[expose] public section

set_option maxRecDepth 16384

noncomputable section

namespace Cert.Attn.Reference

open Idealize.ShloMosaic Idealize.ShloMosaic.TcCoe
open Cert.ReferenceIdeal Cert.ReferenceIdeal.Gen

theorem cost_apply (h : Fin 8) (n : Fin 16) (r : Fin 64) (w : Fin 192) :
    cost (ix4 h n r w) = Ideal.ofBits .f32 (lit0 (S8.rowMajor (ix1 h))) * FloatOps.sitofp .f32 (IntOp.muli (away (ix3 n r w)) 4#32) := by
  pointwise [cost]

end Cert.Attn.Reference

end
-- ==== Proof.RefScores.lean ====
/- The scores of the reference, at an index. -/
module

public import proofs.«01_k».proof.Proof.Reference

@[expose] public section

set_option maxRecDepth 16384

noncomputable section

namespace Cert.Attn.Reference

open Idealize.ShloMosaic Idealize.ShloMosaic.TcCoe
open Cert.ReferenceIdeal Cert.ReferenceIdeal.Gen

theorem scores_apply (q k : FVec Ideal S8x4096x8x64 .f32) (b : Fin 8) (c : Fin 4) (h : Fin 8) (n : Fin 16) (r : Fin 64) (w : Fin 192) :
    scores q k (ix6 b c h n r w) = Scalar.select (seen (ix3 n r w)) ((∑ x : Fin 64, blocks q (ix6 b c n r h x) * windows (padded k) (ix6 b c n w h x)) * Ideal.ofBits .f32 0x3E000000#32 - cost (ix4 h n r w)) (Ideal.ofBits .f32 0xFF800000#32) := by
  pointwise [scores]

end Cert.Attn.Reference

end
-- ==== Proof.ReferenceValue.lean ====
/- The two arrays the reference leaves. -/
module

public import proofs.«01_k».proof.Proof.Lookup
public import proofs.«01_k».proof.Proof.OutLayout
public import proofs.«01_k».proof.Proof.Cost
public import proofs.«01_k».proof.Proof.RefScores

@[expose] public section

set_option maxRecDepth 16384

noncomputable section

namespace Cert.Attn.Reference

open Idealize.ShloMosaic Idealize.ShloMosaic.TcCoe
open Cert.ReferenceIdeal Cert.ReferenceIdeal.Gen

theorem infinity_bits : Ideal.ofBits .f32 0xFF800000#32 = ⊥ := by
  simp [Ideal.ofBits, Ideal.ieee]

theorem eighth_bits' : Ideal.ofBits .f32 0x3E000000#32 = ((1 / 8 : ℝ) : EReal) := by
  simp [Ideal.ofBits, Ideal.ieee, -EReal.coe_mul]; norm_num

theorem place_one (h : Fin 8) : (S8.rowMajor (ix1 h) : Fin 8) = h :=
  Fin.ext (Shape.rowMajor_val_one (ix1 h))

theorem cost_real (h : Fin 8) (n : Fin 16) (r : Fin 64) (w : Fin 192) :
    cost (ix4 h n r w) = ((step h * |(((64 * n.val + w.val : ℕ) : ℝ)) - 64 - ((64 * n.val + r.val : ℕ) : ℝ)| : ℝ) : EReal) := by
  have e : (FloatOps.sitofp .f32 (IntOp.muli (away (ix3 n r w)) 4#32) : Ideal .f32) = (((4 * |(w.val : ℤ) - 64 - r.val| : ℤ) : ℝ) : EReal) := by
    show (((IntOp.muli (away (ix3 n r w)) 4#32).toInt : ℝ) : EReal) = _
    rw [toInt_mul_word _ (by rw [away_apply, abs_abs, abs_lt]; omega), away_apply]
  rw [cost_apply, show lit0 (S8.rowMajor (ix1 h)) = lit0 h from congrArg lit0 (place_one h), slope_bits, e, ← EReal.coe_mul]
  congr 1
  push_cast
  rw [show (64 * (n.val : ℝ) + w.val) - 64 - (64 * n.val + r.val) = (w.val : ℝ) - 64 - r.val by ring]
  ring

variable {Q K : Fin 8 → Fin 4096 → Fin 8 → Fin 64 → ℝ} {q k : FVec Ideal S8x4096x8x64 .f32} {v : FVec Ideal S8x4096x8x64 .f32}
  {W : Fin 8 → Fin 4096 → Fin 8 → Fin 64 → EReal}

theorem padAt_coe (f : Fin 4096 → ℝ) (c : Fin 4) (x : ℕ) : padAt (fun p => ((f p : ℝ) : EReal)) c x = ((padAt f c x : ℝ) : EReal) := by
  unfold padAt
  split
  · rfl
  · rfl

theorem scores_real (hq : ∀ b p h d, q (ix4 b p h d) = ((Q b p h d : ℝ) : EReal)) (hk : ∀ b p h d, k (ix4 b p h d) = ((K b p h d : ℝ) : EReal))
    (b : Fin 8) (c : Fin 4) (h : Fin 8) (n : Fin 16) (r : Fin 64) (w : Fin 192) :
    scores q k (ix6 b c h n r w)
      = masked (score Q K b c h ⟨64 * n.val + r.val, by omega⟩) (64 * n.val + r.val) (64 * n.val + w.val) := by
  rw [scores_apply, seen_apply, select_word, masked, infinity_bits]
  refine if_congr Iff.rfl ?_ rfl
  rw [Finset.sum_congr rfl fun x _ => show blocks q (ix6 b c n r h x) * windows (padded k) (ix6 b c n w h x)
      = ((Q b (place c ⟨64 * n.val + r.val, by omega⟩) h x * padAt (fun p => K b p h x) c (64 * n.val + w.val) : ℝ) : EReal) from by
    rw [blocks_apply, hq, windows_apply, padded_apply, show (fun p => k (ix4 b p h x)) = fun p => ((K b p h x : ℝ) : EReal) from funext fun p => hk b p h x,
      padAt_coe, ← EReal.coe_mul]]
  rw [sum_coe, eighth_bits', cost_real, ← EReal.coe_mul, ← EReal.coe_sub, score]

theorem covers (n : Fin 16) (r : Fin 64) : Covers (64 * n.val + r.val) (64 * n.val) 192 := by
  intro x hx
  unfold Valid at hx
  omega

theorem largest_real (hq : ∀ b p h d, q (ix4 b p h d) = ((Q b p h d : ℝ) : EReal)) (hk : ∀ b p h d, k (ix4 b p h d) = ((K b p h d : ℝ) : EReal))
    (b : Fin 8) (c : Fin 4) (h : Fin 8) (n : Fin 16) (r : Fin 64) :
    largest (scores q k) (ix6 b c h n r 0)
      = ((top (score Q K b c h ⟨64 * n.val + r.val, by omega⟩) ⟨64 * n.val + r.val, by omega⟩ : ℝ) : EReal) := by
  rw [largest_apply, infinity_bits]
  simp only [scores_real hq hk]
  exact max_e (t := ⟨64 * n.val + r.val, by omega⟩) (covers n r) _

theorem logSum_real (hq : ∀ b p h d, q (ix4 b p h d) = ((Q b p h d : ℝ) : EReal)) (hk : ∀ b p h d, k (ix4 b p h d) = ((K b p h d : ℝ) : EReal))
    (b : Fin 8) (c : Fin 4) (h : Fin 8) (n : Fin 16) (r : Fin 64) :
    logSum (scores q k) (ix5 b c h n r)
      = ((lse (score Q K b c h ⟨64 * n.val + r.val, by omega⟩) ⟨64 * n.val + r.val, by omega⟩ : ℝ) : EReal) := by
  rw [logSum_apply, largest_real hq hk]
  simp only [scores_real hq hk]
  rw [total_e (t := ⟨64 * n.val + r.val, by omega⟩) (covers n r), Ideal.log_coe, if_neg (total_pos _ _).not_ge, ← EReal.coe_add, lse]

theorem split_rows (t : Fin 1024) : (⟨64 * (t.val / 64) + t.val % 64, by omega⟩ : Fin 1024) = t := Fin.ext (by simp only []; omega)

theorem reference_out (hq : ∀ b p h d, q (ix4 b p h d) = ((Q b p h d : ℝ) : EReal)) (hk : ∀ b p h d, k (ix4 b p h d) = ((K b p h d : ℝ) : EReal))
    (hv : ∀ b p h d, v (ix4 b p h d) = W b p h d) (b : Fin 8) (c : Fin 4) (t : Fin 1024) (l : Fin 512) :
    outLayout (attended (scores q k) (windows (padded v))) (ix4 b c t l) = outAt Q K W b c t l := by
  rw [outLayout_apply, attended_apply]
  have e : ∀ w : Fin 192, windows (padded v) (ix6 b c ⟨t.val / 64, by omega⟩ w ⟨l.val / 64, by omega⟩ ⟨l.val % 64, by omega⟩)
      * weights (scores q k) (ix6 b c ⟨l.val / 64, by omega⟩ ⟨t.val / 64, by omega⟩ ⟨t.val % 64, by omega⟩ w)
      = padAt (fun p => W b p ⟨l.val / 64, by omega⟩ ⟨l.val % 64, by omega⟩) c (64 * (t.val / 64) + w.val)
        * Ideal.exp (masked (score Q K b c ⟨l.val / 64, by omega⟩ t) t.val (64 * (t.val / 64) + w.val) - ((lse (score Q K b c ⟨l.val / 64, by omega⟩ t) t : ℝ) : EReal)) := by
    intro w
    rw [weights_apply, scores_real hq hk, logSum_real hq hk, windows_apply, padded_apply,
      show (fun p => v (ix4 b p ⟨l.val / 64, by omega⟩ ⟨l.val % 64, by omega⟩)) = fun p => W b p ⟨l.val / 64, by omega⟩ ⟨l.val % 64, by omega⟩ from funext fun p => hv b p _ _]
    simp only [split_rows]
    rw [show 64 * (t.val / 64) + t.val % 64 = t.val by omega]
  rw [Finset.sum_congr rfl fun w _ => e w]
  refine mean_e (t := t) (o := 64 * (t.val / 64)) (n := 192) ?_ _ (fun x => padAt (fun p => W b p ⟨l.val / 64, by omega⟩ ⟨l.val % 64, by omega⟩) c x)
  intro x hx
  unfold Valid at hx
  omega

theorem reference_lse (hq : ∀ b p h d, q (ix4 b p h d) = ((Q b p h d : ℝ) : EReal)) (hk : ∀ b p h d, k (ix4 b p h d) = ((K b p h d : ℝ) : EReal))
    (b : Fin 8) (c : Fin 4) (t : Fin 1024) (l : Fin 128) :
    lseLayout (logSum (scores q k)) (ix4 b c t l) = lseAt Q K b c t l := by
  rw [lseLayout_apply, lseAt]
  by_cases h : l.val % 64 < 4
  · rw [dif_pos h, dif_pos h, logSum_real hq hk]
    simp only [split_rows]
  · rw [dif_neg h, dif_neg h]

end Cert.Attn.Reference

end
-- ==== Proof.Finite.lean ====
/- The precondition read off: where the queries and the keys are finite, they are real numbers. -/
module

public import proofs.«01_k».proof.Proof.Inputs
public import proofs.«01_k».proof.Pre_finite_qk

@[expose] public section

set_option maxRecDepth 16384

noncomputable section

namespace Cert.Attn

open Idealize.ShloMosaic Idealize.ShloMosaic.TcCoe

theorem facts_finite : Cert.Pre_finite_qk.Facts where
  bcast_S_S8x4096x8x64 := by decide
  reducesTo_S8x4096x8x64_S_d0_1_2_3 := by decide
  h_S_ := by decide

theorem andi_one {x y : BitVec 1} (h : IntOp.andi x y = 1#1) : x = 1#1 ∧ y = 1#1 := by
  revert x y; decide

instance : Std.Commutative (IntOp.andi : BitVec 1 → BitVec 1 → BitVec 1) := ⟨by decide⟩
instance : Std.Associative (IntOp.andi : BitVec 1 → BitVec 1 → BitVec 1) := ⟨by decide⟩

theorem fold_one {ι : Type} (S : Finset ι) (f : ι → BitVec 1) (b : BitVec 1) (h : S.fold IntOp.andi b f = 1#1) : ∀ i ∈ S, f i = 1#1 := by
  induction S using Finset.cons_induction with
  | empty => intro i hi; exact absurd hi (Finset.notMem_empty i)
  | cons a S ha ih =>
    rw [Finset.fold_cons] at h
    intro i hi
    rcases Finset.mem_cons.1 hi with rfl | hi
    · exact (andi_one h).1
    · exact ih (andi_one h).2 i hi

theorem finite_of_lt {x : EReal} (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  have hl : max x (-x) < ⊤ := by
    by_contra hn
    simp [Ideal.cmp, hn] at h
  refine EReal.coe_toReal (fun ht => ?_) (fun hb => ?_)
  · rw [ht] at hl; simp at hl
  · rw [hb] at hl; simp at hl

section

variable [hF : Cert.Pre_finite_qk.Facts]

open Cert.Pre_finite_qk Cert.Pre_finite_qk.Facts

theorem all_finite (x : FVec Ideal S8x4096x8x64 .f32)
    (h : Host.reduce IntOp.andi (cmpf .olt (Host.absf x) (broadcastInDim S8x4096x8x64 ![] bcast_S_S8x4096x8x64 (constant (F := Ideal) S_ .f32 0x7F800000#32))) (constantI S_ 1 1#1) reducesTo_S8x4096x8x64_S_d0_1_2_3 h_S_ = fun _ => 1#1)
    (i : S8x4096x8x64.Idx) : (((x i).toReal : ℝ) : EReal) = x i := by
  have hj := congrFun h ix0
  rw [Host.reduce_eq_fold] at hj
  exact finite_of_lt (fold_one _ _ _ hj i (Finset.mem_filter.2 ⟨Finset.mem_univ _, funext fun a => a.elim0⟩))

theorem finite_real (q k v : FVec Ideal S8x4096x8x64 .f32) (h : fn (F := Ideal) q k v = fun _ => 1#1) :
    (∀ i, (((q i).toReal : ℝ) : EReal) = q i) ∧ ∀ i, (((k i).toReal : ℝ) : EReal) = k i := by
  have h1 := fun j => andi_one (congrFun h j)
  exact ⟨all_finite q (funext fun j => (h1 j).1), all_finite k (funext fun j => (h1 j).2)⟩

end

end Cert.Attn

end
-- ==== Proof.FfnParts.lean ====
/- What the feed-forward kernel's body stores and reads back, as functions of the chunk's number. The printed body unrolls its eleven chunks;
   here the projections written to the rotating buffer are one list by recursion, each chunk's contribution is one function of its number,
   the accumulator is its running sum, and the interleaved rows are one list of pairs of pieces. Each printed list is shown to be that. -/
module

public import proofs.«01_k».proof.Proof.Gen.Kernel2Ideal.Value

@[expose] public section

set_option maxRecDepth 16384

noncomputable section

namespace Cert.Ffn

open Idealize.ShloMosaic Idealize.ShloMosaic.TcCoe Idealize.ShloMosaic.Tactic
open Cert.Kernel2Ideal Cert.Kernel2Ideal.Gen

variable {F : FTy → Type} [FloatOps F]

/-! ## The projections of a chunk -/

section Rows

variable (u : Vec F S528x1024 .bf16) (arg5 : Memref sig .tc .vmem S1024x5632 .bf16) (f5 : arg5.view.ty.Contents (Elt F))

theorem up_inb (m : ℕ) : ∀ a, (![0, (2816 * (m / 2 % 2) + 256 * (m / 4)) % 5377] : Fin 2 → ℕ) a + S1024x256.size a ≤ S1024x5632.size a := by
  intro a
  have h : (2816 * (m / 2 % 2) + 256 * (m / 4)) % 5377 < 5377 := Nat.mod_lt _ (by decide)
  match a with
  | 0 => show 0 + 1024 ≤ 1024; omega
  | 1 => show (2816 * (m / 2 % 2) + 256 * (m / 4)) % 5377 + 256 ≤ 5632; omega

/-- The weights of half `m / 2 % 2` and chunk `m / 4`. -/
def upLoad (m : ℕ) : Vec F S1024x256 .bf16 :=
  View.readAt (Elt F) arg5.view (Rect.unit (s := S1024x5632) ![0, (2816 * (m / 2 % 2) + 256 * (m / 4)) % 5377] S1024x256.size (up_inb m)).toLoadRect f5

/-- The projections of half `m / 2 % 2` and chunk `m / 4`. -/
def upDot (m : ℕ) : FVec F S528x256 .f32 :=
  matmul dot_S528x1024_S1024x256_S528x256_1_0_0_1_n_n none u (shapeCast S1024x256 (upLoad arg5 f5 m) shapeCasts_S1024x256_S1024x256)
    (constant S528x256 .f32 0x00000000#32)

/-- Its 128 columns number `m % 2`. -/
def slab (m : ℕ) : FVec F S528x128 .f32 :=
  match m % 2 with
  | 0 => extractStridedSlice S528x128 ![0, 0] (upDot u arg5 f5 m) slices_S528x256_o0_0_S528x128
  | _ => extractStridedSlice S528x128 ![0, 128] (upDot u arg5 f5 m) slices_S528x256_o0_128_S528x128

theorem body_inb (m : ℕ) : ∀ a, (![m / 4 % 3, m / 2 % 2, m % 2, 0, 0] : Fin 5 → ℕ) a + S1x1x1x528x128.size a ≤ S3x2x2x536x128.size a := by
  intro a
  have h1 : m / 4 % 3 < 3 := Nat.mod_lt _ (by decide)
  have h2 : m / 2 % 2 < 2 := Nat.mod_lt _ (by decide)
  have h3 : m % 2 < 2 := Nat.mod_lt _ (by decide)
  match a with
  | 0 => show m / 4 % 3 + 1 ≤ 3; omega
  | 1 => show m / 2 % 2 + 1 ≤ 2; omega
  | 2 => show m % 2 + 1 ≤ 2; omega
  | 3 => show 0 + 528 ≤ 536; omega
  | 4 => show 0 + 128 ≤ 128; omega

theorem edge_inb (m : ℕ) : ∀ a, (![m / 4 % 3, m / 2 % 2, m % 2, 528, 0] : Fin 5 → ℕ) a + S1x1x1x1x128.size a ≤ S3x2x2x536x128.size a := by
  intro a
  have h1 : m / 4 % 3 < 3 := Nat.mod_lt _ (by decide)
  have h2 : m / 2 % 2 < 2 := Nat.mod_lt _ (by decide)
  have h3 : m % 2 < 2 := Nat.mod_lt _ (by decide)
  match a with
  | 0 => show m / 4 % 3 + 1 ≤ 3; omega
  | 1 => show m / 2 % 2 + 1 ≤ 2; omega
  | 2 => show m % 2 + 1 ≤ 2; omega
  | 3 => show 528 + 1 ≤ 536; omega
  | 4 => show 0 + 128 ≤ 128; omega

/-- The 528 rows of slab `m`. -/
def bodyPiece (m : ℕ) : View.Piece (Elt F) S3x2x2x536x128 .f32 :=
  ⟨Rect.unit ![m / 4 % 3, m / 2 % 2, m % 2, 0, 0] S1x1x1x528x128.size (body_inb m),
    shapeCast S1x1x1x528x128 (slab u arg5 f5 m) shapeCasts_S528x128_S1x1x1x528x128⟩

/-- The row after them: the first once more. -/
def edgePiece (m : ℕ) : View.Piece (Elt F) S3x2x2x536x128 .f32 :=
  ⟨Rect.unit ![m / 4 % 3, m / 2 % 2, m % 2, 528, 0] S1x1x1x1x128.size (edge_inb m),
    shapeCast S1x1x1x1x128 (extractStridedSlice S1x128 ![0, 0] (slab u arg5 f5 m) slices_S528x128_o0_0_S1x128) shapeCasts_S1x128_S1x1x1x1x128⟩

/-- The pieces of the first `n` slabs, the last first. -/
def rows : ℕ → List (View.Piece (Elt F) S3x2x2x536x128 .f32)
  | 0 => []
  | m + 1 => edgePiece u arg5 f5 m :: bodyPiece u arg5 f5 m :: rows m

end Rows

/-! ## A chunk's contribution -/

section Part

variable (arg12 : Memref sig .tc .vmem S3x2x2x536x128 .f32) (L : List (View.Piece (Elt F) S3x2x2x536x128 .f32))
  (arg6 : Memref sig .tc .vmem S3x5632 .f32) (f6 : arg6.view.ty.Contents (Elt F))
  (arg7 : Memref sig .tc .vmem S1x5632 .f32) (f7 : arg7.view.ty.Contents (Elt F))
  (arg8 : Memref sig .tc .vmem S2816x1024 .bf16) (f8 : arg8.view.ty.Contents (Elt F))

theorem slot_inb (k h s : ℕ) : ∀ a, (![k % 3, h % 2, s % 2, 0, 0] : Fin 5 → ℕ) a + S1x1x1x536x128.size a ≤ S3x2x2x536x128.size a := by
  intro a
  have h1 : k % 3 < 3 := Nat.mod_lt _ (by decide)
  have h2 : h % 2 < 2 := Nat.mod_lt _ (by decide)
  have h3 : s % 2 < 2 := Nat.mod_lt _ (by decide)
  match a with
  | 0 => show k % 3 + 1 ≤ 3; omega
  | 1 => show h % 2 + 1 ≤ 2; omega
  | 2 => show s % 2 + 1 ≤ 2; omega
  | 3 => show 0 + 536 ≤ 536; omega
  | 4 => show 0 + 128 ≤ 128; omega

theorem win_inb (d : ℕ) : ∀ a, S256x128.size a = 0 ∨ (![15 + d % 4, 0] : Fin 2 → ℕ) a + (![2, 1] : Fin 2 → ℕ) a * (S256x128.size a - 1) < S536x128.size a := by
  intro a
  have h : d % 4 < 4 := Nat.mod_lt _ (by decide)
  match a with
  | 0 => right; show 15 + d % 4 + 2 * (256 - 1) < 536; omega
  | 1 => right; show 0 + 1 * (128 - 1) < 128; omega

/-- Every second row from row `15 + d`. -/
def alternate (d : ℕ) : LoadRect S536x128 := ⟨![15 + d % 4, 0], S256x128.size, ![2, 1], win_inb d⟩

/-- The same rows with three leading axes of length one. -/
def lifted (d : ℕ) : LoadRect S1x1x1x536x128 :=
  (((alternate d).consLift ![1, 536, 128] rfl (by intro i; match i with | 0 => rfl | 1 => rfl)).consLift ![1, 1, 536, 128] rfl
      (by intro i; match i with | 0 => rfl | 1 => rfl | 2 => rfl)).consLift ![1, 1, 1, 536, 128] rfl
      (by intro i; match i with | 0 => rfl | 1 => rfl | 2 => rfl | 3 => rfl)

theorem lifted_numel (d : ℕ) : (alternate d).shape.numel = (lifted d).shape.numel := by
  unfold lifted
  exact (LoadRect.numel_consLift (alternate d) _ _ _).trans ((LoadRect.numel_consLift _ _ _ _).trans (LoadRect.numel_consLift _ _ _ _))

/-- Those rows of slot `k % 3`, half `h`, slab `s` of the rotating buffer. -/
def window (k h s d : ℕ) : LoadRect S3x2x2x536x128 :=
  Rect.withinL (s := S3x2x2x536x128) (Rect.unit ![k % 3, h % 2, s % 2, 0, 0] S1x1x1x536x128.size (slot_inb k h s)) (lifted d) (fun _ => rfl)

theorem window_numel (k h s d : ℕ) : (alternate d).shape.numel = (window k h s d).shape.numel :=
  lifted_numel d

/-- What is read there. -/
def win (k h s d : ℕ) : Vec F S256x128 .f32 :=
  LoadRect.valAlong (lr := alternate d) (LR := window k h s d) (window_numel k h s d) (arg12.view.readCov L (window k h s d))

theorem tap_inb (j n : ℕ) : ∀ a, (![j % 3, n % 5505] : Fin 2 → ℕ) a + S1x128.size a ≤ S3x5632.size a := by
  intro a
  have h1 : j % 3 < 3 := Nat.mod_lt _ (by decide)
  have h2 : n % 5505 < 5505 := Nat.mod_lt _ (by decide)
  match a with
  | 0 => show j % 3 + 1 ≤ 3; omega
  | 1 => show n % 5505 + 128 ≤ 5632; omega

/-- The filter's row `j` from column `n`. -/
def tap (j n : ℕ) : Vec F S1x128 .f32 :=
  View.readAt (Elt F) arg6.view (Rect.unit (s := S3x5632) ![j % 3, n % 5505] S1x128.size (tap_inb j n)).toLoadRect f6

theorem bias_inb (n : ℕ) : ∀ a, (![0, n % 5505] : Fin 2 → ℕ) a + S1x128.size a ≤ S1x5632.size a := by
  intro a
  have h2 : n % 5505 < 5505 := Nat.mod_lt _ (by decide)
  match a with
  | 0 => show 0 + 1 ≤ 1; omega
  | 1 => show n % 5505 + 128 ≤ 5632; omega

/-- The bias from column `n`. -/
def bias (n : ℕ) : Vec F S1x128 .f32 :=
  View.readAt (Elt F) arg7.view (Rect.unit (s := S1x5632) ![0, n % 5505] S1x128.size (bias_inb n)).toLoadRect f7

/-- Three rows weighted and biased. -/
def mix (w0 w1 w2 b : Vec F S1x128 .f32) (p q r : Vec F S256x128 .f32) : FVec F S256x128 .f32 :=
  addf (addf (addf (mulf (broadcastTo S256x128 (shapeCast S1x128 w0 shapeCasts_S1x128_S1x128) broadcasts_S1x128_S256x128) p)
    (mulf (broadcastTo S256x128 (shapeCast S1x128 w1 shapeCasts_S1x128_S1x128) broadcasts_S1x128_S256x128) q))
    (mulf (broadcastTo S256x128 (shapeCast S1x128 w2 shapeCasts_S1x128_S1x128) broadcasts_S1x128_S256x128) r))
    (broadcastTo S256x128 b broadcasts_S1x128_S256x128)

/-- The even (`e = 0`) or odd rows of chunk `k`'s convolution. -/
def convol (k h s e : ℕ) : FVec F S256x128 .f32 :=
  mix (tap arg6 f6 0 (2816 * h + 256 * k + 128 * s)) (tap arg6 f6 1 (2816 * h + 256 * k + 128 * s)) (tap arg6 f6 2 (2816 * h + 256 * k + 128 * s))
    (bias arg7 f7 (2816 * h + 256 * k + 128 * s)) (win arg12 L k h s e) (win arg12 L k h s (e + 1)) (win arg12 L k h s (e + 2))

/-- The gate: the first argument through its sigmoid, times the second. -/
def gateRows (a v : FVec F S256x128 .f32) : FVec F S256x128 .bf16 :=
  truncf .bf16 (mulf (mulf a (addf (mulf (broadcast S256x128 (Scalar.ofBits .f32 0x3F000000#32))
    (tanh (mulf (broadcast S256x128 (Scalar.ofBits .f32 0x3F000000#32)) a))) (broadcast S256x128 (Scalar.ofBits .f32 0x3F000000#32)))) v) bitsLt_bf16_f32

/-- The gated rows of chunk `k`, slab `s`. -/
def gates (k s e : ℕ) : FVec F S256x128 .bf16 :=
  gateRows (convol arg12 L arg6 f6 arg7 f7 k 0 s e) (convol arg12 L arg6 f6 arg7 f7 k 1 s e)

/-- All 512 gated rows of chunk `k`: the even ones above the odd ones. -/
def gateBlock (k : ℕ) : FVec F S512x256 .bf16 :=
  concatenate S512x256 0
    [⟨S256x256, concatenate S256x256 1 [⟨S256x128, gates arg12 L arg6 f6 arg7 f7 k 0 0⟩, ⟨S256x128, gates arg12 L arg6 f6 arg7 f7 k 1 0⟩]
      concatenates_S256x128_S256x128_S256x256_d1⟩,
     ⟨S256x256, concatenate S256x256 1 [⟨S256x128, gates arg12 L arg6 f6 arg7 f7 k 0 1⟩, ⟨S256x128, gates arg12 L arg6 f6 arg7 f7 k 1 1⟩]
      concatenates_S256x128_S256x128_S256x256_d1⟩] concatenates_S256x256_S256x256_S512x256_d0

theorem wdn_inb (k : ℕ) : ∀ a, (![256 * (k % 11), 0] : Fin 2 → ℕ) a + S256x1024.size a ≤ S2816x1024.size a := by
  intro a
  have h2 : k % 11 < 11 := Nat.mod_lt _ (by decide)
  match a with
  | 0 => show 256 * (k % 11) + 256 ≤ 2816; omega
  | 1 => show 0 + 1024 ≤ 1024; omega

/-- The down weights of chunk `k`. -/
def downLoad (k : ℕ) : Vec F S256x1024 .bf16 :=
  View.readAt (Elt F) arg8.view (Rect.unit (s := S2816x1024) ![256 * (k % 11), 0] S256x1024.size (wdn_inb k)).toLoadRect f8

/-- Chunk `k`'s contribution. -/
def part (k : ℕ) : FVec F S512x1024 .f32 :=
  matmul dot_S512x256_S256x1024_S512x1024_1_0_0_1_n_n none (gateBlock arg12 L arg6 f6 arg7 f7 k)
    (shapeCast S256x1024 (downLoad arg8 f8 k) shapeCasts_S256x1024_S256x1024) (constant S512x1024 .f32 0x00000000#32)

end Part

/-! ## The last rows -/

section Finish

variable (arg13 : Memref sig .tc .vmem S512x1024 .f32) (L2 : List (View.Piece (Elt F) S512x1024 .f32))
  (arg14 : Memref sig .tc .vmem S8x512x128 .f32) (L3 : List (View.Piece (Elt F) S8x512x128 .f32))

theorem half_inb (s e : ℕ) : ∀ a, (![256 * (e % 2), 128 * (s % 8)] : Fin 2 → ℕ) a + S256x128.size a ≤ S512x1024.size a := by
  intro a
  have h1 : e % 2 < 2 := Nat.mod_lt _ (by decide)
  have h2 : s % 8 < 8 := Nat.mod_lt _ (by decide)
  match a with
  | 0 => show 256 * (e % 2) + 256 ≤ 512; omega
  | 1 => show 128 * (s % 8) + 128 ≤ 1024; omega

/-- Columns `128 s` on of the accumulator's upper (`e = 0`) or lower half. -/
def accRead (s e : ℕ) : Vec F S256x128 .f32 :=
  arg13.view.readCov L2 (Rect.unit (s := S512x1024) ![256 * (e % 2), 128 * (s % 8)] S256x128.size (half_inb s e)).toLoadRect

theorem perm_inb (s e : ℕ) : ∀ a, S1x256x128.size a = 0 ∨
    (![s % 8, e % 2, 0] : Fin 3 → ℕ) a + (![1, 2, 1] : Fin 3 → ℕ) a * (S1x256x128.size a - 1) < S8x512x128.size a := by
  intro a
  have h1 : e % 2 < 2 := Nat.mod_lt _ (by decide)
  have h2 : s % 8 < 8 := Nat.mod_lt _ (by decide)
  match a with
  | 0 => right; show s % 8 + 1 * (1 - 1) < 8; omega
  | 1 => right; show e % 2 + 2 * (256 - 1) < 512; omega
  | 2 => right; show 0 + 1 * (128 - 1) < 128; omega

theorem perm_pos : ∀ a, 0 < (![1, 2, 1] : Fin 3 → ℕ) a := by
  intro a
  match a with
  | 0 => exact Nat.one_pos
  | 1 => exact Nat.two_pos
  | 2 => exact Nat.one_pos

/-- They go to the even or odd rows of slab `s`. -/
def permPiece (s e : ℕ) : View.Piece (Elt F) S8x512x128 .f32 :=
  ⟨{ off := ![s % 8, e % 2, 0], size := S1x256x128.size, stride := ![1, 2, 1], inb := perm_inb s e, stride_pos := perm_pos },
    shapeCast S1x256x128 (accRead arg13 L2 s e) shapeCasts_S256x128_S1x256x128⟩

/-- The pieces of the first slabs, the last first. -/
def perms : ℕ → List (View.Piece (Elt F) S8x512x128 .f32)
  | 0 => []
  | s + 1 => permPiece arg13 L2 s 1 :: permPiece arg13 L2 s 0 :: perms s

theorem slab_inb (s : ℕ) : ∀ a, (![s % 8, 0, 0] : Fin 3 → ℕ) a + S1x512x128.size a ≤ S8x512x128.size a := by
  intro a
  have h2 : s % 8 < 8 := Nat.mod_lt _ (by decide)
  match a with
  | 0 => show s % 8 + 1 ≤ 8; omega
  | 1 => show 0 + 512 ≤ 512; omega
  | 2 => show 0 + 128 ≤ 128; omega

/-- Slab `s`, all rows in order. -/
def permRead (s : ℕ) : FVec F S512x128 .f32 :=
  shapeCast S512x128 (arg14.view.readCov L3 (Rect.unit (s := S8x512x128) ![s % 8, 0, 0] S1x512x128.size (slab_inb s)).toLoadRect) shapeCasts_S1x512x128_S512x128

/-- The residual stream plus the eight slabs side by side. -/
def sumRows (h : Vec F S512x1024 .f32) : FVec F S512x1024 .f32 :=
  addf (shapeCast S512x1024 h shapeCasts_S512x1024_S512x1024)
    (concatenate S512x1024 1 [⟨S512x128, permRead arg14 L3 0⟩, ⟨S512x128, permRead arg14 L3 1⟩, ⟨S512x128, permRead arg14 L3 2⟩,
      ⟨S512x128, permRead arg14 L3 3⟩, ⟨S512x128, permRead arg14 L3 4⟩, ⟨S512x128, permRead arg14 L3 5⟩, ⟨S512x128, permRead arg14 L3 6⟩,
      ⟨S512x128, permRead arg14 L3 7⟩]
      concatenates_S512x128_S512x128_S512x128_S512x128_S512x128_S512x128_S512x128_S512x128_S512x1024_d1)

/-- Rows over their root mean square, times the gain. -/
def finish (y : FVec F S512x1024 .f32) (g : Vec F S1x1024 .f32) : FVec F S512x1024 .f32 :=
  mulf (mulf y (broadcastTo S512x1024 (rsqrt (addf
    (divf (shapeCast S512x1 (multiReduction .add [1] S512 (mulf y y) 0x00000000#32 reduces_S512x1024_S512 (.inl rfl) rfl) shapeCasts_S512_S512x1)
      (broadcast S512x1 (Scalar.ofBits .f32 0x44800000#32)))
    (broadcast S512x1 (Scalar.ofBits .f32 0x358637BD#32)))) broadcasts_S512x1_S512x1024))
    (broadcastTo S512x1024 (shapeCast S1x1024 g shapeCasts_S1x1024_S1x1024) broadcasts_S1x1024_S512x1024)

end Finish

end Cert.Ffn

end
-- ==== Proof.FfnPieces.lean ====
/- The lists of stores of the feed-forward kernel's body, as printed, are the values of the functions of `FfnParts`: the projections written
   before each chunk, the accumulator after each chunk, the interleaved rows, and the block stored last. -/
module

public import proofs.«01_k».proof.Proof.FfnParts

@[expose] public section

set_option maxRecDepth 16384

noncomputable section

namespace Cert.Ffn

open Idealize.ShloMosaic Idealize.ShloMosaic.TcCoe Idealize.ShloMosaic.Tactic
open Cert.Kernel2Ideal Cert.Kernel2Ideal.Gen

variable {F : FTy → Type} [FloatOps F]

section Runs

variable (c : Dev nD) (i : grid0.Coords) (arg1 : Memref sig .tc .vmem S16x1024 .bf16) (harg1 : arg1.IsWhole)
  (arg2 : Memref sig .tc .vmem S512x1024 .bf16) (harg2 : arg2.IsWhole) (arg3 : Memref sig .tc .vmem S16x1024 .bf16) (harg3 : arg3.IsWhole)
  (arg4 : Memref sig .tc .vmem S512x1024 .f32) (harg4 : arg4.IsWhole) (arg5 : Memref sig .tc .vmem S1024x5632 .bf16) (harg5 : arg5.IsWhole)
  (arg6 : Memref sig .tc .vmem S3x5632 .f32) (harg6 : arg6.IsWhole) (arg7 : Memref sig .tc .vmem S1x5632 .f32) (harg7 : arg7.IsWhole)
  (arg8 : Memref sig .tc .vmem S2816x1024 .bf16) (harg8 : arg8.IsWhole) (arg9 : Memref sig .tc .vmem S1x1024 .f32) (harg9 : arg9.IsWhole)
  (arg10 : Memref sig .tc .vmem S512x1024 .f32) (harg10 : arg10.IsWhole) (arg11 : Memref sig .tc .vmem S528x1024 .bf16) (harg11 : arg11.IsWhole)
  (arg12 : Memref sig .tc .vmem S3x2x2x536x128 .f32) (harg12 : arg12.IsWhole) (arg13 : Memref sig .tc .vmem S512x1024 .f32) (harg13 : arg13.IsWhole)
  (arg14 : Memref sig .tc .vmem S8x512x128 .f32) (harg14 : arg14.IsWhole)
  (x0 : Vec F S16x1024 .bf16) (x1 : Vec F S512x1024 .bf16) (x2 : Vec F S16x1024 .bf16) (x3 : Vec F S512x1024 .f32) (x4 : Vec F S1024x5632 .bf16)
  (x5 : Vec F S3x5632 .f32) (x6 : Vec F S1x5632 .f32) (x7 : Vec F S2816x1024 .bf16) (x8 : Vec F S1x1024 .f32)

theorem rows_12 : kernelRun0_A.sl.HS1_24 c i arg1 harg1 arg2 harg2 arg3 harg3 arg5 harg5 arg11 x0 x1 x2 x4
    = rows (kernelRun0_A.sl.v40 c i arg1 harg1 arg2 harg2 arg3 harg3 arg11 x0 x1 x2) arg5 (harg5.unread x4) 12 := by
  sl_kernel_rfl

theorem rows_16 : kernelRun0_A.sl.HS1_32 c i arg1 harg1 arg2 harg2 arg3 harg3 arg5 harg5 arg11 x0 x1 x2 x4
    = rows (kernelRun0_A.sl.v40 c i arg1 harg1 arg2 harg2 arg3 harg3 arg11 x0 x1 x2) arg5 (harg5.unread x4) 16 := by
  sl_kernel_rfl

theorem rows_20 : kernelRun0_A.sl.HS1_40 c i arg1 harg1 arg2 harg2 arg3 harg3 arg5 harg5 arg11 x0 x1 x2 x4
    = rows (kernelRun0_A.sl.v40 c i arg1 harg1 arg2 harg2 arg3 harg3 arg11 x0 x1 x2) arg5 (harg5.unread x4) 20 := by
  sl_kernel_rfl

theorem rows_24 : kernelRun0_A.sl.HS1_48 c i arg1 harg1 arg2 harg2 arg3 harg3 arg5 harg5 arg11 x0 x1 x2 x4
    = rows (kernelRun0_A.sl.v40 c i arg1 harg1 arg2 harg2 arg3 harg3 arg11 x0 x1 x2) arg5 (harg5.unread x4) 24 := by
  sl_kernel_rfl

theorem rows_28 : kernelRun0_A.sl.HS1_56 c i arg1 harg1 arg2 harg2 arg3 harg3 arg5 harg5 arg11 x0 x1 x2 x4
    = rows (kernelRun0_A.sl.v40 c i arg1 harg1 arg2 harg2 arg3 harg3 arg11 x0 x1 x2) arg5 (harg5.unread x4) 28 := by
  sl_kernel_rfl

theorem rows_32 : kernelRun0_A.sl.HS1_64 c i arg1 harg1 arg2 harg2 arg3 harg3 arg5 harg5 arg11 x0 x1 x2 x4
    = rows (kernelRun0_A.sl.v40 c i arg1 harg1 arg2 harg2 arg3 harg3 arg11 x0 x1 x2) arg5 (harg5.unread x4) 32 := by
  sl_kernel_rfl

theorem rows_36 : kernelRun0_A.sl.HS1_72 c i arg1 harg1 arg2 harg2 arg3 harg3 arg5 harg5 arg11 x0 x1 x2 x4
    = rows (kernelRun0_A.sl.v40 c i arg1 harg1 arg2 harg2 arg3 harg3 arg11 x0 x1 x2) arg5 (harg5.unread x4) 36 := by
  sl_kernel_rfl

theorem rows_40 : kernelRun0_A.sl.HS1_80 c i arg1 harg1 arg2 harg2 arg3 harg3 arg5 harg5 arg11 x0 x1 x2 x4
    = rows (kernelRun0_A.sl.v40 c i arg1 harg1 arg2 harg2 arg3 harg3 arg11 x0 x1 x2) arg5 (harg5.unread x4) 40 := by
  sl_kernel_rfl

theorem rows_44 : kernelRun0_A.sl.HS1_88 c i arg1 harg1 arg2 harg2 arg3 harg3 arg5 harg5 arg11 x0 x1 x2 x4
    = rows (kernelRun0_A.sl.v40 c i arg1 harg1 arg2 harg2 arg3 harg3 arg11 x0 x1 x2) arg5 (harg5.unread x4) 44 := by
  sl_kernel_rfl

theorem acc_1 : kernelRun0_A.sl.HS2_1 c i arg1 harg1 arg2 harg2 arg3 harg3 arg5 harg5 arg6 harg6 arg7 harg7 arg8 harg8 arg11 arg12 x0 x1 x2 x4 x5 x6 x7
    = [⟨Rect.unit ![0, 0] S512x1024.size inb_S512x1024_S512x1024_0_0,
        shapeCast S512x1024 (part arg12 (kernelRun0_A.sl.HS1_24 c i arg1 harg1 arg2 harg2 arg3 harg3 arg5 harg5 arg11 x0 x1 x2 x4) arg6 (harg6.unread x5) arg7 (harg7.unread x6) arg8 (harg8.unread x7) 0)
          shapeCasts_S512x1024_S512x1024⟩] := by
  sl_kernel_rfl

theorem acc_2 : kernelRun0_A.sl.HS2_2 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_1 c i arg1 harg1 arg2 harg2 arg3 harg3 arg5 harg5 arg6 harg6 arg7 harg7 arg8 harg8 arg11 arg12 x0 x1 x2 x4 x5 x6 x7) (Rect.unit ![0, 0] S512x1024.size inb_S512x1024_S512x1024_0_0).toLoadRect)
            (part arg12 (kernelRun0_A.sl.HS1_32 c i arg1 harg1 arg2 harg2 arg3 harg3 arg5 harg5 arg11 x0 x1 x2 x4) arg6 (harg6.unread x5) arg7 (harg7.unread x6) arg8 (harg8.unread x7) 1))
          shapeCasts_S512x1024_S512x1024⟩ :: kernelRun0_A.sl.HS2_1 c i arg1 harg1 arg2 harg2 arg3 harg3 arg5 harg5 arg6 harg6 arg7 harg7 arg8 harg8 arg11 arg12 x0 x1 x2 x4 x5 x6 x7 := by
  sl_kernel_rfl

theorem acc_3 : kernelRun0_A.sl.HS2_3 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_2 c i arg1 harg1 arg2 harg2 arg3 harg3 arg5 harg5 arg6 harg6 arg7 harg7 arg8 harg8 arg11 arg12 arg13 x0 x1 x2 x4 x5 x6 x7) (Rect.unit ![0, 0] S512x1024.size inb_S512x1024_S512x1024_0_0).toLoadRect)
            (part arg12 (kernelRun0_A.sl.HS1_40 c i arg1 harg1 arg2 harg2 arg3 harg3 arg5 harg5 arg11 x0 x1 x2 x4) arg6 (harg6.unread x5) arg7 (harg7.unread x6) arg8 (harg8.unread x7) 2))
          shapeCasts_S512x1024_S512x1024⟩ :: kernelRun0_A.sl.HS2_2 c i arg1 harg1 arg2 harg2 arg3 harg3 arg5 harg5 arg6 harg6 arg7 harg7 arg8 harg8 arg11 arg12 arg13 x0 x1 x2 x4 x5 x6 x7 := by
  sl_kernel_rfl

theorem acc_4 : kernelRun0_A.sl.HS2_4 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_3 c i arg1 harg1 arg2 harg2 arg3 harg3 arg5 harg5 arg6 harg6 arg7 harg7 arg8 harg8 arg11 arg12 arg13 x0 x1 x2 x4 x5 x6 x7) (Rect.unit ![0, 0] S512x1024.size inb_S512x1024_S512x1024_0_0).toLoadRect)
            (part arg12 (kernelRun0_A.sl.HS1_48 c i arg1 harg1 arg2 harg2 arg3 harg3 arg5 harg5 arg11 x0 x1 x2 x4) arg6 (harg6.unread x5) arg7 (harg7.unread x6) arg8 (harg8.unread x7) 3))
          shapeCasts_S512x1024_S512x1024⟩ :: kernelRun0_A.sl.HS2_3 c i arg1 harg1 arg2 harg2 arg3 harg3 arg5 harg5 arg6 harg6 arg7 harg7 arg8 harg8 arg11 arg12 arg13 x0 x1 x2 x4 x5 x6 x7 := by
  sl_kernel_rfl

theorem acc_5 : kernelRun0_A.sl.HS2_5 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_4 c i arg1 harg1 arg2 harg2 arg3 harg3 arg5 harg5 arg6 harg6 arg7 harg7 arg8 harg8 arg11 arg12 arg13 x0 x1 x2 x4 x5 x6 x7) (Rect.unit ![0, 0] S512x1024.size inb_S512x1024_S512x1024_0_0).toLoadRect)
            (part arg12 (kernelRun0_A.sl.HS1_56 c i arg1 harg1 arg2 harg2 arg3 harg3 arg5 harg5 arg11 x0 x1 x2 x4) arg6 (harg6.unread x5) arg7 (harg7.unread x6) arg8 (harg8.unread x7) 4))
          shapeCasts_S512x1024_S512x1024⟩ :: kernelRun0_A.sl.HS2_4 c i arg1 harg1 arg2 harg2 arg3 harg3 arg5 harg5 arg6 harg6 arg7 harg7 arg8 harg8 arg11 arg12 arg13 x0 x1 x2 x4 x5 x6 x7 := by
  sl_kernel_rfl

theorem acc_6 : kernelRun0_A.sl.HS2_6 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_5 c i arg1 harg1 arg2 harg2 arg3 harg3 arg5 harg5 arg6 harg6 arg7 harg7 arg8 harg8 arg11 arg12 arg13 x0 x1 x2 x4 x5 x6 x7) (Rect.unit ![0, 0] S512x1024.size inb_S512x1024_S512x1024_0_0).toLoadRect)
            (part arg12 (kernelRun0_A.sl.HS1_64 c i arg1 harg1 arg2 harg2 arg3 harg3 arg5 harg5 arg11 x0 x1 x2 x4) arg6 (harg6.unread x5) arg7 (harg7.unread x6) arg8 (harg8.unread x7) 5))
          shapeCasts_S512x1024_S512x1024⟩ :: kernelRun0_A.sl.HS2_5 c i arg1 harg1 arg2 harg2 arg3 harg3 arg5 harg5 arg6 harg6 arg7 harg7 arg8 harg8 arg11 arg12 arg13 x0 x1 x2 x4 x5 x6 x7 := by
  sl_kernel_rfl

theorem acc_7 : kernelRun0_A.sl.HS2_7 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_6 c i arg1 harg1 arg2 harg2 arg3 harg3 arg5 harg5 arg6 harg6 arg7 harg7 arg8 harg8 arg11 arg12 arg13 x0 x1 x2 x4 x5 x6 x7) (Rect.unit ![0, 0] S512x1024.size inb_S512x1024_S512x1024_0_0).toLoadRect)
            (part arg12 (kernelRun0_A.sl.HS1_72 c i arg1 harg1 arg2 harg2 arg3 harg3 arg5 harg5 arg11 x0 x1 x2 x4) arg6 (harg6.unread x5) arg7 (harg7.unread x6) arg8 (harg8.unread x7) 6))
          shapeCasts_S512x1024_S512x1024⟩ :: kernelRun0_A.sl.HS2_6 c i arg1 harg1 arg2 harg2 arg3 harg3 arg5 harg5 arg6 harg6 arg7 harg7 arg8 harg8 arg11 arg12 arg13 x0 x1 x2 x4 x5 x6 x7 := by
  sl_kernel_rfl

theorem acc_8 : kernelRun0_A.sl.HS2_8 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_7 c i arg1 harg1 arg2 harg2 arg3 harg3 arg5 harg5 arg6 harg6 arg7 harg7 arg8 harg8 arg11 arg12 arg13 x0 x1 x2 x4 x5 x6 x7) (Rect.unit ![0, 0] S512x1024.size inb_S512x1024_S512x1024_0_0).toLoadRect)
            (part arg12 (kernelRun0_A.sl.HS1_80 c i arg1 harg1 arg2 harg2 arg3 harg3 arg5 harg5 arg11 x0 x1 x2 x4) arg6 (harg6.unread x5) arg7 (harg7.unread x6) arg8 (harg8.unread x7) 7))
          shapeCasts_S512x1024_S512x1024⟩ :: kernelRun0_A.sl.HS2_7 c i arg1 harg1 arg2 harg2 arg3 harg3 arg5 harg5 arg6 harg6 arg7 harg7 arg8 harg8 arg11 arg12 arg13 x0 x1 x2 x4 x5 x6 x7 := by
  sl_kernel_rfl

theorem acc_9 : kernelRun0_A.sl.HS2_9 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_8 c i arg1 harg1 arg2 harg2 arg3 harg3 arg5 harg5 arg6 harg6 arg7 harg7 arg8 harg8 arg11 arg12 arg13 x0 x1 x2 x4 x5 x6 x7) (Rect.unit ![0, 0] S512x1024.size inb_S512x1024_S512x1024_0_0).toLoadRect)
            (part arg12 (kernelRun0_A.sl.HS1_88 c i arg1 harg1 arg2 harg2 arg3 harg3 arg5 harg5 arg11 x0 x1 x2 x4) arg6 (harg6.unread x5) arg7 (harg7.unread x6) arg8 (harg8.unread x7) 8))
          shapeCasts_S512x1024_S512x1024⟩ :: kernelRun0_A.sl.HS2_8 c i arg1 harg1 arg2 harg2 arg3 harg3 arg5 harg5 arg6 harg6 arg7 harg7 arg8 harg8 arg11 arg12 arg13 x0 x1 x2 x4 x5 x6 x7 := by
  sl_kernel_rfl

theorem acc_10 : kernelRun0_A.sl.HS2_10 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_9 c i arg1 harg1 arg2 harg2 arg3 harg3 arg5 harg5 arg6 harg6 arg7 harg7 arg8 harg8 arg11 arg12 arg13 x0 x1 x2 x4 x5 x6 x7) (Rect.unit ![0, 0] S512x1024.size inb_S512x1024_S512x1024_0_0).toLoadRect)
            (part arg12 (kernelRun0_A.sl.HS1_88 c i arg1 harg1 arg2 harg2 arg3 harg3 arg5 harg5 arg11 x0 x1 x2 x4) arg6 (harg6.unread x5) arg7 (harg7.unread x6) arg8 (harg8.unread x7) 9))
          shapeCasts_S512x1024_S512x1024⟩ :: kernelRun0_A.sl.HS2_9 c i arg1 harg1 arg2 harg2 arg3 harg3 arg5 harg5 arg6 harg6 arg7 harg7 arg8 harg8 arg11 arg12 arg13 x0 x1 x2 x4 x5 x6 x7 := by
  sl_kernel_rfl

theorem acc_11 : kernelRun0_A.sl.HS2_11 c i arg1 harg1 arg2 harg2 arg3 harg3 arg5 harg5 arg6 harg6 arg7 harg7 arg8 harg8 arg11 arg12 arg13 x0 x1 x2 x4 x5 x6 x7
    = ⟨Rect.unit ![0, 0] S512x1024.size inb_S512x1024_S512x1024_0_0,
        shapeCast S512x1024
          (addf (arg13.view.readCov (kernelRun0_A.sl.HS2_10 c i arg1 harg1 arg2 harg2 arg3 harg3 arg5 harg5 arg6 harg6 arg7 harg7 arg8 harg8 arg11 arg12 arg13 x0 x1 x2 x4 x5 x6 x7) (Rect.unit ![0, 0] S512x1024.size inb_S512x1024_S512x1024_0_0).toLoadRect)
            (part arg12 (kernelRun0_A.sl.HS1_88 c i arg1 harg1 arg2 harg2 arg3 harg3 arg5 harg5 arg11 x0 x1 x2 x4) arg6 (harg6.unread x5) arg7 (harg7.unread x6) arg8 (harg8.unread x7) 10))
          shapeCasts_S512x1024_S512x1024⟩ :: kernelRun0_A.sl.HS2_10 c i arg1 harg1 arg2 harg2 arg3 harg3 arg5 harg5 arg6 harg6 arg7 harg7 arg8 harg8 arg11 arg12 arg13 x0 x1 x2 x4 x5 x6 x7 := by
  sl_kernel_rfl

theorem perms_8 : kernelRun0_A.sl.HS3_16 c i arg1 harg1 arg2 harg2 arg3 harg3 arg5 harg5 arg6 harg6 arg7 harg7 arg8 harg8 arg11 arg12 arg13 x0 x1 x2 x4 x5 x6 x7
    = perms arg13 (kernelRun0_A.sl.HS2_11 c i arg1 harg1 arg2 harg2 arg3 harg3 arg5 harg5 arg6 harg6 arg7 harg7 arg8 harg8 arg11 arg12 arg13 x0 x1 x2 x4 x5 x6 x7) 8 := by
  sl_kernel_rfl

theorem out_pieces : (kernelRun0_A c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7 x8).1
    = [⟨Rect.unit ![0, 0] S512x1024.size inb_S512x1024_S512x1024_0_0,
        finish (sumRows arg14 (kernelRun0_A.sl.HS3_16 c i arg1 harg1 arg2 harg2 arg3 harg3 arg5 harg5 arg6 harg6 arg7 harg7 arg8 harg8 arg11 arg12 arg13 x0 x1 x2 x4 x5 x6 x7)
          (View.readAt (Elt F) arg4.view (Rect.unit ![0, 0] S512x1024.size inb_S512x1024_S512x1024_0_0).toLoadRect (harg4.unread x3)))
          (View.readAt (Elt F) arg9.view (Rect.unit ![0, 0] S1x1024.size inb_S1x1024_S1x1024_0_0).toLoadRect (harg9.unread x8))⟩] := by
  sl_kernel_rfl

theorem ext_rows : kernelRun0_A.sl.v40 c i arg1 harg1 arg2 harg2 arg3 harg3 arg11 x0 x1 x2
    = arg11.view.readCov
        [⟨Rect.unit ![16, 0] S512x1024.size inb_S528x1024_S512x1024_16_0,
          k0_pay4 (k0_pay3 (View.readAt (Elt F) arg2.view (Rect.unit ![0, 0] S512x1024.size inb_S512x1024_S512x1024_0_0).toLoadRect (harg2.unread x1)))⟩,
         ⟨Rect.unit ![0, 0] S16x1024.size inb_S528x1024_S16x1024_0_0,
          k0_pay2 i (View.readAt (Elt F) arg3.view (Rect.unit ![0, 0] S16x1024.size inb_S16x1024_S16x1024_0_0).toLoadRect (harg3.unread x2))
            (View.readAt (Elt F) arg1.view (Rect.unit ![0, 0] S16x1024.size inb_S16x1024_S16x1024_0_0).toLoadRect (harg1.unread x0))⟩]
        (Rect.unit ![0, 0] S528x1024.size inb_S528x1024_S528x1024_0_0).toLoadRect := by
  sl_kernel_rfl

end Runs

end Cert.Ffn

end
-- ==== Proof.FfnRows.lean ====
/- What the feed-forward kernel's body reads back from the rotating buffer: a chunk's projections, the row after the last being the first. -/
module

public import proofs.«01_k».proof.Proof.FfnParts
public import Idealize.ShloMosaic.Lib.Pointwise

@[expose] public section

set_option maxRecDepth 16384

noncomputable section

namespace Cert.Ffn

open Idealize.ShloMosaic Idealize.ShloMosaic.TcCoe
open Cert.Kernel2Ideal Cert.Kernel2Ideal.Gen

variable (u : Vec Ideal S528x1024 .bf16) (arg5 : Memref sig .tc .vmem S1024x5632 .bf16) (harg5 : arg5.IsWhole)
  (w : Vec Ideal S1024x5632 .bf16)

/-- The projection of row `r` on column `n`. -/
def proj (r : Fin 528) (n : Fin 5632) : EReal := ∑ x : Fin 1024, u (ix2 r x) * w (ix2 x n)

theorem upLoad_apply (m : ℕ) (hm : m < 44) (x : Fin 1024) (l : Fin 256) :
    upLoad arg5 (harg5.unread w) m (ix2 x l) = w (ix2 x ⟨2816 * (m / 2 % 2) + 256 * (m / 4) + l.val, by omega⟩) := by
  refine (congrFun (harg5.read_unread w) _).trans (congrArg w ?_)
  funext a
  match a with
  | 0 => exact Fin.ext (by show 0 + 1 * x.val = x.val; omega)
  | 1 => exact Fin.ext (by show (2816 * (m / 2 % 2) + 256 * (m / 4)) % 5377 + 1 * l.val = 2816 * (m / 2 % 2) + 256 * (m / 4) + l.val; omega)

theorem upDot_apply (m : ℕ) (hm : m < 44) (r : Fin 528) (l : Fin 256) :
    upDot u arg5 (harg5.unread w) m (ix2 r l) = proj u w r ⟨2816 * (m / 2 % 2) + 256 * (m / 4) + l.val, by omega⟩ := by
  have e : upDot u arg5 (harg5.unread w) m (ix2 r l) = ∑ x : Fin 1024, u (ix2 r x) * upLoad arg5 (harg5.unread w) m (ix2 x l) := by
    pointwise [upDot]
  rw [e]
  exact Finset.sum_congr rfl fun x _ => by rw [upLoad_apply arg5 harg5 w m hm]

theorem slab_apply (m : ℕ) (hm : m < 44) (r : Fin 528) (l : Fin 128) :
    slab u arg5 (harg5.unread w) m (ix2 r l) = proj u w r ⟨2816 * (m / 2 % 2) + 256 * (m / 4) + 128 * (m % 2) + l.val, by omega⟩ := by
  rcases Nat.mod_two_eq_zero_or_one m with e0 | e0
  · have e1 : slab u arg5 (harg5.unread w) m = extractStridedSlice S528x128 ![0, 0] (upDot u arg5 (harg5.unread w) m) slices_S528x256_o0_0_S528x128 := by
      unfold slab; rw [e0]; rfl
    rw [e1]
    have e : extractStridedSlice S528x128 ![0, 0] (upDot u arg5 (harg5.unread w) m) slices_S528x256_o0_0_S528x128 (ix2 r l)
        = upDot u arg5 (harg5.unread w) m (ix2 r ⟨l.val, by omega⟩) := by
      pointwise
    rw [e, upDot_apply u arg5 harg5 w m hm]
    exact congrArg (proj u w r) (Fin.ext (by show _ + _ = _; simp only []; omega))
  · have e1 : slab u arg5 (harg5.unread w) m = extractStridedSlice S528x128 ![0, 128] (upDot u arg5 (harg5.unread w) m) slices_S528x256_o0_128_S528x128 := by
      unfold slab; rw [e0]; rfl
    rw [e1]
    have e : extractStridedSlice S528x128 ![0, 128] (upDot u arg5 (harg5.unread w) m) slices_S528x256_o0_128_S528x128 (ix2 r l)
        = upDot u arg5 (harg5.unread w) m (ix2 r ⟨128 + l.val, by omega⟩) := by
      pointwise
    rw [e, upDot_apply u arg5 harg5 w m hm]
    exact congrArg (proj u w r) (Fin.ext (by show _ + _ = _; simp only []; omega))

theorem edge_apply (p : FVec Ideal S528x128 .f32) (l : Fin 128) :
    shapeCast S1x1x1x1x128 (extractStridedSlice S1x128 ![0, 0] p slices_S528x128_o0_0_S1x128) shapeCasts_S1x128_S1x1x1x1x128 (ix5 0 0 0 0 l) = p (ix2 0 l) := by
  pointwise

theorem body_apply (p : FVec Ideal S528x128 .f32) (r : Fin 528) (l : Fin 128) :
    shapeCast S1x1x1x528x128 p shapeCasts_S528x128_S1x1x1x528x128 (ix5 0 0 0 r l) = p (ix2 r l) := by
  pointwise

/-- Row `q`, column `l` of a window, behind the three leading coordinates. -/
def inWindow (k h s d : ℕ) (q : Fin 256) (l : Fin 128) : (window k h s d).shape.Idx :=
  Fin.cons (⟨0, Nat.one_pos⟩ : Fin 1) (Fin.cons (⟨0, Nat.one_pos⟩ : Fin 1) (Fin.cons (⟨0, Nat.one_pos⟩ : Fin 1) (ix2 q l : S256x128.Idx)))

theorem win_eq (arg12 : Memref sig .tc .vmem S3x2x2x536x128 .f32) (L : List (View.Piece (Elt Ideal) S3x2x2x536x128 .f32)) (k h s d : ℕ)
    (q : Fin 256) (l : Fin 128) :
    win arg12 L k h s d (ix2 q l)
      = arg12.view.read (Elt Ideal) (arg12.view.writes (Elt Ideal) arg12.view.junk L) ((window k h s d).idx (inWindow k h s d q l)) := by
  refine congrArg (arg12.view.readCov L (window k h s d)) (Shape.reshapeEquiv_eq_of_rowMajor (window_numel k h s d) ?_)
  refine (Shape.rowMajor_val_five _).trans (Eq.trans ?_ (Shape.rowMajor_val_two _).symm)
  show (((0 * 1 + 0) * 1 + 0) * 256 + q.val) * 128 + l.val = q.val * 128 + l.val
  omega

/-- Reading the buffer after `n` slabs, where slab `m` is still the last one written to its place. -/
theorem rows_read (v : View sig .tc .vmem S3x2x2x536x128 .f32) (f5 : arg5.view.ty.Contents (Elt Ideal)) (m : ℕ) (t : Fin 529) (l : Fin 128) :
    ∀ n, m < n → n ≤ m + 12 - m % 4 →
      v.read (Elt Ideal) (v.writes (Elt Ideal) v.junk (rows u arg5 f5 n)) (ix5 ⟨m / 4 % 3, by omega⟩ ⟨m / 2 % 2, by omega⟩ ⟨m % 2, by omega⟩ ⟨t.val, by omega⟩ l)
        = slab u arg5 f5 m (ix2 ⟨t.val % 528, by omega⟩ l) := by
  intro n
  induction n with
  | zero => intro h; omega
  | succ n ih =>
    intro h1 h2
    by_cases hn : n = m
    · subst hn
      by_cases ht : t.val = 528
      · refine (View.read_writes_cons_hit_of_coords v _ _ _ _ (ix5 0 0 0 0 l) _ ?_).trans ?_
        · intro a
          match a with
          | 0 => show n / 4 % 3 = n / 4 % 3 + 1 * 0; omega
          | 1 => show n / 2 % 2 = n / 2 % 2 + 1 * 0; omega
          | 2 => show n % 2 = n % 2 + 1 * 0; omega
          | 3 => show t.val = 528 + 1 * 0; omega
          | 4 => show l.val = 0 + 1 * l.val; omega
        · rw [edge_apply]
          exact congrArg (fun z => slab u arg5 f5 n (ix2 z l)) (Fin.ext (by show 0 = t.val % 528; omega))
      · refine (View.read_writes_cons_miss_of_axis v _ _ _ _ 3 528 1 rfl rfl rfl (Or.inl (by show t.val < 528; omega))).trans ?_
        refine (View.read_writes_cons_hit_of_coords v _ _ _ _ (ix5 0 0 0 ⟨t.val, by omega⟩ l) _ ?_).trans ?_
        · intro a
          match a with
          | 0 => show n / 4 % 3 = n / 4 % 3 + 1 * 0; omega
          | 1 => show n / 2 % 2 = n / 2 % 2 + 1 * 0; omega
          | 2 => show n % 2 = n % 2 + 1 * 0; omega
          | 3 => show t.val = 0 + 1 * t.val; omega
          | 4 => show l.val = 0 + 1 * l.val; omega
        · rw [body_apply]
          exact congrArg (fun z => slab u arg5 f5 n (ix2 z l)) (Fin.ext (by show t.val = t.val % 528; omega))
    · have hne : n / 4 % 3 ≠ m / 4 % 3 ∨ n / 2 % 2 ≠ m / 2 % 2 ∨ n % 2 ≠ m % 2 := by omega
      refine Eq.trans ?_ (ih (by omega) (by omega))
      rcases hne with hne | hne | hne
      · refine (View.read_writes_cons_miss_of_axis v _ _ _ _ 0 (n / 4 % 3) 1 rfl rfl rfl (by show m / 4 % 3 < _ ∨ _ ≤ m / 4 % 3; omega)).trans ?_
        exact View.read_writes_cons_miss_of_axis v _ _ _ _ 0 (n / 4 % 3) 1 rfl rfl rfl (by show m / 4 % 3 < _ ∨ _ ≤ m / 4 % 3; omega)
      · refine (View.read_writes_cons_miss_of_axis v _ _ _ _ 1 (n / 2 % 2) 1 rfl rfl rfl (by show m / 2 % 2 < _ ∨ _ ≤ m / 2 % 2; omega)).trans ?_
        exact View.read_writes_cons_miss_of_axis v _ _ _ _ 1 (n / 2 % 2) 1 rfl rfl rfl (by show m / 2 % 2 < _ ∨ _ ≤ m / 2 % 2; omega)
      · refine (View.read_writes_cons_miss_of_axis v _ _ _ _ 2 (n % 2) 1 rfl rfl rfl (by show m % 2 < _ ∨ _ ≤ m % 2; omega)).trans ?_
        exact View.read_writes_cons_miss_of_axis v _ _ _ _ 2 (n % 2) 1 rfl rfl rfl (by show m % 2 < _ ∨ _ ≤ m % 2; omega)

/-- A window of chunk `k` while its slot is not yet written again. -/
theorem win_apply (arg12 : Memref sig .tc .vmem S3x2x2x536x128 .f32) (k h s d n : ℕ) (hk : k < 11) (hh : h < 2) (hs : s < 2) (hd : d < 4)
    (h1 : 4 * k + 4 ≤ n) (h2 : n ≤ 4 * k + 12) (q : Fin 256) (l : Fin 128) :
    win arg12 (rows u arg5 (harg5.unread w) n) k h s d (ix2 q l)
      = proj u w ⟨(15 + d + 2 * q.val) % 528, by omega⟩ ⟨2816 * h + 256 * k + 128 * s + l.val, by omega⟩ := by
  rw [win_eq]
  have e := rows_read u arg5 arg12.view (harg5.unread w) (4 * k + 2 * h + s) ⟨15 + d + 2 * q.val, by omega⟩ l n (by omega) (by omega)
  rw [slab_apply u arg5 harg5 w _ (by omega)] at e
  refine Eq.trans ?_ (e.trans ?_)
  · refine congrArg (arg12.view.read (Elt Ideal) _) ?_
    funext a
    match a with
    | 0 => exact Fin.ext (by show k % 3 + 0 + 1 * 0 = (4 * k + 2 * h + s) / 4 % 3; omega)
    | 1 => exact Fin.ext (by show h % 2 + 0 + 1 * 0 = (4 * k + 2 * h + s) / 2 % 2; omega)
    | 2 => exact Fin.ext (by show s % 2 + 0 + 1 * 0 = (4 * k + 2 * h + s) % 2; omega)
    | 3 => exact Fin.ext (by show 0 + (15 + d % 4) + 2 * q.val = 15 + d + 2 * q.val; omega)
    | 4 => exact Fin.ext (by show 0 + 0 + 1 * l.val = l.val; omega)
  · exact congrArg (proj u w _) (Fin.ext (by
      show 2816 * ((4 * k + 2 * h + s) / 2 % 2) + 256 * ((4 * k + 2 * h + s) / 4) + 128 * ((4 * k + 2 * h + s) % 2) + l.val = 2816 * h + 256 * k + 128 * s + l.val
      omega))

end Cert.Ffn

end
-- ==== Proof.FfnGate.lean ====
/- The gate of the feed-forward part: one half of a hyperbolic tangent plus one half is the logistic function. -/
module

public import Idealize.ShloMosaic.Lib.Pointwise

@[expose] public section

noncomputable section

namespace Cert.Ffn

open Idealize.ShloMosaic

theorem half_bits : Ideal.ofBits .f32 0x3F000000#32 = ((1 / 2 : ℝ) : EReal) := by
  simp [Ideal.ofBits, Ideal.ieee, -EReal.coe_mul]; norm_num

theorem one_bits : Ideal.ofBits .f32 0x3F800000#32 = 1 := by
  simp [Ideal.ofBits, Ideal.ieee, -EReal.coe_mul]; norm_num

theorem logistic_real (r : ℝ) : 1 / 2 * Real.tanh (1 / 2 * r) + 1 / 2 = 1 / (1 + Real.exp (-r)) := by
  rw [Real.tanh_eq_sinh_div_cosh, Real.sinh_eq, Real.cosh_eq]
  have ha : 0 < Real.exp (1 / 2 * r) := Real.exp_pos _
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← e1, ← Real.exp_add]; congr 1; ring
  rw [e1, e2]
  generalize Real.exp (1 / 2 * r) = a at ha
  have h1 : a + a⁻¹ ≠ 0 := by positivity
  have h2 : 1 + a⁻¹ * a⁻¹ ≠ 0 := by positivity
  field_simp
  ring

/-- The gate, as a logistic function. -/
theorem gate_eq (x : EReal) :
    Ideal.ofBits .f32 0x3F000000#32 * Ideal.tanh (Ideal.ofBits .f32 0x3F000000#32 * x) + Ideal.ofBits .f32 0x3F000000#32
      = Ideal.div 1 (1 + Ideal.exp (-x)) := by
  show _ = Ideal.logistic x
  rw [half_bits]
  induction x with
  | bot =>
    rw [Ideal.logistic_bot, EReal.coe_mul_bot_of_pos (by norm_num), Ideal.tanh_bot, mul_neg, mul_one, ← EReal.coe_neg, ← EReal.coe_add]
    norm_num
  | top =>
    rw [Ideal.logistic_top, EReal.coe_mul_top_of_pos (by norm_num), Ideal.tanh_top]
    norm_cast
    norm_num
  | coe r =>
    rw [Ideal.logistic_coe, ← EReal.coe_mul, Ideal.tanh_coe, ← EReal.coe_mul, ← EReal.coe_add, logistic_real, one_div]

end Cert.Ffn

end
-- ==== Proof.FfnChunk.lean ====
/- A chunk of the feed-forward kernel's hidden columns at an index: the convolution, the gate, and its contribution to the output rows. -/
module

public import proofs.«01_k».proof.Proof.FfnRows
public import proofs.«01_k».proof.Proof.FfnGate

@[expose] public section

set_option maxRecDepth 16384

noncomputable section

namespace Cert.Ffn

open Idealize.ShloMosaic Idealize.ShloMosaic.TcCoe
open Cert.Kernel2Ideal Cert.Kernel2Ideal.Gen

theorem tap_apply (arg6 : Memref sig .tc .vmem S3x5632 .f32) (harg6 : arg6.IsWhole) (kw : Vec Ideal S3x5632 .f32) (j n : ℕ) (hj : j < 3) (hn : n ≤ 5504)
    (l : Fin 128) : tap arg6 (harg6.unread kw) j n (ix2 0 l) = kw (ix2 ⟨j, hj⟩ ⟨n + l.val, by omega⟩) := by
  refine (congrFun (harg6.read_unread kw) _).trans (congrArg kw ?_)
  funext a
  match a with
  | 0 => exact Fin.ext (by show j % 3 + 1 * 0 = j; omega)
  | 1 => exact Fin.ext (by show n % 5505 + 1 * l.val = n + l.val; omega)

theorem bias_apply (arg7 : Memref sig .tc .vmem S1x5632 .f32) (harg7 : arg7.IsWhole) (b : Vec Ideal S1x5632 .f32) (n : ℕ) (hn : n ≤ 5504)
    (l : Fin 128) : bias arg7 (harg7.unread b) n (ix2 0 l) = b (ix2 0 ⟨n + l.val, by omega⟩) := by
  refine (congrFun (harg7.read_unread b) _).trans (congrArg b ?_)
  funext a
  match a with
  | 0 => exact Fin.ext (by show 0 + 1 * 0 = 0; omega)
  | 1 => exact Fin.ext (by show n % 5505 + 1 * l.val = n + l.val; omega)

theorem downLoad_apply (arg8 : Memref sig .tc .vmem S2816x1024 .bf16) (harg8 : arg8.IsWhole) (d : Vec Ideal S2816x1024 .bf16) (k : ℕ) (hk : k < 11)
    (c : Fin 256) (j : Fin 1024) : downLoad arg8 (harg8.unread d) k (ix2 c j) = d (ix2 ⟨256 * k + c.val, by omega⟩ j) := by
  refine (congrFun (harg8.read_unread d) _).trans (congrArg d ?_)
  funext a
  match a with
  | 0 => exact Fin.ext (by show 256 * (k % 11) + 1 * c.val = 256 * k + c.val; omega)
  | 1 => exact Fin.ext (by show 0 + 1 * j.val = j.val; omega)

theorem mix_apply (w0 w1 w2 b : Vec Ideal S1x128 .f32) (p q r : Vec Ideal S256x128 .f32) (z : Fin 256) (l : Fin 128) :
    mix w0 w1 w2 b p q r (ix2 z l)
      = w0 (ix2 0 l) * p (ix2 z l) + w1 (ix2 0 l) * q (ix2 z l) + w2 (ix2 0 l) * r (ix2 z l) + b (ix2 0 l) := by
  pointwise [mix]

theorem gateRows_apply (a v : FVec Ideal S256x128 .f32) (z : Fin 256) (l : Fin 128) :
    gateRows a v (ix2 z l) = a (ix2 z l) * Ideal.div 1 (1 + Ideal.exp (-a (ix2 z l))) * v (ix2 z l) := by
  have e : gateRows a v (ix2 z l)
      = a (ix2 z l) * (Ideal.ofBits .f32 0x3F000000#32 * Ideal.tanh (Ideal.ofBits .f32 0x3F000000#32 * a (ix2 z l)) + Ideal.ofBits .f32 0x3F000000#32) * v (ix2 z l) := by
    pointwise [gateRows]
  rw [e, gate_eq]

/-- The convolution at row `r` and column `n`: rows `15 + r` to `17 + r`, the row after the last being the first. -/
def conv (P : Fin 528 → Fin 5632 → EReal) (kw : Vec Ideal S3x5632 .f32) (b : Vec Ideal S1x5632 .f32) (r : Fin 512) (n : Fin 5632) : EReal :=
  kw (ix2 0 n) * P ⟨(15 + r.val) % 528, by omega⟩ n + kw (ix2 1 n) * P ⟨(16 + r.val) % 528, by omega⟩ n
    + kw (ix2 2 n) * P ⟨(17 + r.val) % 528, by omega⟩ n + b (ix2 0 n)

/-- The gate of column `c`. -/
def gate (y : Fin 5632 → EReal) (c : Fin 2816) : EReal :=
  y ⟨c.val, by omega⟩ * Ideal.div 1 (1 + Ideal.exp (-y ⟨c.val, by omega⟩)) * y ⟨2816 + c.val, by omega⟩

section

variable (u : Vec Ideal S528x1024 .bf16) (arg5 : Memref sig .tc .vmem S1024x5632 .bf16) (harg5 : arg5.IsWhole)
  (w : Vec Ideal S1024x5632 .bf16)
  (arg6 : Memref sig .tc .vmem S3x5632 .f32) (harg6 : arg6.IsWhole) (kw : Vec Ideal S3x5632 .f32)
  (arg7 : Memref sig .tc .vmem S1x5632 .f32) (harg7 : arg7.IsWhole) (b : Vec Ideal S1x5632 .f32)
  (arg8 : Memref sig .tc .vmem S2816x1024 .bf16) (harg8 : arg8.IsWhole) (d : Vec Ideal S2816x1024 .bf16)
  (arg12 : Memref sig .tc .vmem S3x2x2x536x128 .f32)

theorem convol_apply (k h s e n : ℕ) (hk : k < 11) (hh : h < 2) (hs : s < 2) (he : e < 2) (h1 : 4 * k + 4 ≤ n) (h2 : n ≤ 4 * k + 12)
    (q : Fin 256) (l : Fin 128) :
    convol arg12 (rows u arg5 (harg5.unread w) n) arg6 (harg6.unread kw) arg7 (harg7.unread b) k h s e (ix2 q l)
      = conv (proj u w) kw b ⟨2 * q.val + e, by omega⟩ ⟨2816 * h + 256 * k + 128 * s + l.val, by omega⟩ := by
  unfold convol
  rw [mix_apply, tap_apply arg6 harg6 kw _ _ (by omega) (by omega), tap_apply arg6 harg6 kw _ _ (by omega) (by omega),
    tap_apply arg6 harg6 kw _ _ (by omega) (by omega), bias_apply arg7 harg7 b _ (by omega),
    win_apply u arg5 harg5 w arg12 k h s _ n hk hh hs (by omega) h1 h2, win_apply u arg5 harg5 w arg12 k h s _ n hk hh hs (by omega) h1 h2,
    win_apply u arg5 harg5 w arg12 k h s _ n hk hh hs (by omega) h1 h2]
  unfold conv
  have r0 : (15 + e + 2 * q.val) % 528 = (15 + (2 * q.val + e)) % 528 := by omega
  have r1 : (15 + (e + 1) + 2 * q.val) % 528 = (16 + (2 * q.val + e)) % 528 := by omega
  have r2 : (15 + (e + 2) + 2 * q.val) % 528 = (17 + (2 * q.val + e)) % 528 := by omega
  simp only [r0, r1, r2]
  rfl

theorem gates_apply (k s e n : ℕ) (hk : k < 11) (hs : s < 2) (he : e < 2) (h1 : 4 * k + 4 ≤ n) (h2 : n ≤ 4 * k + 12) (q : Fin 256) (l : Fin 128) :
    gates arg12 (rows u arg5 (harg5.unread w) n) arg6 (harg6.unread kw) arg7 (harg7.unread b) k s e (ix2 q l)
      = gate (conv (proj u w) kw b ⟨2 * q.val + e, by omega⟩) ⟨256 * k + 128 * s + l.val, by omega⟩ := by
  unfold gates
  rw [gateRows_apply, convol_apply u arg5 harg5 w arg6 harg6 kw arg7 harg7 b arg12 k 0 s e n hk (by omega) hs he h1 h2,
    convol_apply u arg5 harg5 w arg6 harg6 kw arg7 harg7 b arg12 k 1 s e n hk (by omega) hs he h1 h2]
  unfold gate
  have c0 : 2816 * 0 + 256 * k + 128 * s + l.val = 256 * k + 128 * s + l.val := by omega
  have c1 : 2816 * 1 + 256 * k + 128 * s + l.val = 2816 + (256 * k + 128 * s + l.val) := by omega
  simp only [c0, c1]

theorem pair_apply (x y : FVec Ideal S256x128 .bf16) (q : Fin 256) (c : Fin 256) :
    concatenate S256x256 1 [⟨S256x128, x⟩, ⟨S256x128, y⟩] concatenates_S256x128_S256x128_S256x256_d1 (ix2 q c)
      = if h : c.val < 128 then x (ix2 q ⟨c.val, h⟩) else y (ix2 q ⟨c.val - 128, by omega⟩) := by
  pointwise

theorem stack_apply (x y : FVec Ideal S256x256 .bf16) (z : Fin 512) (c : Fin 256) :
    concatenate S512x256 0 [⟨S256x256, x⟩, ⟨S256x256, y⟩] concatenates_S256x256_S256x256_S512x256_d0 (ix2 z c)
      = if h : z.val < 256 then x (ix2 ⟨z.val, h⟩ c) else y (ix2 ⟨z.val - 256, by omega⟩ c) := by
  pointwise

theorem gateBlock_apply (k n : ℕ) (hk : k < 11) (h1 : 4 * k + 4 ≤ n) (h2 : n ≤ 4 * k + 12) (z : Fin 512) (c : Fin 256) :
    gateBlock arg12 (rows u arg5 (harg5.unread w) n) arg6 (harg6.unread kw) arg7 (harg7.unread b) k (ix2 z c)
      = gate (conv (proj u w) kw b ⟨2 * (z.val % 256) + z.val / 256, by omega⟩) ⟨256 * k + c.val, by omega⟩ := by
  unfold gateBlock
  rw [stack_apply]
  by_cases hz : z.val < 256
  · rw [dif_pos hz, pair_apply]
    by_cases hc : c.val < 128
    · rw [dif_pos hc, gates_apply u arg5 harg5 w arg6 harg6 kw arg7 harg7 b arg12 k 0 0 n hk (by omega) (by omega) h1 h2]
      refine congrArg₂ (fun r t => gate (conv (proj u w) kw b r) t) (Fin.ext ?_) (Fin.ext ?_) <;> simp only [] <;> omega
    · rw [dif_neg hc, gates_apply u arg5 harg5 w arg6 harg6 kw arg7 harg7 b arg12 k 1 0 n hk (by omega) (by omega) h1 h2]
      refine congrArg₂ (fun r t => gate (conv (proj u w) kw b r) t) (Fin.ext ?_) (Fin.ext ?_) <;> simp only [] <;> omega
  · rw [dif_neg hz, pair_apply]
    by_cases hc : c.val < 128
    · rw [dif_pos hc, gates_apply u arg5 harg5 w arg6 harg6 kw arg7 harg7 b arg12 k 0 1 n hk (by omega) (by omega) h1 h2]
      refine congrArg₂ (fun r t => gate (conv (proj u w) kw b r) t) (Fin.ext ?_) (Fin.ext ?_) <;> simp only [] <;> omega
    · rw [dif_neg hc, gates_apply u arg5 harg5 w arg6 harg6 kw arg7 harg7 b arg12 k 1 1 n hk (by omega) (by omega) h1 h2]
      refine congrArg₂ (fun r t => gate (conv (proj u w) kw b r) t) (Fin.ext ?_) (Fin.ext ?_) <;> simp only [] <;> omega

/-- Chunk `k`'s contribution to row `r`, column `j`. -/
def contrib (g : Fin 2816 → EReal) (d : Vec Ideal S2816x1024 .bf16) (k : Fin 11) (j : Fin 1024) : EReal :=
  ∑ c : Fin 256, g ⟨256 * k.val + c.val, by omega⟩ * d (ix2 ⟨256 * k.val + c.val, by omega⟩ j)

theorem part_apply (k n : ℕ) (hk : k < 11) (h1 : 4 * k + 4 ≤ n) (h2 : n ≤ 4 * k + 12) (z : Fin 512) (j : Fin 1024) :
    part arg12 (rows u arg5 (harg5.unread w) n) arg6 (harg6.unread kw) arg7 (harg7.unread b) arg8 (harg8.unread d) k (ix2 z j)
      = contrib (gate (conv (proj u w) kw b ⟨2 * (z.val % 256) + z.val / 256, by omega⟩)) d ⟨k, hk⟩ j := by
  have e : part arg12 (rows u arg5 (harg5.unread w) n) arg6 (harg6.unread kw) arg7 (harg7.unread b) arg8 (harg8.unread d) k (ix2 z j)
      = ∑ c : Fin 256, gateBlock arg12 (rows u arg5 (harg5.unread w) n) arg6 (harg6.unread kw) arg7 (harg7.unread b) k (ix2 z c)
          * downLoad arg8 (harg8.unread d) k (ix2 c j) := by
    pointwise [part]
  rw [e]
  exact Finset.sum_congr rfl fun c _ => by
    rw [gateBlock_apply u arg5 harg5 w arg6 harg6 kw arg7 harg7 b arg12 k n hk h1 h2, downLoad_apply arg8 harg8 d k hk]

/-- All chunks' contributions together. -/
theorem contrib_sum (g : Fin 2816 → EReal) (j : Fin 1024) : ∑ k : Fin 11, contrib g d k j = ∑ c : Fin 2816, g c * d (ix2 c j) := by
  unfold contrib
  rw [← Fintype.sum_prod_type' (f := fun (k : Fin 11) (c : Fin 256) => g ⟨256 * k.val + c.val, by omega⟩ * d (ix2 ⟨256 * k.val + c.val, by omega⟩ j))]
  refine Fintype.sum_equiv (finProdFinEquiv (m := 11) (n := 256)) _ (fun c : Fin 2816 => g c * d (ix2 c j)) fun p => ?_
  have e : (⟨256 * p.1.val + p.2.val, by omega⟩ : Fin 2816) = finProdFinEquiv (m := 11) (n := 256) p := Fin.ext (by
    show 256 * p.1.val + p.2.val = p.2.val + 256 * p.1.val
    omega)
  show g ⟨256 * p.1.val + p.2.val, _⟩ * d (ix2 ⟨256 * p.1.val + p.2.val, _⟩ j) = _
  rw [e]

end

end Cert.Ffn

end
-- ==== Proof.FfnSum.lean ====
/- The feed-forward kernel's accumulator after each chunk, at an index. -/
module

public import proofs.«01_k».proof.Proof.FfnPieces
public import proofs.«01_k».proof.Proof.FfnChunk

@[expose] public section

set_option maxRecDepth 16384

noncomputable section

namespace Cert.Ffn

open Idealize.ShloMosaic Idealize.ShloMosaic.TcCoe
open Cert.Kernel2Ideal Cert.Kernel2Ideal.Gen

/-- The row kept at place `z`: the even rows come first. -/
def unstack (z : Fin 512) : Fin 512 := ⟨2 * (z.val % 256) + z.val / 256, by omega⟩

theorem whole_first (v : View sig .tc .vmem S512x1024 .f32) (p : FVec Ideal S512x1024 .f32) (L : List (View.Piece (Elt Ideal) S512x1024 .f32))
    (z : Fin 512) (j : Fin 1024) :
    v.readCov (⟨Rect.unit ![0, 0] S512x1024.size inb_S512x1024_S512x1024_0_0, shapeCast S512x1024 p shapeCasts_S512x1024_S512x1024⟩ :: L)
      (Rect.unit ![0, 0] S512x1024.size inb_S512x1024_S512x1024_0_0).toLoadRect (ix2 z j) = p (ix2 z j) := by
  have e : shapeCast S512x1024 p shapeCasts_S512x1024_S512x1024 (ix2 z j) = p (ix2 z j) := by
    pointwise
  have e' := View.readCov_cons_toLoadRect v (Rect.unit ![0, 0] S512x1024.size inb_S512x1024_S512x1024_0_0)
    (shapeCast S512x1024 p shapeCasts_S512x1024_S512x1024) L
  rw [e']
  exact e

theorem whole_add (v : View sig .tc .vmem S512x1024 .f32) (a p : FVec Ideal S512x1024 .f32) (L : List (View.Piece (Elt Ideal) S512x1024 .f32))
    (z : Fin 512) (j : Fin 1024) :
    v.readCov (⟨Rect.unit ![0, 0] S512x1024.size inb_S512x1024_S512x1024_0_0, shapeCast S512x1024 (addf a p) shapeCasts_S512x1024_S512x1024⟩ :: L)
      (Rect.unit ![0, 0] S512x1024.size inb_S512x1024_S512x1024_0_0).toLoadRect (ix2 z j) = a (ix2 z j) + p (ix2 z j) := by
  rw [whole_first]
  pointwise

/-- The first `k` chunks' contributions, summed in order. -/
def upTo (f : ℕ → EReal) : ℕ → EReal
  | 0 => f 0
  | k + 1 => upTo f k + f (k + 1)

theorem upTo_eq (f : ℕ → EReal) (n : ℕ) : upTo f n = ∑ k : Fin (n + 1), f k.val := by
  induction n with
  | zero => simp [upTo]
  | succ n ih =>
    rw [Fin.sum_univ_castSucc, upTo, ih]
    rfl

/-- Chunk `k`'s contribution, zero from the eleventh on. -/
def chunk (g : Fin 2816 → EReal) (d : Vec Ideal S2816x1024 .bf16) (j : Fin 1024) (k : ℕ) : EReal :=
  if h : k < 11 then contrib g d ⟨k, h⟩ j else 0

theorem chunk_of (g : Fin 2816 → EReal) (d : Vec Ideal S2816x1024 .bf16) (j : Fin 1024) (k : ℕ) (hk : k < 11) :
    chunk g d j k = contrib g d ⟨k, hk⟩ j := dif_pos hk

theorem chunk_total (g : Fin 2816 → EReal) (d : Vec Ideal S2816x1024 .bf16) (j : Fin 1024) :
    upTo (chunk g d j) 10 = ∑ c : Fin 2816, g c * d (ix2 c j) := by
  rw [upTo_eq, ← contrib_sum]
  exact Finset.sum_congr rfl fun k _ => dif_pos k.isLt

section

variable (c : Dev nD) (i : grid0.Coords) (arg1 : Memref sig .tc .vmem S16x1024 .bf16) (harg1 : arg1.IsWhole)
  (arg2 : Memref sig .tc .vmem S512x1024 .bf16) (harg2 : arg2.IsWhole) (arg3 : Memref sig .tc .vmem S16x1024 .bf16) (harg3 : arg3.IsWhole)
  (arg5 : Memref sig .tc .vmem S1024x5632 .bf16) (harg5 : arg5.IsWhole)
  (arg6 : Memref sig .tc .vmem S3x5632 .f32) (harg6 : arg6.IsWhole) (arg7 : Memref sig .tc .vmem S1x5632 .f32) (harg7 : arg7.IsWhole)
  (arg8 : Memref sig .tc .vmem S2816x1024 .bf16) (harg8 : arg8.IsWhole)
  (arg11 : Memref sig .tc .vmem S528x1024 .bf16)
  (arg12 : Memref sig .tc .vmem S3x2x2x536x128 .f32) (arg13 : Memref sig .tc .vmem S512x1024 .f32)
  (x0 : Vec Ideal S16x1024 .bf16) (x1 : Vec Ideal S512x1024 .bf16) (x2 : Vec Ideal S16x1024 .bf16) (x4 : Vec Ideal S1024x5632 .bf16)
  (x5 : Vec Ideal S3x5632 .f32) (x6 : Vec Ideal S1x5632 .f32) (x7 : Vec Ideal S2816x1024 .bf16)

theorem sum_1 (z : Fin 512) (j : Fin 1024) : arg13.view.readCov (kernelRun0_A.sl.HS2_1 c i arg1 harg1 arg2 harg2 arg3 harg3 arg5 harg5 arg6 harg6 arg7 harg7 arg8 harg8 arg11 arg12 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 0 := by
  rw [acc_1, rows_12, whole_first, part_apply _ arg5 harg5 x4 arg6 harg6 x5 arg7 harg7 x6 arg8 harg8 x7 arg12 0 12 (by omega) (by omega) (by omega)]
  exact (chunk_of _ _ _ 0 (by omega)).symm

theorem sum_2 (z : Fin 512) (j : Fin 1024) : arg13.view.readCov (kernelRun0_A.sl.HS2_2 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 1 := by
  rw [acc_2, rows_16, whole_add, part_apply _ arg5 harg5 x4 arg6 harg6 x5 arg7 harg7 x6 arg8 harg8 x7 arg12 1 16 (by omega) (by omega) (by omega), sum_1]
  exact congrArg (fun y : EReal => upTo (chunk (gate (conv (proj (kernelRun0_A.sl.v40 c i arg1 harg1 arg2 harg2 arg3 harg3 arg11 x0 x1 x2) x4) x5 x6 (unstack z))) x7 j) 0 + y) (chunk_of _ _ _ 1 (by omega)).symm

theorem sum_3 (z : Fin 512) (j : Fin 1024) : arg13.view.readCov (kernelRun0_A.sl.HS2_3 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 2 := by
  rw [acc_3, rows_20, whole_add, part_apply _ arg5 harg5 x4 arg6 harg6 x5 arg7 harg7 x6 arg8 harg8 x7 arg12 2 20 (by omega) (by omega) (by omega), sum_2]
  exact congrArg (fun y : EReal => upTo (chunk (gate (conv (proj (kernelRun0_A.sl.v40 c i arg1 harg1 arg2 harg2 arg3 harg3 arg11 x0 x1 x2) x4) x5 x6 (unstack z))) x7 j) 1 + y) (chunk_of _ _ _ 2 (by omega)).symm

theorem sum_4 (z : Fin 512) (j : Fin 1024) : arg13.view.readCov (kernelRun0_A.sl.HS2_4 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 3 := by
  rw [acc_4, rows_24, whole_add, part_apply _ arg5 harg5 x4 arg6 harg6 x5 arg7 harg7 x6 arg8 harg8 x7 arg12 3 24 (by omega) (by omega) (by omega), sum_3]
  exact congrArg (fun y : EReal => upTo (chunk (gate (conv (proj (kernelRun0_A.sl.v40 c i arg1 harg1 arg2 harg2 arg3 harg3 arg11 x0 x1 x2) x4) x5 x6 (unstack z))) x7 j) 2 + y) (chunk_of _ _ _ 3 (by omega)).symm

theorem sum_5 (z : Fin 512) (j : Fin 1024) : arg13.view.readCov (kernelRun0_A.sl.HS2_5 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 4 := by
  rw [acc_5, rows_28, whole_add, part_apply _ arg5 harg5 x4 arg6 harg6 x5 arg7 harg7 x6 arg8 harg8 x7 arg12 4 28 (by omega) (by omega) (by omega), sum_4]
  exact congrArg (fun y : EReal => upTo (chunk (gate (conv (proj (kernelRun0_A.sl.v40 c i arg1 harg1 arg2 harg2 arg3 harg3 arg11 x0 x1 x2) x4) x5 x6 (unstack z))) x7 j) 3 + y) (chunk_of _ _ _ 4 (by omega)).symm

theorem sum_6 (z : Fin 512) (j : Fin 1024) : arg13.view.readCov (kernelRun0_A.sl.HS2_6 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 5 := by
  rw [acc_6, rows_32, whole_add, part_apply _ arg5 harg5 x4 arg6 harg6 x5 arg7 harg7 x6 arg8 harg8 x7 arg12 5 32 (by omega) (by omega) (by omega), sum_5]
  exact congrArg (fun y : EReal => upTo (chunk (gate (conv (proj (kernelRun0_A.sl.v40 c i arg1 harg1 arg2 harg2 arg3 harg3 arg11 x0 x1 x2) x4) x5 x6 (unstack z))) x7 j) 4 + y) (chunk_of _ _ _ 5 (by omega)).symm

theorem sum_7 (z : Fin 512) (j : Fin 1024) : arg13.view.readCov (kernelRun0_A.sl.HS2_7 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 6 := by
  rw [acc_7, rows_36, whole_add, part_apply _ arg5 harg5 x4 arg6 harg6 x5 arg7 harg7 x6 arg8 harg8 x7 arg12 6 36 (by omega) (by omega) (by omega), sum_6]
  exact congrArg (fun y : EReal => upTo (chunk (gate (conv (proj (kernelRun0_A.sl.v40 c i arg1 harg1 arg2 harg2 arg3 harg3 arg11 x0 x1 x2) x4) x5 x6 (unstack z))) x7 j) 5 + y) (chunk_of _ _ _ 6 (by omega)).symm

theorem sum_8 (z : Fin 512) (j : Fin 1024) : arg13.view.readCov (kernelRun0_A.sl.HS2_8 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 7 := by
  rw [acc_8, rows_40, whole_add, part_apply _ arg5 harg5 x4 arg6 harg6 x5 arg7 harg7 x6 arg8 harg8 x7 arg12 7 40 (by omega) (by omega) (by omega), sum_7]
  exact congrArg (fun y : EReal => upTo (chunk (gate (conv (proj (kernelRun0_A.sl.v40 c i arg1 harg1 arg2 harg2 arg3 harg3 arg11 x0 x1 x2) x4) x5 x6 (unstack z))) x7 j) 6 + y) (chunk_of _ _ _ 7 (by omega)).symm

theorem sum_9 (z : Fin 512) (j : Fin 1024) : arg13.view.readCov (kernelRun0_A.sl.HS2_9 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 8 := by
  rw [acc_9, rows_44, whole_add, part_apply _ arg5 harg5 x4 arg6 harg6 x5 arg7 harg7 x6 arg8 harg8 x7 arg12 8 44 (by omega) (by omega) (by omega), sum_8]
  exact congrArg (fun y : EReal => upTo (chunk (gate (conv (proj (kernelRun0_A.sl.v40 c i arg1 harg1 arg2 harg2 arg3 harg3 arg11 x0 x1 x2) x4) x5 x6 (unstack z))) x7 j) 7 + y) (chunk_of _ _ _ 8 (by omega)).symm

theorem sum_10 (z : Fin 512) (j : Fin 1024) : arg13.view.readCov (kernelRun0_A.sl.HS2_10 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 9 := by
  rw [acc_10, rows_44, whole_add, part_apply _ arg5 harg5 x4 arg6 harg6 x5 arg7 harg7 x6 arg8 harg8 x7 arg12 9 44 (by omega) (by omega) (by omega), sum_9]
  exact congrArg (fun y : EReal => upTo (chunk (gate (conv (proj (kernelRun0_A.sl.v40 c i arg1 harg1 arg2 harg2 arg3 harg3 arg11 x0 x1 x2) x4) x5 x6 (unstack z))) x7 j) 8 + y) (chunk_of _ _ _ 9 (by omega)).symm

theorem sum_11 (z : Fin 512) (j : Fin 1024) : arg13.view.readCov (kernelRun0_A.sl.HS2_11 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = upTo (chunk (gate (conv (proj (kernelRun0_A.sl.v40 c i arg1 harg1 arg2 harg2 arg3 harg3 arg11 x0 x1 x2) x4) x5 x6 (unstack z))) x7 j) 10 := by
  rw [acc_11, rows_44, whole_add, part_apply _ arg5 harg5 x4 arg6 harg6 x5 arg7 harg7 x6 arg8 harg8 x7 arg12 10 44 (by omega) (by omega) (by omega), sum_10]
  exact congrArg (fun y : EReal => upTo (chunk (gate (conv (proj (kernelRun0_A.sl.v40 c i arg1 harg1 arg2 harg2 arg3 harg3 arg11 x0 x1 x2) x4) x5 x6 (unstack z))) x7 j) 9 + y) (chunk_of _ _ _ 10 (by omega)).symm

/-- The accumulator at the end. -/
theorem sum_all (z : Fin 512) (j : Fin 1024) : arg13.view.readCov (kernelRun0_A.sl.HS2_11 c i arg1 harg1 arg2 harg2 arg3 harg3 arg5 harg5 arg6 harg6 arg7 harg7 arg8 harg8 arg11 arg12 arg13 x0 x1 x2 x4 x5 x6 x7)
      (Rect.unit ![0, 0] S512x1024.size inb_S512x1024_S512x1024_0_0).toLoadRect (ix2 z j)
    = ∑ ch : Fin 2816, gate (conv (proj (kernelRun0_A.sl.v40 c i arg1 harg1 arg2 harg2 arg3 harg3 arg11 x0 x1 x2) x4) x5 x6 (unstack z)) ch * x7 (ix2 ch j) :=
  (sum_11 c i arg1 harg1 arg2 harg2 arg3 harg3 arg5 harg5 arg6 harg6 arg7 harg7 arg8 harg8 arg11 arg12 arg13 x0 x1 x2 x4 x5 x6 x7 z j).trans (chunk_total _ _ _)

end

end Cert.Ffn

end
-- ==== Proof.FfnHalo.lean ====
/- The rows a block of the feed-forward kernel convolves: its own, the row before them and the row after them, zero at a sequence's ends. -/
module

public import proofs.«01_k».proof.Proof.FfnPieces
public import Idealize.ShloMosaic.Lib.Pointwise

@[expose] public section

set_option maxRecDepth 16384

noncomputable section

namespace Cert.Ffn

open Idealize.ShloMosaic Idealize.ShloMosaic.TcCoe
open Cert.Kernel2Ideal Cert.Kernel2Ideal.Gen

/-- A block's number within its sequence, as the body computes it. -/
def placeOf (n : ℕ) : BitVec 32 :=
  let v1 : BitVec 32 := Scalar.select (Scalar.cmpi .eq 8#32 0#32) 1#32 8#32
  let v2 : BitVec 32 := Scalar.remsi (BitVec.ofNat 32 n) v1
  Scalar.select (Scalar.andi (Scalar.xori (Scalar.cmpi .slt v2 0#32) (Scalar.cmpi .slt v1 0#32)) (Scalar.cmpi .ne v2 0#32)) (Scalar.addi v2 v1) v2

theorem after_iff : ∀ n : Fin 64, Scalar.cmpi .ne (placeOf n.val) 7#32 = if n.val % 8 ≠ 7 then 1#1 else 0#1 := by decide +kernel

theorem before_iff : ∀ n : Fin 64, Scalar.cmpi .ne (placeOf n.val) 0#32 = if n.val % 8 ≠ 0 then 1#1 else 0#1 := by decide +kernel

theorem first_row : ∀ r : Fin 16, IntOp.cmpi .eq (BitVec.ofNat 32 r.val) 0#32 = if r.val = 0 then 1#1 else 0#1 := by decide +kernel

theorem last_row : ∀ r : Fin 16, IntOp.cmpi .eq (BitVec.ofNat 32 r.val) 15#32 = if r.val = 15 then 1#1 else 0#1 := by decide +kernel

theorem select_and (p q : Prop) [Decidable p] [Decidable q] (a b : EReal) :
    Scalar.select (IntOp.andi (if p then 1#1 else 0#1) (if q then 1#1 else 0#1)) a b = if p ∧ q then a else b := by
  by_cases hp : p <;> by_cases hq : q <;> simp only [hp, hq, if_true, if_false, true_and, false_and, and_false, and_true] <;> rfl

theorem pay2_apply (i : grid0.Coords) (v17 v24 : Vec Ideal S16x1024 .bf16) (r : Fin 16) (x : Fin 1024) :
    k0_pay2 i v17 v24 (ix2 r x)
      = if r.val = 0 ∧ (i 0).val % 8 ≠ 7 then v17 (ix2 r x) else if r.val = 15 ∧ (i 0).val % 8 ≠ 0 then v24 (ix2 r x) else 0 := by
  have e : k0_pay2 i v17 v24 (ix2 r x)
      = Scalar.select (IntOp.andi (IntOp.cmpi .eq (BitVec.ofNat 32 r.val) 0#32) (Scalar.cmpi .ne (placeOf (i 0).val) 7#32)) (v17 (ix2 r x))
          (Scalar.select (IntOp.andi (IntOp.cmpi .eq (BitVec.ofNat 32 r.val) 15#32) (Scalar.cmpi .ne (placeOf (i 0).val) 0#32)) (v24 (ix2 r x)) 0) := by
    unfold k0_pay2 placeOf
    pointwise
  rw [e, after_iff (i 0), before_iff (i 0), first_row r, last_row r, select_and, select_and]

/-- The rows a block convolves: the row after its own first, the fifteenth the row before them, then its own. -/
def extRow (x0 : Vec Ideal S16x1024 .bf16) (x1 : Vec Ideal S512x1024 .bf16) (x2 : Vec Ideal S16x1024 .bf16) (n : ℕ) (r : Fin 528) (x : Fin 1024) : EReal :=
  if h : 16 ≤ r.val then x1 (ix2 ⟨r.val - 16, by omega⟩ x)
  else if r.val = 0 ∧ n % 8 ≠ 7 then x2 (ix2 0 x) else if r.val = 15 ∧ n % 8 ≠ 0 then x0 (ix2 15 x) else 0

theorem whole16_apply (a : Memref sig .tc .vmem S16x1024 .bf16) (ha : a.IsWhole) (v : Vec Ideal S16x1024 .bf16) (r : Fin 16) (x : Fin 1024) :
    View.readAt (Elt Ideal) a.view (Rect.unit ![0, 0] S16x1024.size inb_S16x1024_S16x1024_0_0).toLoadRect (ha.unread v) (ix2 r x) = v (ix2 r x) := by
  refine (congrFun (ha.read_unread v) _).trans (congrArg v ?_)
  funext a
  match a with
  | 0 => exact Fin.ext (by show 0 + 1 * r.val = r.val; omega)
  | 1 => exact Fin.ext (by show 0 + 1 * x.val = x.val; omega)

theorem whole512_apply (a : Memref sig .tc .vmem S512x1024 .bf16) (ha : a.IsWhole) (v : Vec Ideal S512x1024 .bf16) (r : Fin 512) (x : Fin 1024) :
    View.readAt (Elt Ideal) a.view (Rect.unit ![0, 0] S512x1024.size inb_S512x1024_S512x1024_0_0).toLoadRect (ha.unread v) (ix2 r x) = v (ix2 r x) := by
  refine (congrFun (ha.read_unread v) _).trans (congrArg v ?_)
  funext a
  match a with
  | 0 => exact Fin.ext (by show 0 + 1 * r.val = r.val; omega)
  | 1 => exact Fin.ext (by show 0 + 1 * x.val = x.val; omega)

theorem pay34_apply (v : Vec Ideal S512x1024 .bf16) (r : Fin 512) (x : Fin 1024) : k0_pay4 (k0_pay3 v) (ix2 r x) = v (ix2 r x) := by
  pointwise [k0_pay4, k0_pay3]

theorem ext_apply (c : Dev nD) (i : grid0.Coords) (arg1 : Memref sig .tc .vmem S16x1024 .bf16) (harg1 : arg1.IsWhole)
    (arg2 : Memref sig .tc .vmem S512x1024 .bf16) (harg2 : arg2.IsWhole) (arg3 : Memref sig .tc .vmem S16x1024 .bf16) (harg3 : arg3.IsWhole)
    (arg11 : Memref sig .tc .vmem S528x1024 .bf16) (x0 : Vec Ideal S16x1024 .bf16) (x1 : Vec Ideal S512x1024 .bf16) (x2 : Vec Ideal S16x1024 .bf16)
    (r : Fin 528) (x : Fin 1024) :
    kernelRun0_A.sl.v40 c i arg1 harg1 arg2 harg2 arg3 harg3 arg11 x0 x1 x2 (ix2 r x) = extRow x0 x1 x2 (i 0).val r x := by
  rw [ext_rows]
  have hi : ∀ L : List (View.Piece (Elt Ideal) S528x1024 .bf16),
      arg11.view.readCov L (Rect.unit ![0, 0] S528x1024.size inb_S528x1024_S528x1024_0_0).toLoadRect (ix2 r x)
        = arg11.view.read (Elt Ideal) (arg11.view.writes (Elt Ideal) arg11.view.junk L) (ix2 r x) := by
    intro L
    refine congrArg (arg11.view.read (Elt Ideal) (arg11.view.writes (Elt Ideal) arg11.view.junk L)) ?_
    funext a
    match a with
    | 0 => exact Fin.ext (by show 0 + 1 * r.val = r.val; omega)
    | 1 => exact Fin.ext (by show 0 + 1 * x.val = x.val; omega)
  rw [hi]
  unfold extRow
  by_cases h : 16 ≤ r.val
  · rw [dif_pos h]
    refine (View.read_writes_cons_hit_of_coords arg11.view _ _ _ _ (ix2 ⟨r.val - 16, by omega⟩ x) _ ?_).trans ?_
    · intro a
      match a with
      | 0 => show r.val = 16 + 1 * (r.val - 16); omega
      | 1 => show x.val = 0 + 1 * x.val; omega
    · rw [pay34_apply, whole512_apply]
  · rw [dif_neg h]
    refine (View.read_writes_cons_miss_of_axis arg11.view _ _ _ _ 0 16 512 rfl rfl rfl (Or.inl (by show r.val < 16; omega))).trans ?_
    refine (View.read_writes_cons_hit_of_coords arg11.view _ _ _ _ (ix2 ⟨r.val, by omega⟩ x) _ ?_).trans ?_
    · intro a
      match a with
      | 0 => show r.val = 0 + 1 * r.val; omega
      | 1 => show x.val = 0 + 1 * x.val; omega
    · rw [pay2_apply, whole16_apply, whole16_apply]
      by_cases h0 : r.val = 0
      · have e : (⟨r.val, by omega⟩ : Fin 16) = 0 := Fin.ext h0
        rw [e]
        by_cases hn : (i 0).val % 8 ≠ 7
        · rw [if_pos ⟨rfl, hn⟩, if_pos ⟨h0, hn⟩]
        · rw [if_neg (fun z => hn z.2), if_neg (fun z => absurd z.1 (by decide)), if_neg (fun z => hn z.2), if_neg (fun z => absurd z.1 (by omega))]
      · by_cases h15 : r.val = 15
        · have e : (⟨r.val, by omega⟩ : Fin 16) = 15 := Fin.ext h15
          rw [e]
          by_cases hn : (i 0).val % 8 ≠ 0
          · rw [if_neg (fun z => absurd z.1 (by decide)), if_pos ⟨rfl, hn⟩, if_neg (fun z => h0 z.1), if_pos ⟨h15, hn⟩]
          · rw [if_neg (fun z => absurd z.1 (by decide)), if_neg (fun z => hn z.2), if_neg (fun z => h0 z.1), if_neg (fun z => hn z.2)]
        · rw [if_neg (fun z => h0 z.1), if_neg (fun z => h15 z.1), if_neg (fun z => h0 z.1), if_neg (fun z => h15 z.1)]

end Cert.Ffn

end
-- ==== Proof.FfnFinish.lean ====
/- The feed-forward kernel's last rows at an index: the accumulated rows put in order, added to the stream, and normed. -/
module

public import proofs.«01_k».proof.Proof.FfnParts
public import Idealize.ShloMosaic.Lib.Pointwise

@[expose] public section

set_option maxRecDepth 16384

noncomputable section

namespace Cert.Ffn

open Idealize.ShloMosaic Idealize.ShloMosaic.TcCoe
open Cert.Kernel2Ideal Cert.Kernel2Ideal.Gen

section

variable (arg13 : Memref sig .tc .vmem S512x1024 .f32) (L2 : List (View.Piece (Elt Ideal) S512x1024 .f32))

theorem accRead_apply (s e : ℕ) (hs : s < 8) (he : e < 2) (q : Fin 256) (l : Fin 128) :
    accRead arg13 L2 s e (ix2 q l)
      = arg13.view.readCov L2 (Rect.unit ![0, 0] S512x1024.size inb_S512x1024_S512x1024_0_0).toLoadRect
          (ix2 ⟨256 * e + q.val, by omega⟩ ⟨128 * s + l.val, by omega⟩) := by
  refine congrArg (arg13.view.read (Elt Ideal) (arg13.view.writes (Elt Ideal) arg13.view.junk L2)) ?_
  funext a
  match a with
  | 0 => exact Fin.ext (by show 256 * (e % 2) + 1 * q.val = 0 + 1 * (256 * e + q.val); omega)
  | 1 => exact Fin.ext (by show 128 * (s % 8) + 1 * l.val = 0 + 1 * (128 * s + l.val); omega)

theorem rank3_apply (p : Vec Ideal S256x128 .f32) (q : Fin 256) (l : Fin 128) :
    shapeCast S1x256x128 p shapeCasts_S256x128_S1x256x128 (ix3 0 q l) = p (ix2 q l) := by
  pointwise

theorem perms_read (v : View sig .tc .vmem S8x512x128 .f32) (s : ℕ) (hs : s < 8) (r : Fin 512) (l : Fin 128) : ∀ n, s < n → n ≤ 8 →
    v.read (Elt Ideal) (v.writes (Elt Ideal) v.junk (perms arg13 L2 n)) (ix3 ⟨s, hs⟩ r l)
      = accRead arg13 L2 s (r.val % 2) (ix2 ⟨r.val / 2, by omega⟩ l) := by
  intro n
  induction n with
  | zero => intro h; omega
  | succ n ih =>
    intro h1 h2
    by_cases hn : n = s
    · subst hn
      by_cases hr : r.val % 2 = 1
      · refine (View.read_writes_cons_hit_of_coords v _ _ _ _ (ix3 0 ⟨r.val / 2, by omega⟩ l) _ ?_).trans ?_
        · intro a
          match a with
          | 0 => show n = n % 8 + 1 * 0; omega
          | 1 => show r.val = 1 % 2 + 2 * (r.val / 2); omega
          | 2 => show l.val = 0 + 1 * l.val; omega
        · rw [rank3_apply, hr]
      · refine (View.read_writes_cons_miss v _ _ _ _ ?_).trans ?_
        · intro hm
          obtain ⟨x, _, hx⟩ := (LoadRect.mem_set _).mp hm 1
          have hx' : r.val = 1 % 2 + 2 * x := hx
          omega
        refine (View.read_writes_cons_hit_of_coords v _ _ _ _ (ix3 0 ⟨r.val / 2, by omega⟩ l) _ ?_).trans ?_
        · intro a
          match a with
          | 0 => show n = n % 8 + 1 * 0; omega
          | 1 => show r.val = 0 % 2 + 2 * (r.val / 2); omega
          | 2 => show l.val = 0 + 1 * l.val; omega
        · rw [rank3_apply, (by omega : r.val % 2 = 0)]
    · refine Eq.trans ?_ (ih (by omega) (by omega))
      refine (View.read_writes_cons_miss_of_axis v _ _ _ _ 0 (n % 8) 1 rfl rfl rfl (by show s < _ ∨ _ ≤ s; omega)).trans ?_
      exact View.read_writes_cons_miss_of_axis v _ _ _ _ 0 (n % 8) 1 rfl rfl rfl (by show s < _ ∨ _ ≤ s; omega)

theorem rank2_apply (p : Vec Ideal S1x512x128 .f32) (r : Fin 512) (l : Fin 128) :
    shapeCast S512x128 p shapeCasts_S1x512x128_S512x128 (ix2 r l) = p (ix3 0 r l) := by
  pointwise

theorem permRead_apply (arg14 : Memref sig .tc .vmem S8x512x128 .f32) (s : ℕ) (hs : s < 8) (r : Fin 512) (l : Fin 128) :
    permRead arg14 (perms arg13 L2 8) s (ix2 r l)
      = arg13.view.readCov L2 (Rect.unit ![0, 0] S512x1024.size inb_S512x1024_S512x1024_0_0).toLoadRect
          (ix2 ⟨256 * (r.val % 2) + r.val / 2, by omega⟩ ⟨128 * s + l.val, by omega⟩) := by
  unfold permRead
  rw [rank2_apply]
  refine Eq.trans ?_ ((perms_read arg13 L2 arg14.view s hs r l 8 hs (Nat.le_refl 8)).trans
    (accRead_apply arg13 L2 s (r.val % 2) hs (by omega) ⟨r.val / 2, by omega⟩ l))
  refine congrArg (arg14.view.read (Elt Ideal) (arg14.view.writes (Elt Ideal) arg14.view.junk (perms arg13 L2 8))) ?_
  funext a
  match a with
  | 0 => exact Fin.ext (by show s % 8 + 1 * 0 = s; omega)
  | 1 => exact Fin.ext (by show 0 + 1 * r.val = r.val; omega)
  | 2 => exact Fin.ext (by show 0 + 1 * l.val = l.val; omega)

theorem sumRows_apply (arg14 : Memref sig .tc .vmem S8x512x128 .f32) (h : Vec Ideal S512x1024 .f32) (r : Fin 512) (j : Fin 1024) :
    sumRows arg14 (perms arg13 L2 8) h (ix2 r j)
      = h (ix2 r j) + arg13.view.readCov L2 (Rect.unit ![0, 0] S512x1024.size inb_S512x1024_S512x1024_0_0).toLoadRect
          (ix2 ⟨256 * (r.val % 2) + r.val / 2, by omega⟩ j) := by
  have e : sumRows arg14 (perms arg13 L2 8) h (ix2 r j)
      = h (ix2 r j) + permRead arg14 (perms arg13 L2 8) (j.val / 128) (ix2 r ⟨j.val % 128, by omega⟩) := by
    pointwise [sumRows]
    have key : ∀ (t y : ℕ) (hy : y < 128), 128 * t + y = j.val →
        permRead arg14 (perms arg13 L2 8) t (ix2 r ⟨y, hy⟩) = permRead arg14 (perms arg13 L2 8) (j.val / 128) (ix2 r ⟨j.val % 128, by omega⟩) := by
      intro t y hy e
      obtain rfl : t = j.val / 128 := by omega
      obtain rfl : y = j.val % 128 := by omega
      rfl
    refine congrArg (fun z : EReal => h (ix2 r j) + z) ?_
    split
    · exact key 0 _ _ (by omega)
    split
    · exact key 1 _ _ (by omega)
    split
    · exact key 2 _ _ (by omega)
    split
    · exact key 3 _ _ (by omega)
    split
    · exact key 4 _ _ (by omega)
    split
    · exact key 5 _ _ (by omega)
    split
    · exact key 6 _ _ (by omega)
    · exact key 7 _ _ (by omega)
  rw [e, permRead_apply arg13 L2 arg14 (j.val / 128) (by omega)]
  have ej : (⟨128 * (j.val / 128) + j.val % 128, by omega⟩ : Fin 1024) = j := Fin.ext (by show 128 * (j.val / 128) + j.val % 128 = j.val; omega)
  exact congrArg (fun z : Fin 1024 => h (ix2 r j) + arg13.view.readCov L2 (Rect.unit ![0, 0] S512x1024.size inb_S512x1024_S512x1024_0_0).toLoadRect
    (ix2 ⟨256 * (r.val % 2) + r.val / 2, by omega⟩ z)) ej

end

theorem finish_apply (y : FVec Ideal S512x1024 .f32) (g : Vec Ideal S1x1024 .f32) (r : Fin 512) (j : Fin 1024) :
    finish y g (ix2 r j)
      = y (ix2 r j) * Ideal.rsqrt (Ideal.div (∑ k : Fin 1024, y (ix2 r k) * y (ix2 r k)) (Ideal.ofBits .f32 0x44800000#32) + Ideal.ofBits .f32 0x358637BD#32)
          * g (ix2 0 j) := by
  pointwise [finish]

end Cert.Ffn

end
-- ==== Proof.FfnBlock.lean ====
/- The block of rows the feed-forward kernel's body leaves at a grid point, from the blocks it is handed. -/
module

public import proofs.«01_k».proof.Proof.FfnSum
public import proofs.«01_k».proof.Proof.FfnHalo
public import proofs.«01_k».proof.Proof.FfnFinish

@[expose] public section

set_option maxRecDepth 16384

noncomputable section

namespace Cert.Ffn

open Idealize.ShloMosaic Idealize.ShloMosaic.TcCoe
open Cert.Kernel2Ideal Cert.Kernel2Ideal.Gen

section

variable (x0 : Vec Ideal S16x1024 .bf16) (x1 : Vec Ideal S512x1024 .bf16) (x2 : Vec Ideal S16x1024 .bf16) (x3 : Vec Ideal S512x1024 .f32)
  (x4 : Vec Ideal S1024x5632 .bf16) (x5 : Vec Ideal S3x5632 .f32) (x6 : Vec Ideal S1x5632 .f32) (x7 : Vec Ideal S2816x1024 .bf16)
  (x8 : Vec Ideal S1x1024 .f32) (n : ℕ)

/-- The projections of the rows a block convolves. -/
def blockProj (r : Fin 528) (k : Fin 5632) : EReal := ∑ x : Fin 1024, extRow x0 x1 x2 n r x * x4 (ix2 x k)

/-- A block's rows before the norm. -/
def blockSum (r : Fin 512) (j : Fin 1024) : EReal :=
  x3 (ix2 r j) + ∑ ch : Fin 2816, gate (conv (blockProj x0 x1 x2 x4 n) x5 x6 r) ch * x7 (ix2 ch j)

/-- A block's rows. -/
def blockOut (r : Fin 512) (j : Fin 1024) : EReal :=
  blockSum x0 x1 x2 x3 x4 x5 x6 x7 n r j
    * Ideal.rsqrt (Ideal.div (∑ k : Fin 1024, blockSum x0 x1 x2 x3 x4 x5 x6 x7 n r k * blockSum x0 x1 x2 x3 x4 x5 x6 x7 n r k) (Ideal.ofBits .f32 0x44800000#32)
        + Ideal.ofBits .f32 0x358637BD#32)
    * x8 (ix2 0 j)

end

theorem stream_block (a : Memref sig .tc .vmem S512x1024 .f32) (ha : a.IsWhole) (v : Vec Ideal S512x1024 .f32) (r : Fin 512) (x : Fin 1024) :
    View.readAt (Elt Ideal) a.view (Rect.unit ![0, 0] S512x1024.size inb_S512x1024_S512x1024_0_0).toLoadRect (ha.unread v) (ix2 r x) = v (ix2 r x) := by
  refine (congrFun (ha.read_unread v) _).trans (congrArg v ?_)
  funext a
  match a with
  | 0 => exact Fin.ext (by show 0 + 1 * r.val = r.val; omega)
  | 1 => exact Fin.ext (by show 0 + 1 * x.val = x.val; omega)

theorem gain_block (a : Memref sig .tc .vmem S1x1024 .f32) (ha : a.IsWhole) (v : Vec Ideal S1x1024 .f32) (x : Fin 1024) :
    View.readAt (Elt Ideal) a.view (Rect.unit ![0, 0] S1x1024.size inb_S1x1024_S1x1024_0_0).toLoadRect (ha.unread v) (ix2 0 x) = v (ix2 0 x) := by
  refine (congrFun (ha.read_unread v) _).trans (congrArg v ?_)
  funext a
  match a with
  | 0 => exact Fin.ext (by show 0 + 1 * 0 = 0; omega)
  | 1 => exact Fin.ext (by show 0 + 1 * x.val = x.val; omega)

section

variable (c : Dev nD) (i : grid0.Coords) (arg1 : Memref sig .tc .vmem S16x1024 .bf16) (harg1 : arg1.IsWhole)
  (arg2 : Memref sig .tc .vmem S512x1024 .bf16) (harg2 : arg2.IsWhole) (arg3 : Memref sig .tc .vmem S16x1024 .bf16) (harg3 : arg3.IsWhole)
  (arg4 : Memref sig .tc .vmem S512x1024 .f32) (harg4 : arg4.IsWhole) (arg5 : Memref sig .tc .vmem S1024x5632 .bf16) (harg5 : arg5.IsWhole)
  (arg6 : Memref sig .tc .vmem S3x5632 .f32) (harg6 : arg6.IsWhole) (arg7 : Memref sig .tc .vmem S1x5632 .f32) (harg7 : arg7.IsWhole)
  (arg8 : Memref sig .tc .vmem S2816x1024 .bf16) (harg8 : arg8.IsWhole) (arg9 : Memref sig .tc .vmem S1x1024 .f32) (harg9 : arg9.IsWhole)
  (arg10 : Memref sig .tc .vmem S512x1024 .f32) (harg10 : arg10.IsWhole) (arg11 : Memref sig .tc .vmem S528x1024 .bf16) (harg11 : arg11.IsWhole)
  (arg12 : Memref sig .tc .vmem S3x2x2x536x128 .f32) (harg12 : arg12.IsWhole) (arg13 : Memref sig .tc .vmem S512x1024 .f32) (harg13 : arg13.IsWhole)
  (arg14 : Memref sig .tc .vmem S8x512x128 .f32) (harg14 : arg14.IsWhole)
  (x0 : Vec Ideal S16x1024 .bf16) (x1 : Vec Ideal S512x1024 .bf16) (x2 : Vec Ideal S16x1024 .bf16) (x3 : Vec Ideal S512x1024 .f32) (x4 : Vec Ideal S1024x5632 .bf16)
  (x5 : Vec Ideal S3x5632 .f32) (x6 : Vec Ideal S1x5632 .f32) (x7 : Vec Ideal S2816x1024 .bf16) (x8 : Vec Ideal S1x1024 .f32)

theorem proj_ext : proj (kernelRun0_A.sl.v40 c i arg1 harg1 arg2 harg2 arg3 harg3 arg11 x0 x1 x2) x4 = blockProj x0 x1 x2 x4 (i 0).val := by
  funext r k
  exact Finset.sum_congr rfl fun x _ => by rw [ext_apply]

theorem sum_block (r : Fin 512) (j : Fin 1024) :
    sumRows arg14 (kernelRun0_A.sl.HS3_16 c i arg1 harg1 arg2 harg2 arg3 harg3 arg5 harg5 arg6 harg6 arg7 harg7 arg8 harg8 arg11 arg12 arg13 x0 x1 x2 x4 x5 x6 x7)
        (View.readAt (Elt Ideal) arg4.view (Rect.unit ![0, 0] S512x1024.size inb_S512x1024_S512x1024_0_0).toLoadRect (harg4.unread x3)) (ix2 r j)
      = blockSum x0 x1 x2 x3 x4 x5 x6 x7 (i 0).val r j := by
  rw [perms_8, sumRows_apply, stream_block, sum_all, proj_ext]
  have e : unstack ⟨256 * (r.val % 2) + r.val / 2, by omega⟩ = r := Fin.ext (by
    show 2 * ((256 * (r.val % 2) + r.val / 2) % 256) + (256 * (r.val % 2) + r.val / 2) / 256 = r.val
    omega)
  rw [e]
  rfl

theorem out_block (r : Fin 512) (j : Fin 1024) :
    out0_A_9 c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7 x8 (ix2 r j)
      = blockOut x0 x1 x2 x3 x4 x5 x6 x7 x8 (i 0).val r j := by
  unfold out0_A_9
  rw [out_pieces]
  refine (View.read_writes_cons_hit_of_coords VO0_9 _ _ _ _ (ix2 r j) _ ?_).trans ?_
  · intro a
    match a with
    | 0 => show r.val = 0 + 1 * r.val; omega
    | 1 => show j.val = 0 + 1 * j.val; omega
  · rw [finish_apply, gain_block, sum_block]
    unfold blockOut
    refine congrArg (fun z : EReal => blockSum x0 x1 x2 x3 x4 x5 x6 x7 (i 0).val r j
      * Ideal.rsqrt (Ideal.div z (Ideal.ofBits .f32 0x44800000#32) + Ideal.ofBits .f32 0x358637BD#32) * x8 (ix2 0 j)) ?_
    exact Finset.sum_congr rfl fun k _ => by rw [sum_block]

end

end Cert.Ffn

end
-- ==== Proof.FfnInputs.lean ====
/- What the feed-forward kernel's launch hands its body: a block of rows, the sixteen rows before and after it, and the weights. -/
module

public import proofs.«01_k».proof.Proof.FfnHalo
public import proofs.«01_k».proof.Proof.Gen.Kernel2Ideal.Value

@[expose] public section

set_option maxRecDepth 16384

noncomputable section

namespace Cert.Ffn

open Idealize.ShloMosaic Idealize.ShloMosaic.TcCoe
open Cert.Kernel2Ideal Cert.Kernel2Ideal.Gen

/-! ## The arrays at the launch -/

def flatHalf (u : FVec Ideal S8x4096x1024 .f32) : FVec Ideal S32768x1024 .bf16 :=
  truncf .bf16 (shapeCast S32768x1024 u shapeCasts_S8x4096x1024_S32768x1024) bitsLt_bf16_f32

def flat (u : FVec Ideal S8x4096x1024 .f32) : FVec Ideal S32768x1024 .f32 :=
  shapeCast S32768x1024 u shapeCasts_S8x4096x1024_S32768x1024

def upHalf (w : FVec Ideal S1x1024x5632 .f32) : FVec Ideal S1024x5632 .bf16 :=
  truncf .bf16 (shapeCast S1024x5632 w shapeCasts_S1x1024x5632_S1024x5632) bitsLt_bf16_f32

def taps (w : FVec Ideal S1x3x5632 .f32) : FVec Ideal S3x5632 .f32 := shapeCast S3x5632 w shapeCasts_S1x3x5632_S3x5632

def downHalf (w : FVec Ideal S1x2816x1024 .f32) : FVec Ideal S2816x1024 .bf16 :=
  truncf .bf16 (shapeCast S2816x1024 w shapeCasts_S1x2816x1024_S2816x1024) bitsLt_bf16_f32

def gainRow (g : FVec Ideal S1024 .f32) : FVec Ideal S1x1024 .f32 := broadcastInDim S1x1024 ![1] bcast_S1024_S1x1024_1 g

theorem flatHalf_apply (u : FVec Ideal S8x4096x1024 .f32) (z : Fin 32768) (x : Fin 1024) :
    flatHalf u (ix2 z x) = u (ix3 ⟨z.val / 4096, by omega⟩ ⟨z.val % 4096, by omega⟩ x) := by
  pointwise [flatHalf]

theorem flat_apply (u : FVec Ideal S8x4096x1024 .f32) (z : Fin 32768) (x : Fin 1024) :
    flat u (ix2 z x) = u (ix3 ⟨z.val / 4096, by omega⟩ ⟨z.val % 4096, by omega⟩ x) := by
  pointwise [flat]

theorem upHalf_apply (w : FVec Ideal S1x1024x5632 .f32) (x : Fin 1024) (n : Fin 5632) : upHalf w (ix2 x n) = w (ix3 0 x n) := by
  pointwise [upHalf]

theorem taps_apply (w : FVec Ideal S1x3x5632 .f32) (x : Fin 3) (n : Fin 5632) : taps w (ix2 x n) = w (ix3 0 x n) := by
  pointwise [taps]

theorem downHalf_apply (w : FVec Ideal S1x2816x1024 .f32) (x : Fin 2816) (n : Fin 1024) : downHalf w (ix2 x n) = w (ix3 0 x n) := by
  pointwise [downHalf]

theorem gainRow_apply (g : FVec Ideal S1024 .f32) (j : Fin 1024) : gainRow g (ix2 0 j) = g (ix1 j) := by
  pointwise [gainRow]

variable (m : (ℓ : Loc nD τ sig) → Buf (Elt Ideal) ℓ) (c : Dev nD)

theorem entry_rows : V m c main_v1 = flatHalf (m ((c.tc : Thread nD τ).loc main_arg0)) := by
  show StableHlo.after hostOps0 _ (Proc.devRef .tc main_v1) = _
  after_results
  rfl

theorem entry_stream : V m c main_v2 = flat (m ((c.tc : Thread nD τ).loc main_arg1)) := by
  show StableHlo.after hostOps0 _ (Proc.devRef .tc main_v2) = _
  after_results
  rfl

theorem entry_up : V m c main_v4 = upHalf (m ((c.tc : Thread nD τ).loc main_arg2)) := by
  show StableHlo.after hostOps0 _ (Proc.devRef .tc main_v4) = _
  after_results
  rfl

theorem entry_taps : V m c main_v5 = taps (m ((c.tc : Thread nD τ).loc main_arg3)) := by
  show StableHlo.after hostOps0 _ (Proc.devRef .tc main_v5) = _
  after_results
  rfl

theorem entry_down : V m c main_v7 = downHalf (m ((c.tc : Thread nD τ).loc main_arg5)) := by
  show StableHlo.after hostOps0 _ (Proc.devRef .tc main_v7) = _
  after_results
  rfl

theorem entry_gain : V m c main_v8 = gainRow (m ((c.tc : Thread nD τ).loc main_arg6)) := by
  show StableHlo.after hostOps0 _ (Proc.devRef .tc main_v8) = _
  after_results
  rfl

/-! ## The blocks -/

theorem coord_eq : ∀ t : Fin grid0.N, (grid0.coords t 0).val = t.val := by decide +kernel
theorem index0 : ∀ t : Fin grid0.N, win0_0.index t = ![32 * t.val - 1, 0] := by decide +kernel
theorem index1 : ∀ t : Fin grid0.N, win0_1.index t = ![t.val, 0] := by decide +kernel
theorem index2 : ∀ t : Fin grid0.N, win0_2.index t = ![min (32 * (t.val + 1)) 2047, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![t.val, 0] := by decide +kernel

theorem lt_64 (t : Fin cfg0.N) : t.val < 64 := lt_of_lt_of_eq t.isLt N_0

theorem iblk0 (t : Fin cfg0.N) (r : Fin 16) (x : Fin 1024) (z : Fin 32768) (hz : z.val = 16 * (32 * t.val - 1) + r.val) :
    iblk m c 0 t (ix2 r x) = V m c main_v1 (ix2 z x) := by
  show V m c main_v1 (((cfg0.win 0).blk t).view.emb (ix2 r x)) = _
  refine congrArg (V m c main_v1) ?_
  funext a
  match a with
  | 0 => exact Fin.ext (by show win0_0.index t (0 : Fin 2) * 16 + 1 * r.val = z.val; rw [index0]; show (32 * t.val - 1) * 16 + 1 * r.val = z.val; omega)
  | 1 => exact Fin.ext (by show win0_0.index t (1 : Fin 2) * 1024 + 1 * x.val = x.val; rw [index0]; show 0 * 1024 + 1 * x.val = x.val; omega)

theorem iblk1 (t : Fin cfg0.N) (r : Fin 512) (x : Fin 1024) (z : Fin 32768) (hz : z.val = 512 * t.val + r.val) :
    iblk m c 1 t (ix2 r x) = V m c main_v1 (ix2 z x) := by
  show V m c main_v1 (((cfg0.win 1).blk t).view.emb (ix2 r x)) = _
  refine congrArg (V m c main_v1) ?_
  funext a
  match a with
  | 0 => exact Fin.ext (by show win0_1.index t (0 : Fin 2) * 512 + 1 * r.val = z.val; rw [index1]; show t.val * 512 + 1 * r.val = z.val; omega)
  | 1 => exact Fin.ext (by show win0_1.index t (1 : Fin 2) * 1024 + 1 * x.val = x.val; rw [index1]; show 0 * 1024 + 1 * x.val = x.val; omega)

theorem iblk2 (t : Fin cfg0.N) (r : Fin 16) (x : Fin 1024) (z : Fin 32768) (hz : z.val = 16 * min (32 * (t.val + 1)) 2047 + r.val) :
    iblk m c 2 t (ix2 r x) = V m c main_v1 (ix2 z x) := by
  show V m c main_v1 (((cfg0.win 2).blk t).view.emb (ix2 r x)) = _
  refine congrArg (V m c main_v1) ?_
  funext a
  match a with
  | 0 => exact Fin.ext (by show win0_2.index t (0 : Fin 2) * 16 + 1 * r.val = z.val; rw [index2]; show min (32 * (t.val + 1)) 2047 * 16 + 1 * r.val = z.val; omega)
  | 1 => exact Fin.ext (by show win0_2.index t (1 : Fin 2) * 1024 + 1 * x.val = x.val; rw [index2]; show 0 * 1024 + 1 * x.val = x.val; omega)

theorem iblk3 (t : Fin cfg0.N) (r : Fin 512) (x : Fin 1024) (z : Fin 32768) (hz : z.val = 512 * t.val + r.val) :
    iblk m c 3 t (ix2 r x) = V m c main_v2 (ix2 z x) := by
  show V m c main_v2 (((cfg0.win 3).blk t).view.emb (ix2 r x)) = _
  refine congrArg (V m c main_v2) ?_
  funext a
  match a with
  | 0 => exact Fin.ext (by show win0_3.index t (0 : Fin 2) * 512 + 1 * r.val = z.val; rw [index3]; show t.val * 512 + 1 * r.val = z.val; omega)
  | 1 => exact Fin.ext (by show win0_3.index t (1 : Fin 2) * 1024 + 1 * x.val = x.val; rw [index3]; show 0 * 1024 + 1 * x.val = x.val; omega)

theorem iblk4 (t : Fin cfg0.N) (r : Fin 1024) (x : Fin 5632) : iblk m c 4 t (ix2 r x) = V m c main_v4 (ix2 r x) := by
  show V m c main_v4 (((cfg0.win 4).blk t).view.emb (ix2 r x)) = _
  refine congrArg (V m c main_v4) ?_
  funext a
  match a with
  | 0 => exact Fin.ext (by show win0_4.index t (0 : Fin 2) * 1024 + 1 * r.val = r.val; rw [index4]; show 0 * 1024 + 1 * r.val = r.val; omega)
  | 1 => exact Fin.ext (by show win0_4.index t (1 : Fin 2) * 5632 + 1 * x.val = x.val; rw [index4]; show 0 * 5632 + 1 * x.val = x.val; omega)

theorem iblk5 (t : Fin cfg0.N) (r : Fin 3) (x : Fin 5632) : iblk m c 5 t (ix2 r x) = V m c main_v5 (ix2 r x) := by
  show V m c main_v5 (((cfg0.win 5).blk t).view.emb (ix2 r x)) = _
  refine congrArg (V m c main_v5) ?_
  funext a
  match a with
  | 0 => exact Fin.ext (by show win0_5.index t (0 : Fin 2) * 3 + 1 * r.val = r.val; rw [index5]; show 0 * 3 + 1 * r.val = r.val; omega)
  | 1 => exact Fin.ext (by show win0_5.index t (1 : Fin 2) * 5632 + 1 * x.val = x.val; rw [index5]; show 0 * 5632 + 1 * x.val = x.val; omega)

theorem iblk6 (t : Fin cfg0.N) (x : Fin 5632) : iblk m c 6 t (ix2 0 x) = V m c main_arg4 (ix2 0 x) := by
  show V m c main_arg4 (((cfg0.win 6).blk t).view.emb (ix2 0 x)) = _
  refine congrArg (V m c main_arg4) ?_
  funext a
  match a with
  | 0 => exact Fin.ext (by show win0_6.index t (0 : Fin 2) * 1 + 1 * 0 = 0; rw [index6]; show 0 * 1 + 1 * 0 = 0; omega)
  | 1 => exact Fin.ext (by show win0_6.index t (1 : Fin 2) * 5632 + 1 * x.val = x.val; rw [index6]; show 0 * 5632 + 1 * x.val = x.val; omega)

theorem iblk7 (t : Fin cfg0.N) (r : Fin 2816) (x : Fin 1024) : iblk m c 7 t (ix2 r x) = V m c main_v7 (ix2 r x) := by
  show V m c main_v7 (((cfg0.win 7).blk t).view.emb (ix2 r x)) = _
  refine congrArg (V m c main_v7) ?_
  funext a
  match a with
  | 0 => exact Fin.ext (by show win0_7.index t (0 : Fin 2) * 2816 + 1 * r.val = r.val; rw [index7]; show 0 * 2816 + 1 * r.val = r.val; omega)
  | 1 => exact Fin.ext (by show win0_7.index t (1 : Fin 2) * 1024 + 1 * x.val = x.val; rw [index7]; show 0 * 1024 + 1 * x.val = x.val; omega)

theorem iblk8 (t : Fin cfg0.N) (x : Fin 1024) : iblk m c 8 t (ix2 0 x) = V m c main_v8 (ix2 0 x) := by
  show V m c main_v8 (((cfg0.win 8).blk t).view.emb (ix2 0 x)) = _
  refine congrArg (V m c main_v8) ?_
  funext a
  match a with
  | 0 => exact Fin.ext (by show win0_8.index t (0 : Fin 2) * 1 + 1 * 0 = 0; rw [index8]; show 0 * 1 + 1 * 0 = 0; omega)
  | 1 => exact Fin.ext (by show win0_8.index t (1 : Fin 2) * 1024 + 1 * x.val = x.val; rw [index8]; show 0 * 1024 + 1 * x.val = x.val; omega)

/-- A row a block convolves is the sequence's row there, or zero outside the sequence. -/
theorem ext_value (t : Fin cfg0.N) (r : Fin 512) (d : ℕ) (hd : d < 3) (x : Fin 1024) (z : ℕ) (hz : z = 512 * t.val + r.val) (q : Fin 528) (hq : q.val = (15 + d + r.val) % 528) :
    extRow (iblk m c 0 t) (iblk m c 1 t) (iblk m c 2 t) t.val q x
      = if h : 1 ≤ z % 4096 + d ∧ z % 4096 + d < 4097 then
          m ((c.tc : Thread nD τ).loc main_arg0) (ix3 ⟨z / 4096, by have := lt_64 t; omega⟩ ⟨z % 4096 + d - 1, by omega⟩ x) else (0 : EReal) := by
  have ht := lt_64 t
  have hu : ∀ (y : Fin 32768) (h : 1 ≤ z % 4096 + d ∧ z % 4096 + d < 4097), y.val + 1 = z + d →
      V m c main_v1 (ix2 y x) = m ((c.tc : Thread nD τ).loc main_arg0) (ix3 ⟨z / 4096, by omega⟩ ⟨z % 4096 + d - 1, by omega⟩ x) := by
    intro y h hy
    rw [entry_rows, flatHalf_apply]
    have e0 : y.val / 4096 = z / 4096 := by omega
    have e1 : y.val % 4096 = z % 4096 + d - 1 := by omega
    simp only [e0, e1]
  unfold extRow
  by_cases h16 : 16 ≤ q.val
  · rw [dif_pos h16, dif_pos (by omega), iblk1 m c t _ x ⟨512 * t.val + (q.val - 16), by omega⟩ rfl]
    exact hu _ (by omega) (by show 512 * t.val + (q.val - 16) + 1 = z + d; omega)
  · rw [dif_neg h16]
    by_cases h0 : q.val = 0
    · by_cases h7 : t.val % 8 ≠ 7
      · rw [if_pos ⟨h0, h7⟩, dif_pos (by omega), iblk2 m c t 0 x ⟨512 * (t.val + 1), by omega⟩ (by show 512 * (t.val + 1) = 16 * min (32 * (t.val + 1)) 2047 + 0; omega)]
        exact hu _ (by omega) (by show 512 * (t.val + 1) + 1 = z + d; omega)
      · rw [if_neg (fun h => h7 h.2), if_neg (by omega), dif_neg (by omega)]
    · by_cases h7 : t.val % 8 ≠ 0
      · rw [if_neg (fun h => h0 h.1), if_pos ⟨by omega, h7⟩, dif_pos (by omega), iblk0 m c t 15 x ⟨512 * t.val - 1, by omega⟩ (by show 512 * t.val - 1 = 16 * (32 * t.val - 1) + 15; omega)]
        exact hu _ (by omega) (by show 512 * t.val - 1 + 1 = z + d; omega)
      · rw [if_neg (fun h => h0 h.1), if_neg (fun h => h7 h.2), dif_neg (by omega)]

end Cert.Ffn

end
-- ==== Proof.FfnReference.lean ====
/- The feed-forward reference's arrays, stage by stage, and what each holds at an index. -/
module

public import proofs.«01_k».proof.Proof.Gen.Reference2Ideal.Run
public import Idealize.ShloMosaic.Lib.Pointwise

@[expose] public section

set_option maxRecDepth 16384

noncomputable section

namespace Cert.Ffn.Reference

open Idealize.ShloMosaic Idealize.ShloMosaic.TcCoe
open Cert.Reference2Ideal Cert.Reference2Ideal.Gen

/-! ## The stages -/

/-- The projections of the tokens, one row of zeros before and after. -/
def projected (u : FVec Ideal S8x4096x1024 .f32) (w : FVec Ideal S1x1024x5632 .f32) : FVec Ideal S8x4098x5632 .f32 :=
  pad S8x4098x5632 ![0, 1, 0] ![0, 1, 0] ![0, 0, 0] (Host.dotGeneral dot_S8x4096x1024_S1024x5632_S8x4096x5632_2_0_01_1_n_n none u (shapeCast _ w shapeCasts_S1x1024x5632_S1024x5632)) (sitofp .f32 (constantI S_ 32 0#32)) pads_S8x4096x5632_S8x4098x5632_000_110_000 h_S_

/-- The convolution along the tokens, with its bias. -/
def convolved (p : FVec Ideal S8x4098x5632 .f32) (k : FVec Ideal S1x3x5632 .f32) (b : FVec Ideal S1x5632 .f32) : FVec Ideal S8x4096x5632 .f32 :=
  addf (addf (addf (addf (broadcastInDim S8x4096x5632 ![] bcast_S_S8x4096x5632 (constant S_ .f32 0x00000000#32))
    (mulf (extractStridedSlice S8x4096x5632 ![0, 0, 0] p slices_S8x4098x5632_S8x4096x5632_0_0_0) (broadcastInDim S8x4096x5632 ![0, 1, 2] bcast_S1x1x5632_S8x4096x5632_0_1_2 (broadcastInDim S1x1x5632 ![2] bcast_S5632_S1x1x5632_2 (shapeCast _ (extractStridedSlice S1x5632 ![0, 0] (shapeCast _ k shapeCasts_S1x3x5632_S3x5632) slices_S3x5632_S1x5632_0_0) shapeCasts_S1x5632_S5632)))))
    (mulf (extractStridedSlice S8x4096x5632 ![0, 1, 0] p slices_S8x4098x5632_S8x4096x5632_0_1_0) (broadcastInDim S8x4096x5632 ![0, 1, 2] bcast_S1x1x5632_S8x4096x5632_0_1_2 (broadcastInDim S1x1x5632 ![2] bcast_S5632_S1x1x5632_2 (shapeCast _ (extractStridedSlice S1x5632 ![1, 0] (shapeCast _ k shapeCasts_S1x3x5632_S3x5632) slices_S3x5632_S1x5632_1_0) shapeCasts_S1x5632_S5632)))))
    (mulf (extractStridedSlice S8x4096x5632 ![0, 2, 0] p slices_S8x4098x5632_S8x4096x5632_0_2_0) (broadcastInDim S8x4096x5632 ![0, 1, 2] bcast_S1x1x5632_S8x4096x5632_0_1_2 (broadcastInDim S1x1x5632 ![2] bcast_S5632_S1x1x5632_2 (shapeCast _ (extractStridedSlice S1x5632 ![2, 0] (shapeCast _ k shapeCasts_S1x3x5632_S3x5632) slices_S3x5632_S1x5632_2_0) shapeCasts_S1x5632_S5632)))))
    (broadcastInDim S8x4096x5632 ![0, 1, 2] bcast_S1x1x5632_S8x4096x5632_0_1_2 (broadcastInDim S1x1x5632 ![2] bcast_S5632_S1x1x5632_2 (shapeCast _ b shapeCasts_S1x5632_S5632)))

/-- The first half of the channels through the gate, times the second. -/
def gated (y : FVec Ideal S8x4096x5632 .f32) : FVec Ideal S8x4096x2816 .f32 :=
  mulf (mulf (extractStridedSlice S8x4096x2816 ![0, 0, 0] y slices_S8x4096x5632_S8x4096x2816_0_0_0)
    (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] y slices_S8x4096x5632_S8x4096x2816_0_0_0))))))
    (extractStridedSlice S8x4096x2816 ![0, 0, 2816] y slices_S8x4096x5632_S8x4096x2816_0_0_2816)

/-- The residual stream after the feed-forward part. -/
def stream (h : FVec Ideal S8x4096x1024 .f32) (s : FVec Ideal S8x4096x2816 .f32) (w : FVec Ideal S1x2816x1024 .f32) : FVec Ideal S8x4096x1024 .f32 :=
  addf h (Host.dotGeneral dot_S8x4096x2816_S2816x1024_S8x4096x1024_2_0_01_1_n_n none s (shapeCast _ w shapeCasts_S1x2816x1024_S2816x1024))

/-- The sum of each row's squares. -/
def squares (h : FVec Ideal S8x4096x1024 .f32) : FVec Ideal S8x4096 .f32 :=
  Host.reduceAdd (mulf h h) (constant S_ .f32 0x00000000#32) reducesTo_S8x4096x1024_S8x4096_d2 h_S_

/-- Each row over its root mean square, times the gain. -/
def normed (h : FVec Ideal S8x4096x1024 .f32) (q : FVec Ideal S8x4096 .f32) (g : FVec Ideal S1024 .f32) : FVec Ideal S8x4096x1024 .f32 :=
  mulf (mulf h (broadcastInDim S8x4096x1024 ![0, 1, 2] bcast_S8x4096x1_S8x4096x1024_0_1_2 (Host.rsqrt (addf (Host.divf (broadcastInDim S8x4096x1 ![0, 1] bcast_S8x4096_S8x4096x1_0_1 q) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The rows of all the sequences in one array. -/
def rows (y : FVec Ideal S8x4096x1024 .f32) : FVec Ideal S32768x1024 .f32 := shapeCast _ y shapeCasts_S8x4096x1024_S32768x1024

/-! ## The program's result is these stages -/

theorem out_eq (m : (ℓ : Loc nD τ sig) → Buf (Elt Ideal) ℓ) (c : Dev nD) :
    let h := stream (m ((c.tc : Thread nD τ).loc main_arg1)) (gated (convolved (projected (m ((c.tc : Thread nD τ).loc main_arg0)) (m ((c.tc : Thread nD τ).loc main_arg2))) (m ((c.tc : Thread nD τ).loc main_arg3)) (m ((c.tc : Thread nD τ).loc main_arg4)))) (m ((c.tc : Thread nD τ).loc main_arg5))
    Cert.Reference2Ideal.Value.res_out0 m c = rows (normed h (squares h) (m ((c.tc : Thread nD τ).loc main_arg6))) := rfl

/-! ## What each holds at an index -/

theorem projected_apply (u : FVec Ideal S8x4096x1024 .f32) (w : FVec Ideal S1x1024x5632 .f32) (b : Fin 8) (p : Fin 4098) (c : Fin 5632) :
    projected u w (ix3 b p c) = if h : 1 ≤ p.val ∧ p.val < 4097 then ∑ x : Fin 1024, u (ix3 b ⟨p.val - 1, by omega⟩ x) * w (ix3 0 x c) else 0 := by
  pointwise [projected]
  have hz : FloatOps.sitofp (F := Ideal) FTy.f32 (0#32 : BitVec 32) = 0 := by
    show (((0#32 : BitVec 32).toInt : ℝ) : EReal) = 0
    simp
  by_cases h : 1 ≤ p.val ∧ p.val < 4097
  · rw [dif_pos h, dif_pos (show 1 ≤ p.val ∧ p.val - 1 < 4096 by omega)]
  · rw [dif_neg h, dif_neg (show ¬(1 ≤ p.val ∧ p.val - 1 < 4096) by omega), hz]

theorem convolved_apply (p : FVec Ideal S8x4098x5632 .f32) (k : FVec Ideal S1x3x5632 .f32) (b : FVec Ideal S1x5632 .f32) (n : Fin 8) (t : Fin 4096) (c : Fin 5632) :
    convolved p k b (ix3 n t c) = p (ix3 n ⟨t.val, by omega⟩ c) * k (ix3 0 0 c) + p (ix3 n ⟨1 + t.val, by omega⟩ c) * k (ix3 0 1 c) + p (ix3 n ⟨2 + t.val, by omega⟩ c) * k (ix3 0 2 c) + b (ix2 0 c) := by
  pointwise [convolved]

theorem gated_apply (y : FVec Ideal S8x4096x5632 .f32) (n : Fin 8) (t : Fin 4096) (c : Fin 2816) :
    gated y (ix3 n t c) = y (ix3 n t ⟨c.val, by omega⟩) * Ideal.div 1 (1 + Ideal.exp (-y (ix3 n t ⟨c.val, by omega⟩))) * y (ix3 n t ⟨2816 + c.val, by omega⟩) := by
  pointwise [gated]

theorem stream_apply (h : FVec Ideal S8x4096x1024 .f32) (s : FVec Ideal S8x4096x2816 .f32) (w : FVec Ideal S1x2816x1024 .f32) (n : Fin 8) (t : Fin 4096) (j : Fin 1024) :
    stream h s w (ix3 n t j) = h (ix3 n t j) + ∑ c : Fin 2816, s (ix3 n t c) * w (ix3 0 c j) := by
  pointwise [stream]

theorem reduces_last : S8x4096x1024.Reduces [2] S8x4096 := by decide

theorem lift_last (n : Fin 8) (t : Fin 4096) (j : Fin 1024) : reduces_last.lift (ix2 n t) j = ix3 n t j := by
  funext a
  match a with
  | 0 => rfl
  | 1 => rfl
  | 2 => rfl

theorem squares_apply (h : FVec Ideal S8x4096x1024 .f32) (n : Fin 8) (t : Fin 4096) :
    squares h (ix2 n t) = ∑ j : Fin 1024, h (ix3 n t j) * h (ix3 n t j) := by
  show Ideal.hostReduceAdd reducesTo_S8x4096x1024_S8x4096_d2 (mulf h h) (Ideal.ofBits .f32 0x00000000#32) (ix2 n t) = _
  unfold Ideal.hostReduceAdd
  rw [Shape.ReducesTo.drop_eq_drop reducesTo_S8x4096x1024_S8x4096_d2 reduces_last, Ideal.ofBits_zero_f32, zero_add]
  refine (Shape.Reduces.sum_filter_drop_single reduces_last (mulf h h) _).trans ?_
  exact Finset.sum_congr rfl fun w _ => congrArg (mulf h h) (lift_last n t w)

theorem normed_apply (h : FVec Ideal S8x4096x1024 .f32) (q : FVec Ideal S8x4096 .f32) (g : FVec Ideal S1024 .f32) (n : Fin 8) (t : Fin 4096) (j : Fin 1024) :
    normed h q g (ix3 n t j) = h (ix3 n t j) * Ideal.rsqrt (Ideal.div (q (ix2 n t)) (Ideal.ofBits .f32 0x44800000#32) + Ideal.ofBits .f32 0x358637BD#32) * g (ix1 j) := by
  pointwise [normed]

theorem rows_apply (y : FVec Ideal S8x4096x1024 .f32) (r : Fin 32768) (j : Fin 1024) :
    rows y (ix2 r j) = y (ix3 ⟨r.val / 4096, by omega⟩ ⟨r.val % 4096, by omega⟩ j) := by
  pointwise [rows]

end Cert.Ffn.Reference

end
-- ==== Proof.FfnValue.lean ====
/- The array the feed-forward kernel leaves, and that the reference leaves the same. -/
module

public import proofs.«01_k».proof.Proof.FfnBlock
public import proofs.«01_k».proof.Proof.FfnInputs
public import proofs.«01_k».proof.Proof.FfnReference

@[expose] public section

set_option maxRecDepth 16384

noncomputable section

namespace Cert.Ffn

open Idealize.ShloMosaic Idealize.ShloMosaic.TcCoe
open Cert.Kernel2Ideal Cert.Kernel2Ideal.Gen Cert.Kernel2Ideal.Value

variable (m : (ℓ : Loc nD τ sig) → Buf (Elt Ideal) ℓ) (c : Dev nD)

/-- Row `r` of block `t` of the array the kernel leaves. -/
theorem kernel_row (t : Fin cfg0.N) (r : Fin 512) (j : Fin 1024) (z : Fin 32768) (hz : z.val = 512 * t.val + r.val) :
    (dats m 0 c).arrAt 9 cfg0.N (ix2 z j)
      = blockOut (iblk m c 0 t) (iblk m c 1 t) (iblk m c 2 t) (iblk m c 3 t) (iblk m c 4 t) (iblk m c 5 t) (iblk m c 6 t) (iblk m c 7 t) (iblk m c 8 t) t.val r j := by
  have hf : (cfg0.win 9).flush t = true := flush0_9 t
  have hb := congrFun (blocks9 m c t hf) (ix2 r j)
  rw [flushed9_A] at hb
  have hi : ((cfg0.win 9).blk t).view.emb (ix2 r j) = ix2 z j := by
    funext a
    match a with
    | 0 => exact Fin.ext (by show win0_9.index t (0 : Fin 2) * 512 + 1 * r.val = z.val; rw [index9]; show t.val * 512 + 1 * r.val = z.val; omega)
    | 1 => exact Fin.ext (by show win0_9.index t (1 : Fin 2) * 1024 + 1 * j.val = j.val; rw [index9]; show 0 * 1024 + 1 * j.val = j.val; omega)
  have h1 : ((cfg0.win 9).blk t).view.read (Elt Ideal) ((dats m 0 c).arrAt 9 cfg0.N) (ix2 r j) = (dats m 0 c).arrAt 9 cfg0.N (ix2 z j) := by
    rw [← hi]
    rfl
  rw [← h1, hb]
  refine Eq.trans ?_ ((out_block c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) scM0_0 (Memref.isWhole_whole _) scM0_1 (Memref.isWhole_whole _)
    scM0_2 (Memref.isWhole_whole _) scM0_3 (Memref.isWhole_whole _) (iblk m c 0 t) (iblk m c 1 t) (iblk m c 2 t) (iblk m c 3 t) (iblk m c 4 t) (iblk m c 5 t)
    (iblk m c 6 t) (iblk m c 7 t) (iblk m c 8 t) r j).trans (by rw [coord_eq t]))
  rfl

/-! ## The same from the arguments -/

open Reference

variable (u h : FVec Ideal S8x4096x1024 .f32) (w : FVec Ideal S1x1024x5632 .f32) (k : FVec Ideal S1x3x5632 .f32) (b : FVec Ideal S1x5632 .f32)
  (d : FVec Ideal S1x2816x1024 .f32) (g : FVec Ideal S1024 .f32)

/-- A launch's arguments. -/
structure Args : Prop where
  a0 : m ((c.tc : Thread nD τ).loc main_arg0) = u
  a1 : m ((c.tc : Thread nD τ).loc main_arg1) = h
  a2 : m ((c.tc : Thread nD τ).loc main_arg2) = w
  a3 : m ((c.tc : Thread nD τ).loc main_arg3) = k
  a4 : m ((c.tc : Thread nD τ).loc main_arg4) = b
  a5 : m ((c.tc : Thread nD τ).loc main_arg5) = d
  a6 : m ((c.tc : Thread nD τ).loc main_arg6) = g

variable {m c u h w k b d g}

theorem proj_value (ha : Args m c u h w k b d g) (t : Fin cfg0.N) (r : Fin 512) (e : ℕ) (he : e < 3) (n : Fin 5632) (z : Fin 32768) (hz : z.val = 512 * t.val + r.val)
    (q : Fin 528) (hq : q.val = (15 + e + r.val) % 528) :
    blockProj (iblk m c 0 t) (iblk m c 1 t) (iblk m c 2 t) (iblk m c 4 t) t.val q n
      = projected u w (ix3 ⟨z.val / 4096, by omega⟩ ⟨z.val % 4096 + e, by omega⟩ n) := by
  rw [projected_apply]
  have hx : ∀ x : Fin 1024, extRow (iblk m c 0 t) (iblk m c 1 t) (iblk m c 2 t) t.val q x * iblk m c 4 t (ix2 x n)
      = if h : 1 ≤ z.val % 4096 + e ∧ z.val % 4096 + e < 4097 then
          u (ix3 ⟨z.val / 4096, by omega⟩ ⟨z.val % 4096 + e - 1, by omega⟩ x) * w (ix3 0 x n) else (0 : EReal) := by
    intro x
    rw [ext_value m c t r e he x z.val hz q hq, iblk4, entry_up, upHalf_apply, ha.a2, ha.a0]
    by_cases hh : 1 ≤ z.val % 4096 + e ∧ z.val % 4096 + e < 4097
    · rw [dif_pos hh, dif_pos hh]
    · rw [dif_neg hh, dif_neg hh, zero_mul]
  unfold blockProj
  by_cases hh : 1 ≤ z.val % 4096 + e ∧ z.val % 4096 + e < 4097
  · rw [dif_pos hh]
    exact Finset.sum_congr rfl fun x _ => by rw [hx, dif_pos hh]
  · rw [dif_neg hh]
    exact Finset.sum_eq_zero fun x _ => by rw [hx, dif_neg hh]

theorem conv_value (ha : Args m c u h w k b d g) (t : Fin cfg0.N) (r : Fin 512) (n : Fin 5632) (z : Fin 32768) (hz : z.val = 512 * t.val + r.val) :
    conv (blockProj (iblk m c 0 t) (iblk m c 1 t) (iblk m c 2 t) (iblk m c 4 t) t.val) (iblk m c 5 t) (iblk m c 6 t) r n
      = convolved (projected u w) k b (ix3 ⟨z.val / 4096, by omega⟩ ⟨z.val % 4096, by omega⟩ n) := by
  rw [convolved_apply]
  unfold conv
  rw [proj_value ha t r 0 (by omega) n z hz _ rfl, proj_value ha t r 1 (by omega) n z hz _ rfl, proj_value ha t r 2 (by omega) n z hz _ rfl,
    iblk5, iblk5, iblk5, iblk6, entry_taps, taps_apply, taps_apply, taps_apply, V_main_arg4, ha.a3, ha.a4]
  have e1 : 1 + z.val % 4096 = z.val % 4096 + 1 := by omega
  have e2 : 2 + z.val % 4096 = z.val % 4096 + 2 := by omega
  simp only [e1, e2, add_zero, mul_comm]

/-- The hidden columns' contribution joins the stream. -/
theorem sum_value (ha : Args m c u h w k b d g) (t : Fin cfg0.N) (r : Fin 512) (j : Fin 1024) (z : Fin 32768) (hz : z.val = 512 * t.val + r.val) :
    blockSum (iblk m c 0 t) (iblk m c 1 t) (iblk m c 2 t) (iblk m c 3 t) (iblk m c 4 t) (iblk m c 5 t) (iblk m c 6 t) (iblk m c 7 t) t.val r j
      = stream h (gated (convolved (projected u w) k b)) d (ix3 ⟨z.val / 4096, by omega⟩ ⟨z.val % 4096, by omega⟩ j) := by
  rw [stream_apply]
  unfold blockSum
  rw [iblk3 m c t r j z hz, entry_stream, flat_apply, ha.a1]
  refine congrArg (fun y : EReal => h (ix3 ⟨z.val / 4096, by omega⟩ ⟨z.val % 4096, by omega⟩ j) + y) ?_
  refine Finset.sum_congr rfl fun ch _ => ?_
  rw [gated_apply, iblk7, entry_down, downHalf_apply, ha.a5]
  unfold gate
  rw [conv_value ha t r _ z hz, conv_value ha t r _ z hz]

theorem out_value (ha : Args m c u h w k b d g) (z : Fin 32768) (j : Fin 1024) :
    (dats m 0 c).arrAt 9 cfg0.N (ix2 z j)
      = Reference.rows (normed (stream h (gated (convolved (projected u w) k b)) d) (squares (stream h (gated (convolved (projected u w) k b)) d)) g) (ix2 z j) := by
  have hN : z.val / 512 < cfg0.N := lt_of_lt_of_eq (by omega : z.val / 512 < 64) N_0.symm
  have hz : z.val = 512 * (⟨z.val / 512, hN⟩ : Fin cfg0.N).val + (⟨z.val % 512, by omega⟩ : Fin 512).val := by
    show z.val = 512 * (z.val / 512) + z.val % 512
    omega
  rw [kernel_row m c ⟨z.val / 512, hN⟩ ⟨z.val % 512, by omega⟩ j z hz, rows_apply, normed_apply, squares_apply]
  unfold blockOut
  rw [sum_value ha _ _ j z hz, iblk8, entry_gain, gainRow_apply, ha.a6]
  refine congrArg (fun y : EReal => stream h (gated (convolved (projected u w) k b)) d (ix3 ⟨z.val / 4096, by omega⟩ ⟨z.val % 4096, by omega⟩ j)
      * Ideal.rsqrt (Ideal.div y (Ideal.ofBits .f32 0x44800000#32) + Ideal.ofBits .f32 0x358637BD#32) * g (ix1 j)) ?_
  exact Finset.sum_congr rfl fun x _ => by rw [sum_value ha _ _ x z hz]

end Cert.Ffn

end
-- ==== Proof.MixParts.lean ====
/- What the mixing kernel's body stores in its scratch, as functions of the class of positions. The printed body writes the rows of each class
   of positions to every fourth or sixteenth row, once for the log-sums and four times for the outputs; here each of the four families is one list
   by recursion, and each printed list is shown to be that. -/
module

public import proofs.«01_k».proof.Proof.Gen.Kernel3Ideal.Value

@[expose] public section

set_option maxRecDepth 16384

noncomputable section

namespace Cert.Mix

open Idealize.ShloMosaic Idealize.ShloMosaic.TcCoe Idealize.ShloMosaic.Tactic
open Cert.Kernel3Ideal Cert.Kernel3Ideal.Gen

variable {F : FTy → Type} [FloatOps F]

/-! ## Groups of four classes -/

section Four

variable (arg7 : Memref sig .tc .vmem S1x4x128x128 .f32) (f7 : arg7.view.ty.Contents (Elt F))
  (arg4 : Memref sig .tc .vmem S1x4x128x512 .bf16) (f4 : arg4.view.ty.Contents (Elt F)) (L : List (View.Piece (Elt F) S10x512x128 .f32))

theorem lseLoad4_inb (k : ℕ) : ∀ a, (![0, k % 4, 0, 0] : Fin 4 → ℕ) a + S1x1x128x128.size a ≤ S1x4x128x128.size a := by
  intro a
  have h : k % 4 < 4 := Nat.mod_lt _ (by decide)
  match a with
  | 0 => show 0 + 1 ≤ 1; omega
  | 1 => show k % 4 + 1 ≤ 4; omega
  | 2 => show 0 + 128 ≤ 128; omega
  | 3 => show 0 + 128 ≤ 128; omega

theorem outLoad4_inb (k : ℕ) : ∀ a, (![0, k % 4, 0, 0] : Fin 4 → ℕ) a + S1x1x128x512.size a ≤ S1x4x128x512.size a := by
  intro a
  have h : k % 4 < 4 := Nat.mod_lt _ (by decide)
  match a with
  | 0 => show 0 + 1 ≤ 1; omega
  | 1 => show k % 4 + 1 ≤ 4; omega
  | 2 => show 0 + 128 ≤ 128; omega
  | 3 => show 0 + 512 ≤ 512; omega

theorem lseRows4_inb (k : ℕ) : ∀ a, S1x128x128.size a = 0 ∨ (![0, k % 4, 0] : Fin 3 → ℕ) a + (![1, 4, 1] : Fin 3 → ℕ) a * (S1x128x128.size a - 1) < S1x512x128.size a := by
  intro a
  have h : k % 4 < 4 := Nat.mod_lt _ (by decide)
  match a with
  | 0 => right; show 0 + 1 * (1 - 1) < 1; omega
  | 1 => right; show k % 4 + 4 * (128 - 1) < 512; omega
  | 2 => right; show 0 + 1 * (128 - 1) < 128; omega

theorem outRows4_inb (s k : ℕ) : ∀ a, S1x128x128.size a = 0 ∨ (![s % 4, k % 4, 0] : Fin 3 → ℕ) a + (![1, 4, 1] : Fin 3 → ℕ) a * (S1x128x128.size a - 1) < S4x512x128.size a := by
  intro a
  have h : k % 4 < 4 := Nat.mod_lt _ (by decide)
  have h' : s % 4 < 4 := Nat.mod_lt _ (by decide)
  match a with
  | 0 => right; show s % 4 + 1 * (1 - 1) < 4; omega
  | 1 => right; show k % 4 + 4 * (128 - 1) < 512; omega
  | 2 => right; show 0 + 1 * (128 - 1) < 128; omega

/-- The log-sums of class `k`. -/
def lseLoad4 (k : ℕ) : Vec F S1x1x128x128 .f32 :=
  View.readAt (Elt F) arg7.view (Rect.unit (s := S1x4x128x128) ![0, k % 4, 0, 0] S1x1x128x128.size (lseLoad4_inb k)).toLoadRect f7

/-- The outputs of class `k`. -/
def outLoad4 (k : ℕ) : Vec F S1x1x128x512 .bf16 :=
  View.readAt (Elt F) arg4.view (Rect.unit (s := S1x4x128x512) ![0, k % 4, 0, 0] S1x1x128x512.size (outLoad4_inb k)).toLoadRect f4

/-- 128 of the columns. -/
def quarter4 (x : FVec F S128x512 .f32) (s : ℕ) : FVec F S128x128 .f32 :=
  match s % 4 with
  | 0 => extractStridedSlice S128x128 ![0, 0] x slices_S128x512_o0_0_S128x128
  | 1 => extractStridedSlice S128x128 ![0, 128] x slices_S128x512_o0_128_S128x128
  | 2 => extractStridedSlice S128x128 ![0, 256] x slices_S128x512_o0_256_S128x128
  | _ => extractStridedSlice S128x128 ![0, 384] x slices_S128x512_o0_384_S128x128

/-- The log-sums of class `k` at every fourth row of slab 0. -/
def lsePiece4 (k : ℕ) : View.Piece (Elt F) S10x512x128 .f32 :=
  ⟨(Rect.unit (s := S10x512x128) ![0, 0, 0] S1x512x128.size inb_S10x512x128_S1x512x128_0_0_0).within
      ⟨⟨![0, k % 4, 0], S1x128x128.size, ![1, 4, 1], lseRows4_inb k⟩, spos_1_4_1⟩ (fun _ => rfl),
    shapeCast S1x128x128 (shapeCast S128x128 (lseLoad4 arg7 f7 k) shapeCasts_S1x1x128x128_S128x128) shapeCasts_S128x128_S1x128x128⟩

/-- Columns `s` of the outputs of class `k` at every fourth row of slab `2 + s`. -/
def outPiece4 (k s : ℕ) : View.Piece (Elt F) S10x512x128 .f32 :=
  ⟨(Rect.unit (s := S10x512x128) ![2, 0, 0] S4x512x128.size inb_S10x512x128_S4x512x128_2_0_0).within
      ⟨⟨![s % 4, k % 4, 0], S1x128x128.size, ![1, 4, 1], outRows4_inb s k⟩, spos_1_4_1⟩ (fun _ => rfl),
    shapeCast S1x128x128 (quarter4 (extf .f32 (shapeCast S128x512 (outLoad4 arg4 f4 k) shapeCasts_S1x1x128x512_S128x512) bitsLt_bf16_f32) s) shapeCasts_S128x128_S1x128x128⟩

/-- The log-sums of the first `n` classes, the last first. -/
def lses4 : ℕ → List (View.Piece (Elt F) S10x512x128 .f32)
  | 0 => L
  | k + 1 => lsePiece4 arg7 f7 k :: lses4 k

/-- The first `n` column blocks of the outputs, the last first. -/
def outs4 : ℕ → List (View.Piece (Elt F) S10x512x128 .f32)
  | 0 => L
  | m + 1 => outPiece4 arg4 f4 (m / 4) m :: outs4 m

end Four

/-! ## Groups of sixteen classes -/

section Sixteen

variable (arg8 : Memref sig .tc .vmem S1x16x32x128 .f32) (f8 : arg8.view.ty.Contents (Elt F))
  (arg5 : Memref sig .tc .vmem S1x16x32x512 .bf16) (f5 : arg5.view.ty.Contents (Elt F)) (L : List (View.Piece (Elt F) S10x512x128 .f32))

theorem lseLoad16_inb (k : ℕ) : ∀ a, (![0, k % 16, 0, 0] : Fin 4 → ℕ) a + S1x1x32x128.size a ≤ S1x16x32x128.size a := by
  intro a
  have h : k % 16 < 16 := Nat.mod_lt _ (by decide)
  match a with
  | 0 => show 0 + 1 ≤ 1; omega
  | 1 => show k % 16 + 1 ≤ 16; omega
  | 2 => show 0 + 32 ≤ 32; omega
  | 3 => show 0 + 128 ≤ 128; omega

theorem outLoad16_inb (k : ℕ) : ∀ a, (![0, k % 16, 0, 0] : Fin 4 → ℕ) a + S1x1x32x512.size a ≤ S1x16x32x512.size a := by
  intro a
  have h : k % 16 < 16 := Nat.mod_lt _ (by decide)
  match a with
  | 0 => show 0 + 1 ≤ 1; omega
  | 1 => show k % 16 + 1 ≤ 16; omega
  | 2 => show 0 + 32 ≤ 32; omega
  | 3 => show 0 + 512 ≤ 512; omega

theorem lseRows16_inb (k : ℕ) : ∀ a, S1x32x128.size a = 0 ∨ (![0, k % 16, 0] : Fin 3 → ℕ) a + (![1, 16, 1] : Fin 3 → ℕ) a * (S1x32x128.size a - 1) < S1x512x128.size a := by
  intro a
  have h : k % 16 < 16 := Nat.mod_lt _ (by decide)
  match a with
  | 0 => right; show 0 + 1 * (1 - 1) < 1; omega
  | 1 => right; show k % 16 + 16 * (32 - 1) < 512; omega
  | 2 => right; show 0 + 1 * (128 - 1) < 128; omega

theorem outRows16_inb (s k : ℕ) : ∀ a, S1x32x128.size a = 0 ∨ (![s % 4, k % 16, 0] : Fin 3 → ℕ) a + (![1, 16, 1] : Fin 3 → ℕ) a * (S1x32x128.size a - 1) < S4x512x128.size a := by
  intro a
  have h : k % 16 < 16 := Nat.mod_lt _ (by decide)
  have h' : s % 4 < 4 := Nat.mod_lt _ (by decide)
  match a with
  | 0 => right; show s % 4 + 1 * (1 - 1) < 4; omega
  | 1 => right; show k % 16 + 16 * (32 - 1) < 512; omega
  | 2 => right; show 0 + 1 * (128 - 1) < 128; omega

/-- The log-sums of class `k`. -/
def lseLoad16 (k : ℕ) : Vec F S1x1x32x128 .f32 :=
  View.readAt (Elt F) arg8.view (Rect.unit (s := S1x16x32x128) ![0, k % 16, 0, 0] S1x1x32x128.size (lseLoad16_inb k)).toLoadRect f8

/-- The outputs of class `k`. -/
def outLoad16 (k : ℕ) : Vec F S1x1x32x512 .bf16 :=
  View.readAt (Elt F) arg5.view (Rect.unit (s := S1x16x32x512) ![0, k % 16, 0, 0] S1x1x32x512.size (outLoad16_inb k)).toLoadRect f5

/-- 128 of the columns. -/
def quarter16 (x : FVec F S32x512 .f32) (s : ℕ) : FVec F S32x128 .f32 :=
  match s % 4 with
  | 0 => extractStridedSlice S32x128 ![0, 0] x slices_S32x512_o0_0_S32x128
  | 1 => extractStridedSlice S32x128 ![0, 128] x slices_S32x512_o0_128_S32x128
  | 2 => extractStridedSlice S32x128 ![0, 256] x slices_S32x512_o0_256_S32x128
  | _ => extractStridedSlice S32x128 ![0, 384] x slices_S32x512_o0_384_S32x128

/-- The log-sums of class `k` at every sixteenth row of slab 1. -/
def lsePiece16 (k : ℕ) : View.Piece (Elt F) S10x512x128 .f32 :=
  ⟨(Rect.unit (s := S10x512x128) ![1, 0, 0] S1x512x128.size inb_S10x512x128_S1x512x128_1_0_0).within
      ⟨⟨![0, k % 16, 0], S1x32x128.size, ![1, 16, 1], lseRows16_inb k⟩, spos_1_16_1⟩ (fun _ => rfl),
    shapeCast S1x32x128 (shapeCast S32x128 (lseLoad16 arg8 f8 k) shapeCasts_S1x1x32x128_S32x128) shapeCasts_S32x128_S1x32x128⟩

/-- Columns `s` of the outputs of class `k` at every sixteenth row of slab `6 + s`. -/
def outPiece16 (k s : ℕ) : View.Piece (Elt F) S10x512x128 .f32 :=
  ⟨(Rect.unit (s := S10x512x128) ![6, 0, 0] S4x512x128.size inb_S10x512x128_S4x512x128_6_0_0).within
      ⟨⟨![s % 4, k % 16, 0], S1x32x128.size, ![1, 16, 1], outRows16_inb s k⟩, spos_1_16_1⟩ (fun _ => rfl),
    shapeCast S1x32x128 (quarter16 (extf .f32 (shapeCast S32x512 (outLoad16 arg5 f5 k) shapeCasts_S1x1x32x512_S32x512) bitsLt_bf16_f32) s) shapeCasts_S32x128_S1x32x128⟩

/-- The log-sums of the first `n` classes, the last first. -/
def lses16 : ℕ → List (View.Piece (Elt F) S10x512x128 .f32)
  | 0 => L
  | k + 1 => lsePiece16 arg8 f8 k :: lses16 k

/-- The first `n` column blocks of the outputs, the last first. -/
def outs16 : ℕ → List (View.Piece (Elt F) S10x512x128 .f32)
  | 0 => L
  | m + 1 => outPiece16 arg5 f5 (m / 4) m :: outs16 m

end Sixteen

/-! ## The printed lists are these -/

section Printed

variable (c : Dev nD) (arg4 : Memref sig .tc .vmem S1x4x128x512 .bf16) (harg4 : arg4.IsWhole) (arg5 : Memref sig .tc .vmem S1x16x32x512 .bf16) (harg5 : arg5.IsWhole)
  (arg7 : Memref sig .tc .vmem S1x4x128x128 .f32) (harg7 : arg7.IsWhole) (arg8 : Memref sig .tc .vmem S1x16x32x128 .f32) (harg8 : arg8.IsWhole)
  (x3 : Vec F S1x4x128x512 .bf16) (x4 : Vec F S1x16x32x512 .bf16) (x6 : Vec F S1x4x128x128 .f32) (x7 : Vec F S1x16x32x128 .f32)

theorem lses4_4 : kernelRun0_A.sl.HS0_4 c arg7 harg7 x6 = lses4 arg7 (harg7.unread x6) [] 4 := by
  sl_kernel_rfl

theorem lses16_16 : kernelRun0_A.sl.HS0_20 c arg7 harg7 arg8 harg8 x6 x7
    = lses16 arg8 (harg8.unread x7) (kernelRun0_A.sl.HS0_4 c arg7 harg7 x6) 16 := by
  sl_kernel_rfl

theorem outs4_16 : kernelRun0_A.sl.HS0_36 c arg4 harg4 arg7 harg7 arg8 harg8 x3 x6 x7
    = outs4 arg4 (harg4.unread x3) (kernelRun0_A.sl.HS0_20 c arg7 harg7 arg8 harg8 x6 x7) 16 := by
  sl_kernel_rfl

theorem outs16_64 : kernelRun0_A.sl.HS0_100 c arg4 harg4 arg5 harg5 arg7 harg7 arg8 harg8 x3 x4 x6 x7
    = outs16 arg5 (harg5.unread x4) (kernelRun0_A.sl.HS0_36 c arg4 harg4 arg7 harg7 arg8 harg8 x3 x6 x7) 64 := by
  sl_kernel_rfl

end Printed

end Cert.Mix

end
-- ==== Proof.MixSlabs.lean ====
/- What the mixing kernel reads back from its scratch: at row `r` of a slab the row of class `r % 4` or `r % 16` stored there. -/
module

public import proofs.«01_k».proof.Proof.MixParts
public import Idealize.ShloMosaic.Lib.Pointwise

@[expose] public section

set_option maxRecDepth 16384

noncomputable section

namespace Cert.Mix

open Idealize.ShloMosaic Idealize.ShloMosaic.TcCoe
open Cert.Kernel3Ideal Cert.Kernel3Ideal.Gen

theorem slab_inb (s : ℕ) : ∀ a, (![s % 4, 0, 0] : Fin 3 → ℕ) a + S1x512x128.size a ≤ S4x512x128.size a := by
  intro a
  have h : s % 4 < 4 := Nat.mod_lt _ (by decide)
  match a with
  | 0 => show s % 4 + 1 ≤ 4; omega
  | 1 => show 0 + 512 ≤ 512; omega
  | 2 => show 0 + 128 ≤ 128; omega

section

variable {F : FTy → Type} [FloatOps F]
variable (arg16 : Memref sig .tc .vmem S10x512x128 .f32) (L : List (View.Piece (Elt F) S10x512x128 .f32))

/-- The slab of the second group's log-sums. -/
def lseSlab4 : Vec F S1x512x128 .f32 :=
  arg16.view.readCov L ((Rect.unit (s := S10x512x128) ![0, 0, 0] S1x512x128.size inb_S10x512x128_S1x512x128_0_0_0).withinL
    (Rect.unit (s := S1x512x128) ![0, 0, 0] S1x512x128.size inb_S1x512x128_S1x512x128_0_0_0).toLoadRect (fun _ => rfl))

/-- The slab of the third group's log-sums. -/
def lseSlab16 : Vec F S1x512x128 .f32 :=
  arg16.view.readCov L ((Rect.unit (s := S10x512x128) ![1, 0, 0] S1x512x128.size inb_S10x512x128_S1x512x128_1_0_0).withinL
    (Rect.unit (s := S1x512x128) ![0, 0, 0] S1x512x128.size inb_S1x512x128_S1x512x128_0_0_0).toLoadRect (fun _ => rfl))

/-- Slab `s` of the second group's outputs. -/
def outSlab4 (s : ℕ) : Vec F S1x512x128 .f32 :=
  arg16.view.readCov L ((Rect.unit (s := S10x512x128) ![2, 0, 0] S4x512x128.size inb_S10x512x128_S4x512x128_2_0_0).withinL
    (Rect.unit (s := S4x512x128) ![s % 4, 0, 0] S1x512x128.size (slab_inb s)).toLoadRect (fun _ => rfl))

/-- Slab `s` of the third group's outputs. -/
def outSlab16 (s : ℕ) : Vec F S1x512x128 .f32 :=
  arg16.view.readCov L ((Rect.unit (s := S10x512x128) ![6, 0, 0] S4x512x128.size inb_S10x512x128_S4x512x128_6_0_0).withinL
    (Rect.unit (s := S4x512x128) ![s % 4, 0, 0] S1x512x128.size (slab_inb s)).toLoadRect (fun _ => rfl))

end

/-! ## Four classes -/

section Four

variable (arg7 : Memref sig .tc .vmem S1x4x128x128 .f32) (h7 : arg7.IsWhole) (x6 : Vec Ideal S1x4x128x128 .f32)
  (arg4 : Memref sig .tc .vmem S1x4x128x512 .bf16) (h4 : arg4.IsWhole) (x3 : Vec Ideal S1x4x128x512 .bf16)
  (L : List (View.Piece (Elt Ideal) S10x512x128 .f32))

theorem lseLoad4_apply (k : ℕ) (q : Fin 128) (l : Fin 128) :
    lseLoad4 arg7 (h7.unread x6) k (ix4 0 0 q l) = x6 (ix4 0 ⟨k % 4, Nat.mod_lt _ (by decide)⟩ q l) := by
  refine (congrFun (h7.read_unread x6) _).trans (congrArg x6 ?_)
  funext a
  match a with
  | 0 => rfl
  | 1 => exact Fin.ext (by show k % 4 + 1 * 0 = k % 4; omega)
  | 2 => exact Fin.ext (by show 0 + 1 * q.val = q.val; omega)
  | 3 => exact Fin.ext (by show 0 + 1 * l.val = l.val; omega)

theorem outLoad4_apply (k : ℕ) (q : Fin 128) (j : Fin 512) :
    outLoad4 arg4 (h4.unread x3) k (ix4 0 0 q j) = x3 (ix4 0 ⟨k % 4, Nat.mod_lt _ (by decide)⟩ q j) := by
  refine (congrFun (h4.read_unread x3) _).trans (congrArg x3 ?_)
  funext a
  match a with
  | 0 => rfl
  | 1 => exact Fin.ext (by show k % 4 + 1 * 0 = k % 4; omega)
  | 2 => exact Fin.ext (by show 0 + 1 * q.val = q.val; omega)
  | 3 => exact Fin.ext (by show 0 + 1 * j.val = j.val; omega)

theorem quarter4_apply (x : FVec Ideal S128x512 .f32) (s : ℕ) (q l : Fin 128) :
    quarter4 x s (ix2 q l) = x (ix2 q ⟨128 * (s % 4) + l.val, by omega⟩) := by
  rcases (by omega : s % 4 = 0 ∨ s % 4 = 1 ∨ s % 4 = 2 ∨ s % 4 = 3) with h | h | h | h <;> simp only [quarter4, h] <;> pointwise

theorem lsePay4_apply (p : Vec Ideal S1x1x128x128 .f32) (q l : Fin 128) :
    shapeCast S1x128x128 (shapeCast S128x128 p shapeCasts_S1x1x128x128_S128x128) shapeCasts_S128x128_S1x128x128 (ix3 0 q l) = p (ix4 0 0 q l) := by
  pointwise

theorem outPay4_apply (p : Vec Ideal S1x1x128x512 .bf16) (s : ℕ) (q l : Fin 128) :
    (shapeCast S1x128x128 (quarter4 (extf .f32 (shapeCast S128x512 p shapeCasts_S1x1x128x512_S128x512) bitsLt_bf16_f32) s) shapeCasts_S128x128_S1x128x128 : FVec Ideal S1x128x128 .f32) (ix3 0 q l)
      = p (ix4 0 0 q ⟨128 * (s % 4) + l.val, by omega⟩) := by
  have e : ∀ y : FVec Ideal S128x128 .f32, shapeCast S1x128x128 y shapeCasts_S128x128_S1x128x128 (ix3 0 q l) = y (ix2 q l) := by
    intro y
    pointwise
  rw [e, quarter4_apply]
  pointwise

theorem lses4_read (v : View sig .tc .vmem S10x512x128 .f32) (r : Fin 512) (l : Fin 128) : ∀ n, r.val % 4 < n → n ≤ 4 →
    v.read (Elt Ideal) (v.writes (Elt Ideal) v.junk (lses4 arg7 (h7.unread x6) L n)) (ix3 0 r l)
      = x6 (ix4 0 ⟨r.val % 4, by omega⟩ ⟨r.val / 4, by omega⟩ l) := by
  intro n
  induction n with
  | zero => intro h; omega
  | succ n ih =>
    intro h1 h2
    by_cases hn : n = r.val % 4
    · subst hn
      refine (View.read_writes_cons_hit_of_coords v _ _ _ _ (ix3 0 ⟨r.val / 4, by omega⟩ l) _ ?_).trans ?_
      · intro a
        match a with
        | 0 => show 0 = 0 + 0 + 1 * 0; omega
        | 1 => show r.val = 0 + r.val % 4 % 4 + 4 * (r.val / 4); omega
        | 2 => show l.val = 0 + 0 + 1 * l.val; omega
      · rw [lsePay4_apply, lseLoad4_apply]
        simp only [Nat.mod_mod]
    · refine (View.read_writes_cons_miss v _ _ _ _ ?_).trans (ih (by omega) (by omega))
      intro hm
      obtain ⟨x, _, hx⟩ := (LoadRect.mem_set _).mp hm 1
      have hx' : r.val = 0 + n % 4 + 4 * x := hx
      omega

theorem outs4_read (v : View sig .tc .vmem S10x512x128 .f32) (s : ℕ) (hs : s < 4) (r : Fin 512) (l : Fin 128) : ∀ n, 4 * (r.val % 4) + s < n → n ≤ 16 →
    v.read (Elt Ideal) (v.writes (Elt Ideal) v.junk (outs4 arg4 (h4.unread x3) L n)) (ix3 ⟨2 + s, by omega⟩ r l)
      = x3 (ix4 0 ⟨r.val % 4, by omega⟩ ⟨r.val / 4, by omega⟩ ⟨128 * s + l.val, by omega⟩) := by
  intro n
  induction n with
  | zero => intro h; omega
  | succ n ih =>
    intro h1 h2
    by_cases hn : n = 4 * (r.val % 4) + s
    · refine (View.read_writes_cons_hit_of_coords v _ _ _ _ (ix3 0 ⟨r.val / 4, by omega⟩ l) _ ?_).trans ?_
      · intro a
        match a with
        | 0 => show 2 + s = 2 + n % 4 + 1 * 0; omega
        | 1 => show r.val = 0 + n / 4 % 4 + 4 * (r.val / 4); omega
        | 2 => show l.val = 0 + 0 + 1 * l.val; omega
      · rw [outPay4_apply, outLoad4_apply]
        have e1 : n / 4 % 4 = r.val % 4 := by omega
        have e2 : n % 4 = s := by omega
        simp only [e1, e2]
    · refine Eq.trans ?_ (ih (by omega) (by omega))
      refine View.read_writes_cons_miss v _ _ _ _ ?_
      intro hm
      obtain ⟨x, hx0, hx⟩ := (LoadRect.mem_set _).mp hm 0
      obtain ⟨y, _, hy⟩ := (LoadRect.mem_set _).mp hm 1
      have hx1 : x < 1 := hx0
      have hx' : 2 + s = 2 + n % 4 + 1 * x := hx
      have hy' : r.val = 0 + n / 4 % 4 + 4 * y := hy
      omega

theorem lseSlab4_apply (arg16 : Memref sig .tc .vmem S10x512x128 .f32) (r : Fin 512) (l : Fin 128) :
    lseSlab4 arg16 (lses4 arg7 (h7.unread x6) L 4) (ix3 0 r l) = x6 (ix4 0 ⟨r.val % 4, by omega⟩ ⟨r.val / 4, by omega⟩ l) := by
  refine Eq.trans ?_ (lses4_read arg7 h7 x6 L arg16.view r l 4 (by omega) (Nat.le_refl 4))
  refine congrArg (arg16.view.read (Elt Ideal) (arg16.view.writes (Elt Ideal) arg16.view.junk (lses4 arg7 (h7.unread x6) L 4))) ?_
  funext a
  match a with
  | 0 => rfl
  | 1 => exact Fin.ext (by show 0 + 0 + 1 * r.val = r.val; omega)
  | 2 => exact Fin.ext (by show 0 + 0 + 1 * l.val = l.val; omega)

theorem outSlab4_apply (arg16 : Memref sig .tc .vmem S10x512x128 .f32) (s : ℕ) (hs : s < 4) (r : Fin 512) (l : Fin 128) :
    outSlab4 arg16 (outs4 arg4 (h4.unread x3) L 16) s (ix3 0 r l)
      = x3 (ix4 0 ⟨r.val % 4, by omega⟩ ⟨r.val / 4, by omega⟩ ⟨128 * s + l.val, by omega⟩) := by
  refine Eq.trans ?_ (outs4_read arg4 h4 x3 L arg16.view s hs r l 16 (by omega) (Nat.le_refl 16))
  refine congrArg (arg16.view.read (Elt Ideal) (arg16.view.writes (Elt Ideal) arg16.view.junk (outs4 arg4 (h4.unread x3) L 16))) ?_
  funext a
  match a with
  | 0 => exact Fin.ext (by show 2 + s % 4 + 1 * 0 = 2 + s; omega)
  | 1 => exact Fin.ext (by show 0 + 0 + 1 * r.val = r.val; omega)
  | 2 => exact Fin.ext (by show 0 + 0 + 1 * l.val = l.val; omega)

end Four

/-! ## Sixteen classes -/

section Sixteen

variable (arg8 : Memref sig .tc .vmem S1x16x32x128 .f32) (h8 : arg8.IsWhole) (x7 : Vec Ideal S1x16x32x128 .f32)
  (arg5 : Memref sig .tc .vmem S1x16x32x512 .bf16) (h5 : arg5.IsWhole) (x4 : Vec Ideal S1x16x32x512 .bf16)
  (L : List (View.Piece (Elt Ideal) S10x512x128 .f32))

theorem lseLoad16_apply (k : ℕ) (q : Fin 32) (l : Fin 128) :
    lseLoad16 arg8 (h8.unread x7) k (ix4 0 0 q l) = x7 (ix4 0 ⟨k % 16, Nat.mod_lt _ (by decide)⟩ q l) := by
  refine (congrFun (h8.read_unread x7) _).trans (congrArg x7 ?_)
  funext a
  match a with
  | 0 => rfl
  | 1 => exact Fin.ext (by show k % 16 + 1 * 0 = k % 16; omega)
  | 2 => exact Fin.ext (by show 0 + 1 * q.val = q.val; omega)
  | 3 => exact Fin.ext (by show 0 + 1 * l.val = l.val; omega)

theorem outLoad16_apply (k : ℕ) (q : Fin 32) (j : Fin 512) :
    outLoad16 arg5 (h5.unread x4) k (ix4 0 0 q j) = x4 (ix4 0 ⟨k % 16, Nat.mod_lt _ (by decide)⟩ q j) := by
  refine (congrFun (h5.read_unread x4) _).trans (congrArg x4 ?_)
  funext a
  match a with
  | 0 => rfl
  | 1 => exact Fin.ext (by show k % 16 + 1 * 0 = k % 16; omega)
  | 2 => exact Fin.ext (by show 0 + 1 * q.val = q.val; omega)
  | 3 => exact Fin.ext (by show 0 + 1 * j.val = j.val; omega)

theorem quarter16_apply (x : FVec Ideal S32x512 .f32) (s : ℕ) (q : Fin 32) (l : Fin 128) :
    quarter16 x s (ix2 q l) = x (ix2 q ⟨128 * (s % 4) + l.val, by omega⟩) := by
  rcases (by omega : s % 4 = 0 ∨ s % 4 = 1 ∨ s % 4 = 2 ∨ s % 4 = 3) with h | h | h | h <;> simp only [quarter16, h] <;> pointwise

theorem lsePay16_apply (p : Vec Ideal S1x1x32x128 .f32) (q : Fin 32) (l : Fin 128) :
    shapeCast S1x32x128 (shapeCast S32x128 p shapeCasts_S1x1x32x128_S32x128) shapeCasts_S32x128_S1x32x128 (ix3 0 q l) = p (ix4 0 0 q l) := by
  pointwise

theorem outPay16_apply (p : Vec Ideal S1x1x32x512 .bf16) (s : ℕ) (q : Fin 32) (l : Fin 128) :
    (shapeCast S1x32x128 (quarter16 (extf .f32 (shapeCast S32x512 p shapeCasts_S1x1x32x512_S32x512) bitsLt_bf16_f32) s) shapeCasts_S32x128_S1x32x128 : FVec Ideal S1x32x128 .f32) (ix3 0 q l)
      = p (ix4 0 0 q ⟨128 * (s % 4) + l.val, by omega⟩) := by
  have e : ∀ y : FVec Ideal S32x128 .f32, shapeCast S1x32x128 y shapeCasts_S32x128_S1x32x128 (ix3 0 q l) = y (ix2 q l) := by
    intro y
    pointwise
  rw [e, quarter16_apply]
  pointwise

theorem lses16_read (v : View sig .tc .vmem S10x512x128 .f32) (r : Fin 512) (l : Fin 128) : ∀ n, r.val % 16 < n → n ≤ 16 →
    v.read (Elt Ideal) (v.writes (Elt Ideal) v.junk (lses16 arg8 (h8.unread x7) L n)) (ix3 1 r l)
      = x7 (ix4 0 ⟨r.val % 16, by omega⟩ ⟨r.val / 16, by omega⟩ l) := by
  intro n
  induction n with
  | zero => intro h; omega
  | succ n ih =>
    intro h1 h2
    by_cases hn : n = r.val % 16
    · subst hn
      refine (View.read_writes_cons_hit_of_coords v _ _ _ _ (ix3 0 ⟨r.val / 16, by omega⟩ l) _ ?_).trans ?_
      · intro a
        match a with
        | 0 => show 1 = 1 + 0 + 1 * 0; omega
        | 1 => show r.val = 0 + r.val % 16 % 16 + 16 * (r.val / 16); omega
        | 2 => show l.val = 0 + 0 + 1 * l.val; omega
      · rw [lsePay16_apply, lseLoad16_apply]
        simp only [Nat.mod_mod]
    · refine (View.read_writes_cons_miss v _ _ _ _ ?_).trans (ih (by omega) (by omega))
      intro hm
      obtain ⟨x, _, hx⟩ := (LoadRect.mem_set _).mp hm 1
      have hx' : r.val = 0 + n % 16 + 16 * x := hx
      omega

theorem outs16_read (v : View sig .tc .vmem S10x512x128 .f32) (s : ℕ) (hs : s < 4) (r : Fin 512) (l : Fin 128) : ∀ n, 4 * (r.val % 16) + s < n → n ≤ 64 →
    v.read (Elt Ideal) (v.writes (Elt Ideal) v.junk (outs16 arg5 (h5.unread x4) L n)) (ix3 ⟨6 + s, by omega⟩ r l)
      = x4 (ix4 0 ⟨r.val % 16, by omega⟩ ⟨r.val / 16, by omega⟩ ⟨128 * s + l.val, by omega⟩) := by
  intro n
  induction n with
  | zero => intro h; omega
  | succ n ih =>
    intro h1 h2
    by_cases hn : n = 4 * (r.val % 16) + s
    · refine (View.read_writes_cons_hit_of_coords v _ _ _ _ (ix3 0 ⟨r.val / 16, by omega⟩ l) _ ?_).trans ?_
      · intro a
        match a with
        | 0 => show 6 + s = 6 + n % 4 + 1 * 0; omega
        | 1 => show r.val = 0 + n / 4 % 16 + 16 * (r.val / 16); omega
        | 2 => show l.val = 0 + 0 + 1 * l.val; omega
      · rw [outPay16_apply, outLoad16_apply]
        have e1 : n / 4 % 16 = r.val % 16 := by omega
        have e2 : n % 4 = s := by omega
        simp only [e1, e2]
    · refine Eq.trans ?_ (ih (by omega) (by omega))
      refine View.read_writes_cons_miss v _ _ _ _ ?_
      intro hm
      obtain ⟨x, hx0, hx⟩ := (LoadRect.mem_set _).mp hm 0
      obtain ⟨y, _, hy⟩ := (LoadRect.mem_set _).mp hm 1
      have hx1 : x < 1 := hx0
      have hx' : 6 + s = 6 + n % 4 + 1 * x := hx
      have hy' : r.val = 0 + n / 4 % 16 + 16 * y := hy
      omega

theorem lseSlab16_apply (arg16 : Memref sig .tc .vmem S10x512x128 .f32) (r : Fin 512) (l : Fin 128) :
    lseSlab16 arg16 (lses16 arg8 (h8.unread x7) L 16) (ix3 0 r l) = x7 (ix4 0 ⟨r.val % 16, by omega⟩ ⟨r.val / 16, by omega⟩ l) := by
  refine Eq.trans ?_ (lses16_read arg8 h8 x7 L arg16.view r l 16 (by omega) (Nat.le_refl 16))
  refine congrArg (arg16.view.read (Elt Ideal) (arg16.view.writes (Elt Ideal) arg16.view.junk (lses16 arg8 (h8.unread x7) L 16))) ?_
  funext a
  match a with
  | 0 => rfl
  | 1 => exact Fin.ext (by show 0 + 0 + 1 * r.val = r.val; omega)
  | 2 => exact Fin.ext (by show 0 + 0 + 1 * l.val = l.val; omega)

theorem outSlab16_apply (arg16 : Memref sig .tc .vmem S10x512x128 .f32) (s : ℕ) (hs : s < 4) (r : Fin 512) (l : Fin 128) :
    outSlab16 arg16 (outs16 arg5 (h5.unread x4) L 64) s (ix3 0 r l)
      = x4 (ix4 0 ⟨r.val % 16, by omega⟩ ⟨r.val / 16, by omega⟩ ⟨128 * s + l.val, by omega⟩) := by
  refine Eq.trans ?_ (outs16_read arg5 h5 x4 L arg16.view s hs r l 64 (by omega) (Nat.le_refl 64))
  refine congrArg (arg16.view.read (Elt Ideal) (arg16.view.writes (Elt Ideal) arg16.view.junk (outs16 arg5 (h5.unread x4) L 64))) ?_
  funext a
  match a with
  | 0 => exact Fin.ext (by show 6 + s % 4 + 1 * 0 = 6 + s; omega)
  | 1 => exact Fin.ext (by show 0 + 0 + 1 * r.val = r.val; omega)
  | 2 => exact Fin.ext (by show 0 + 0 + 1 * l.val = l.val; omega)

end Sixteen

end Cert.Mix

end
-- ==== Proof.MixWeights.lean ====
/- The mixing weights: the exponentials times the reciprocal of their sum are real numbers, the reference's quotients, and the product with the
   matrix of zeros and ones puts each head's weight at its 64 columns. -/
module

public import proofs.«01_k».proof.Proof.Gen.Kernel3Ideal.Skeleton
public import Idealize.ShloMosaic.Lib.Pointwise
public import Idealize.ShloMosaic.PureOps.Ideal

@[expose] public section

set_option maxRecDepth 16384

noncomputable section

namespace Cert.Mix

open Idealize.ShloMosaic Idealize.ShloMosaic.TcCoe
open Cert.Kernel3Ideal Cert.Kernel3Ideal.Gen

/-! ## The weights are real -/

/-- The sum of the three exponentials. -/
def expSum (a b d : EReal) : EReal :=
  Ideal.exp (a - max (max a b) d) + Ideal.exp (b - max (max a b) d) + Ideal.exp (d - max (max a b) d)

theorem exp_real {x : EReal} {M : ℝ} (h : x ≤ (M : EReal)) : ∃ r : ℝ, 0 ≤ r ∧ Ideal.exp (x - (M : EReal)) = (r : EReal) := by
  induction x using EReal.rec with
  | bot => exact ⟨0, le_refl 0, by rw [EReal.bot_sub]; rfl⟩
  | top => exact absurd (top_le_iff.mp h) (EReal.coe_ne_top M)
  | coe y => exact ⟨Real.exp (y - M), (Real.exp_pos _).le, by rw [← EReal.coe_sub]; rfl⟩

theorem exp_self (M : ℝ) : Ideal.exp ((M : EReal) - (M : EReal)) = ((1 : ℝ) : EReal) := by
  rw [← EReal.coe_sub, sub_self]
  show ((Real.exp 0 : ℝ) : EReal) = _
  rw [Real.exp_zero]

/-- With a finite largest log-sum the sum of the exponentials is a positive real number. -/
theorem expSum_real {a b d : EReal} {M : ℝ} (hM : max (max a b) d = (M : EReal)) :
    ∃ r : ℝ, 0 < r ∧ expSum a b d = (r : EReal) := by
  unfold expSum
  rw [hM]
  obtain ⟨ra, ha0, ha⟩ := exp_real (x := a) (M := M) (hM ▸ (le_max_left a b).trans (le_max_left _ d))
  obtain ⟨rb, hb0, hb⟩ := exp_real (x := b) (M := M) (hM ▸ (le_max_right a b).trans (le_max_left _ d))
  obtain ⟨rd, hd0, hd⟩ := exp_real (x := d) (M := M) (hM ▸ le_max_right _ d)
  refine ⟨ra + rb + rd, ?_, by rw [ha, hb, hd, EReal.coe_add, EReal.coe_add]⟩
  have one : a = (M : EReal) ∨ b = (M : EReal) ∨ d = (M : EReal) := by
    rcases max_choice (max a b) d with h | h
    · rcases max_choice a b with h' | h'
      · exact .inl (by rw [← hM, h, h'])
      · exact .inr (.inl (by rw [← hM, h, h']))
    · exact .inr (.inr (by rw [← hM, h]))
  rcases one with h | h | h
  · rw [h, exp_self] at ha
    have := EReal.coe_eq_coe_iff.mp ha
    linarith
  · rw [h, exp_self] at hb
    have := EReal.coe_eq_coe_iff.mp hb
    linarith
  · rw [h, exp_self] at hd
    have := EReal.coe_eq_coe_iff.mp hd
    linarith

/-- An exponential times the reciprocal of the sum is the quotient. -/
theorem mul_recip {s : ℝ} (hs : 0 < s) (e : EReal) : e * Ideal.div 1 (s : EReal) = Ideal.div e (s : EReal) := by
  have h : (s : EReal) ≠ 0 := by
    intro h
    exact hs.ne' (EReal.coe_eq_zero.mp h)
  unfold Ideal.div
  rw [if_neg h, if_neg h, one_mul]

/-- A weight less itself is zero. -/
theorem recip_sub_self {s : ℝ} (hs : 0 < s) (r : ℝ) : Ideal.div (r : EReal) (s : EReal) - Ideal.div (r : EReal) (s : EReal) = 0 := by
  have h : (s : EReal) ≠ 0 := by
    intro h
    exact hs.ne' (EReal.coe_eq_zero.mp h)
  unfold Ideal.div
  rw [if_neg h, ← EReal.coe_inv, ← EReal.coe_mul, ← EReal.coe_sub, sub_self]
  rfl

/-! ## The matrix of zeros and ones -/

/-- The lane of head `h`. -/
def lane (h : ℕ) : ℕ := 64 * (h % 2) + h / 2

/-- The word that says whether lane `k` is the lane of head `h`. -/
def hit (k h : ℕ) : BitVec 1 :=
  IntOp.andi (IntOp.cmpi .slt (IntOp.andi (BitVec.ofNat 32 k) 63#32) 4#32)
    (IntOp.cmpi .eq (BitVec.ofNat 32 h) (IntOp.addi (IntOp.muli 2#32 (IntOp.andi (BitVec.ofNat 32 k) 63#32)) (IntOp.shrui .vector (BitVec.ofNat 32 k) 6#32)))

theorem hit_eq : ∀ (k : Fin 128) (h : Fin 8), hit k.val h.val = if k.val = lane h.val then 1#1 else 0#1 := by
  decide +kernel

theorem head_of_column : ∀ j : Fin 512, IntOp.shrui .vector (BitVec.ofNat 32 j.val) 6#32 = BitVec.ofNat 32 (j.val / 64) := by
  decide +kernel

theorem select_hit (k : ℕ) (hk : k < 128) (j : Fin 512) :
    Scalar.select (IntOp.andi (IntOp.cmpi .slt (IntOp.andi (BitVec.ofNat 32 k) 63#32) 4#32)
      (IntOp.cmpi .eq (IntOp.shrui .vector (BitVec.ofNat 32 j.val) 6#32)
        (IntOp.addi (IntOp.muli 2#32 (IntOp.andi (BitVec.ofNat 32 k) 63#32)) (IntOp.shrui .vector (BitVec.ofNat 32 k) 6#32)))) (1 : EReal) 0
      = if k = lane (j.val / 64) then (1 : EReal) else 0 := by
  rw [head_of_column]
  have h := hit_eq ⟨k, hk⟩ ⟨j.val / 64, by omega⟩
  have h' : hit k (j.val / 64) = if k = lane (j.val / 64) then 1#1 else 0#1 := h
  unfold hit at h'
  rw [h']
  by_cases e : k = lane (j.val / 64)
  · rw [if_pos e, if_pos e]
    rfl
  · rw [if_neg e, if_neg e]
    rfl

theorem matrix_apply (k : Fin 256) (j : Fin 512) :
    (k0_pay34 (F := Ideal)) (ix2 k j) = if k.val % 128 = lane (j.val / 64) then (1 : EReal) else 0 := by
  pointwise [k0_pay34]
  by_cases hk : k.val < 128
  · rw [dif_pos hk, select_hit k.val hk j, Nat.mod_eq_of_lt hk]
  · rw [dif_neg hk, select_hit (k.val - 128) (by omega) j, show k.val % 128 = k.val - 128 by omega]

/-- The weights of a group at every column. -/
def widened (w : FVec Ideal S512x128 .f32) : FVec Ideal S512x512 .f32 :=
  have a : FVec Ideal S512x128 .bf16 := truncf .bf16 w bitsLt_bf16_f32
  have b : FVec Ideal S512x128 .bf16 := truncf .bf16 (subf w (extf .f32 a bitsLt_bf16_f32)) bitsLt_bf16_f32
  matmul dot_S512x256_S256x512_S512x512_1_0_0_1_n_n none (concatenate S512x256 1 [⟨S512x128, a⟩, ⟨S512x128, b⟩] concatenates_S512x128_S512x128_S512x256_d1)
    k0_pay34 (constant S512x512 .f32 0x00000000#32)

/-- The weights beside what rounding took off them. -/
def doubled (w : FVec Ideal S512x128 .f32) (r : Fin 512) (k : Fin 256) : EReal :=
  if h : k.val < 128 then w (ix2 r ⟨k.val, h⟩) else w (ix2 r ⟨k.val - 128, by omega⟩) - w (ix2 r ⟨k.val - 128, by omega⟩)

theorem widened_dot (w : FVec Ideal S512x128 .f32) (r j : Fin 512) :
    widened w (ix2 r j) = ∑ k : Fin 256, doubled w r k * (k0_pay34 (F := Ideal)) (ix2 k j) := by
  pointwise [widened, doubled]

theorem widened_apply (w : FVec Ideal S512x128 .f32) (r j : Fin 512) (hw : w (ix2 r ⟨lane (j.val / 64), by unfold lane; omega⟩) - w (ix2 r ⟨lane (j.val / 64), by unfold lane; omega⟩) = 0) :
    widened w (ix2 r j) = w (ix2 r ⟨lane (j.val / 64), by unfold lane; omega⟩) := by
  have hl : lane (j.val / 64) < 128 := by unfold lane; omega
  rw [widened_dot]
  have one : ∀ k : Fin 256, k ≠ ⟨lane (j.val / 64), by omega⟩ → doubled w r k * (k0_pay34 (F := Ideal)) (ix2 k j) = 0 := by
    intro k hk
    rw [matrix_apply]
    by_cases e : k.val % 128 = lane (j.val / 64)
    · have h2 : ¬ k.val < 128 := by
        intro h
        exact hk (Fin.ext (by show k.val = lane (j.val / 64); omega))
      have e' : k.val - 128 = lane (j.val / 64) := by omega
      rw [if_pos e, mul_one]
      unfold doubled
      rw [dif_neg h2]
      simp only [e']
      exact hw
    · rw [if_neg e, mul_zero]
  rw [Finset.sum_eq_single ⟨lane (j.val / 64), by omega⟩ (fun k _ hk => one k hk) (fun h => absurd (Finset.mem_univ _) h), matrix_apply,
    if_pos (Nat.mod_eq_of_lt hl), mul_one]
  unfold doubled
  rw [dif_pos hl]

end Cert.Mix

end
-- ==== Proof.MixRows.lean ====
/- The block of rows the mixing kernel's body leaves at a grid point, from the blocks it is handed. -/
module

public import proofs.«01_k».proof.Proof.MixSlabs
public import proofs.«01_k».proof.Proof.MixWeights

@[expose] public section

set_option maxRecDepth 16384

noncomputable section

namespace Cert.Mix

open Idealize.ShloMosaic Idealize.ShloMosaic.TcCoe
open Cert.Kernel3Ideal Cert.Kernel3Ideal.Gen

section

variable {F : FTy → Type} [FloatOps F]

/-- The first two groups' outputs at their weights, from the log-sums as read. -/
def headsTwo (a : Vec F S512x128 .f32) (b d : Vec F S1x512x128 .f32) (o : Vec F S512x512 .bf16) (s : ℕ → Vec F S1x512x128 .f32) : FVec F S512x512 .f32 :=
  k0_pay151 (k0_pay30 (k0_pay2 a) (k0_pay8 b) d) (k0_pay31 (k0_pay2 a) (k0_pay8 b) d) (k0_pay33 (k0_pay2 a) (k0_pay8 b) d) k0_pay34 (k0_pay35 o)
    (k0_pay60 (k0_pay58 (s 0)) (k0_pay59 (s 1)) (s 2) (s 3))

/-- The third group's outputs at their weights. -/
def headsThird (a : Vec F S512x128 .f32) (b d : Vec F S1x512x128 .f32) (s : ℕ → Vec F S1x512x128 .f32) : FVec F S512x512 .f32 :=
  k0_pay152 (k0_pay32 (k0_pay2 a) (k0_pay8 b) d) (k0_pay33 (k0_pay2 a) (k0_pay8 b) d) k0_pay34 (s 0) (s 1) (s 2) (s 3)

variable (c : Dev nD) (i : grid0.Coords)
  (arg1 : Memref sig .tc .vmem S512x1024 .bf16) (harg1 : arg1.IsWhole)
  (arg2 : Memref sig .tc .vmem S1024x1024 .bf16) (harg2 : arg2.IsWhole)
  (arg3 : Memref sig .tc .vmem S512x512 .bf16) (harg3 : arg3.IsWhole)
  (arg4 : Memref sig .tc .vmem S1x4x128x512 .bf16) (harg4 : arg4.IsWhole)
  (arg5 : Memref sig .tc .vmem S1x16x32x512 .bf16) (harg5 : arg5.IsWhole)
  (arg6 : Memref sig .tc .vmem S512x128 .f32) (harg6 : arg6.IsWhole)
  (arg7 : Memref sig .tc .vmem S1x4x128x128 .f32) (harg7 : arg7.IsWhole)
  (arg8 : Memref sig .tc .vmem S1x16x32x128 .f32) (harg8 : arg8.IsWhole)
  (arg9 : Memref sig .tc .vmem S512x1024 .bf16) (harg9 : arg9.IsWhole)
  (arg10 : Memref sig .tc .vmem S512x2048 .bf16) (harg10 : arg10.IsWhole)
  (arg11 : Memref sig .tc .vmem S1024x1024 .bf16) (harg11 : arg11.IsWhole)
  (arg12 : Memref sig .tc .vmem S512x1024 .f32) (harg12 : arg12.IsWhole)
  (arg13 : Memref sig .tc .vmem S1x1024 .f32) (harg13 : arg13.IsWhole)
  (arg14 : Memref sig .tc .vmem S512x1024 .f32) (harg14 : arg14.IsWhole)
  (arg15 : Memref sig .tc .vmem S512x1024 .bf16) (harg15 : arg15.IsWhole)
  (arg16 : Memref sig .tc .vmem S10x512x128 .f32) (harg16 : arg16.IsWhole)
  (x0 : Vec F S512x1024 .bf16) (x1 : Vec F S1024x1024 .bf16) (x2 : Vec F S512x512 .bf16) (x3 : Vec F S1x4x128x512 .bf16) (x4 : Vec F S1x16x32x512 .bf16) (x5 : Vec F S512x128 .f32) (x6 : Vec F S1x4x128x128 .f32) (x7 : Vec F S1x16x32x128 .f32) (x8 : Vec F S512x1024 .bf16) (x9 : Vec F S512x2048 .bf16) (x10 : Vec F S1024x1024 .bf16) (x11 : Vec F S512x1024 .f32) (x12 : Vec F S1x1024 .f32)

theorem stream_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1
    = [⟨Rect.unit ![0, 0] S512x1024.size inb_S512x1024_S512x1024_0_0,
        k0_pay153 (k0_pay1
            (View.readAt (Elt F) arg1.view (Rect.unit ![0, 0] S512x1024.size inb_S512x1024_S512x1024_0_0).toLoadRect (harg1.unread x0))
            (View.readAt (Elt F) arg2.view (Rect.unit ![0, 0] S1024x1024.size inb_S1024x1024_S1024x1024_0_0).toLoadRect (harg2.unread x1)))
          (headsTwo
            (View.readAt (Elt F) arg6.view (Rect.unit ![0, 0] S512x128.size inb_S512x128_S512x128_0_0).toLoadRect (harg6.unread x5))
            (lseSlab4 arg16 (kernelRun0_A.sl.HS0_4 c arg7 harg7 x6))
            (lseSlab16 arg16 (kernelRun0_A.sl.HS0_20 c arg7 harg7 arg8 harg8 x6 x7))
            (View.readAt (Elt F) arg3.view (Rect.unit ![0, 0] S512x512.size inb_S512x512_S512x512_0_0).toLoadRect (harg3.unread x2))
            (outSlab4 arg16 (kernelRun0_A.sl.HS0_36 c arg4 harg4 arg7 harg7 arg8 harg8 x3 x6 x7)))
          (headsThird
            (View.readAt (Elt F) arg6.view (Rect.unit ![0, 0] S512x128.size inb_S512x128_S512x128_0_0).toLoadRect (harg6.unread x5))
            (lseSlab4 arg16 (kernelRun0_A.sl.HS0_4 c arg7 harg7 x6))
            (lseSlab16 arg16 (kernelRun0_A.sl.HS0_20 c arg7 harg7 arg8 harg8 x6 x7))
            (outSlab16 arg16 (kernelRun0_A.sl.HS0_100 c arg4 harg4 arg5 harg5 arg7 harg7 arg8 harg8 x3 x4 x6 x7)))
          (View.readAt (Elt F) arg9.view (Rect.unit ![0, 0] S512x1024.size inb_S512x1024_S512x1024_0_0).toLoadRect (harg9.unread x8))
          (View.readAt (Elt F) arg10.view (Rect.unit (s := S512x2048) ![0, 0] S512x1024.size inb_S512x2048_S512x1024_0_0).toLoadRect (harg10.unread x9))
          (View.readAt (Elt F) arg10.view (Rect.unit (s := S512x2048) ![0, 1024] S512x1024.size inb_S512x2048_S512x1024_0_1024).toLoadRect (harg10.unread x9))
          (View.readAt (Elt F) arg12.view (Rect.unit ![0, 0] S512x1024.size inb_S512x1024_S512x1024_0_0).toLoadRect (harg12.unread x11))
          (View.readAt (Elt F) arg11.view (Rect.unit ![0, 0] S1024x1024.size inb_S1024x1024_S1024x1024_0_0).toLoadRect (harg11.unread x10))⟩] := by
  sl_kernel_rfl

theorem normed_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.1
    = [⟨Rect.unit ![0, 0] S512x1024.size inb_S512x1024_S512x1024_0_0,
        k0_pay154 (k0_pay1
            (View.readAt (Elt F) arg1.view (Rect.unit ![0, 0] S512x1024.size inb_S512x1024_S512x1024_0_0).toLoadRect (harg1.unread x0))
            (View.readAt (Elt F) arg2.view (Rect.unit ![0, 0] S1024x1024.size inb_S1024x1024_S1024x1024_0_0).toLoadRect (harg2.unread x1)))
          (headsTwo
            (View.readAt (Elt F) arg6.view (Rect.unit ![0, 0] S512x128.size inb_S512x128_S512x128_0_0).toLoadRect (harg6.unread x5))
            (lseSlab4 arg16 (kernelRun0_A.sl.HS0_4 c arg7 harg7 x6))
            (lseSlab16 arg16 (kernelRun0_A.sl.HS0_20 c arg7 harg7 arg8 harg8 x6 x7))
            (View.readAt (Elt F) arg3.view (Rect.unit ![0, 0] S512x512.size inb_S512x512_S512x512_0_0).toLoadRect (harg3.unread x2))
            (outSlab4 arg16 (kernelRun0_A.sl.HS0_36 c arg4 harg4 arg7 harg7 arg8 harg8 x3 x6 x7)))
          (headsThird
            (View.readAt (Elt F) arg6.view (Rect.unit ![0, 0] S512x128.size inb_S512x128_S512x128_0_0).toLoadRect (harg6.unread x5))
            (lseSlab4 arg16 (kernelRun0_A.sl.HS0_4 c arg7 harg7 x6))
            (lseSlab16 arg16 (kernelRun0_A.sl.HS0_20 c arg7 harg7 arg8 harg8 x6 x7))
            (outSlab16 arg16 (kernelRun0_A.sl.HS0_100 c arg4 harg4 arg5 harg5 arg7 harg7 arg8 harg8 x3 x4 x6 x7)))
          (View.readAt (Elt F) arg9.view (Rect.unit ![0, 0] S512x1024.size inb_S512x1024_S512x1024_0_0).toLoadRect (harg9.unread x8))
          (View.readAt (Elt F) arg10.view (Rect.unit (s := S512x2048) ![0, 0] S512x1024.size inb_S512x2048_S512x1024_0_0).toLoadRect (harg10.unread x9))
          (View.readAt (Elt F) arg10.view (Rect.unit (s := S512x2048) ![0, 1024] S512x1024.size inb_S512x2048_S512x1024_0_1024).toLoadRect (harg10.unread x9))
          (View.readAt (Elt F) arg12.view (Rect.unit ![0, 0] S512x1024.size inb_S512x1024_S512x1024_0_0).toLoadRect (harg12.unread x11))
          (View.readAt (Elt F) arg11.view (Rect.unit ![0, 0] S1024x1024.size inb_S1024x1024_S1024x1024_0_0).toLoadRect (harg11.unread x10))
          (View.readAt (Elt F) arg13.view (Rect.unit ![0, 0] S1x1024.size inb_S1x1024_S1x1024_0_0).toLoadRect (harg13.unread x12))⟩] := by
  sl_kernel_rfl

end

/-! ## The heads -/

section

variable (a : Vec Ideal S512x128 .f32) (b d : Vec Ideal S1x512x128 .f32) (o : Vec Ideal S512x512 .bf16) (s : ℕ → Vec Ideal S1x512x128 .f32)

/-- The four slabs side by side. -/
def sideBySide (r j : Fin 512) : EReal := s (j.val / 128) (ix3 0 r ⟨j.val % 128, by omega⟩)

/-- The lane of a column's head. -/
def laneOf (j : Fin 512) : Fin 128 := ⟨lane (j.val / 64), by unfold lane; omega⟩

/-- A group's weights as the kernel forms them. -/
def weight0 : FVec Ideal S512x128 .f32 := mulf (k0_pay30 (k0_pay2 a) (k0_pay8 b) d) (k0_pay33 (k0_pay2 a) (k0_pay8 b) d)
def weight1 : FVec Ideal S512x128 .f32 := mulf (k0_pay31 (k0_pay2 a) (k0_pay8 b) d) (k0_pay33 (k0_pay2 a) (k0_pay8 b) d)
def weight2 : FVec Ideal S512x128 .f32 := mulf (k0_pay32 (k0_pay2 a) (k0_pay8 b) d) (k0_pay33 (k0_pay2 a) (k0_pay8 b) d)

theorem weight0_apply (r : Fin 512) (l : Fin 128) : weight0 a b d (ix2 r l)
    = Ideal.exp (a (ix2 r l) - max (max (a (ix2 r l)) (b (ix3 0 r l))) (d (ix3 0 r l))) * Ideal.div 1 (expSum (a (ix2 r l)) (b (ix3 0 r l)) (d (ix3 0 r l))) := by
  pointwise [weight0, k0_pay30, k0_pay31, k0_pay32, k0_pay33, k0_pay29, k0_pay28, k0_pay2, k0_pay8, expSum]

theorem weight1_apply (r : Fin 512) (l : Fin 128) : weight1 a b d (ix2 r l)
    = Ideal.exp (b (ix3 0 r l) - max (max (a (ix2 r l)) (b (ix3 0 r l))) (d (ix3 0 r l))) * Ideal.div 1 (expSum (a (ix2 r l)) (b (ix3 0 r l)) (d (ix3 0 r l))) := by
  pointwise [weight1, k0_pay30, k0_pay31, k0_pay32, k0_pay33, k0_pay29, k0_pay28, k0_pay2, k0_pay8, expSum]

theorem weight2_apply (r : Fin 512) (l : Fin 128) : weight2 a b d (ix2 r l)
    = Ideal.exp (d (ix3 0 r l) - max (max (a (ix2 r l)) (b (ix3 0 r l))) (d (ix3 0 r l))) * Ideal.div 1 (expSum (a (ix2 r l)) (b (ix3 0 r l)) (d (ix3 0 r l))) := by
  pointwise [weight2, k0_pay30, k0_pay31, k0_pay32, k0_pay33, k0_pay29, k0_pay28, k0_pay2, k0_pay8, expSum]

theorem quotient_real {e t : EReal} {M : ℝ} (x : EReal) (hx : x ≤ (M : EReal)) (he : e = Ideal.exp (x - (M : EReal))) (ht : ∃ r : ℝ, 0 < r ∧ t = (r : EReal)) :
    e * Ideal.div 1 t = Ideal.div e t ∧ e * Ideal.div 1 t - e * Ideal.div 1 t = 0 := by
  obtain ⟨q, hq, rfl⟩ := ht
  obtain ⟨y, _, hy⟩ := exp_real hx
  rw [mul_recip hq, he, hy]
  exact ⟨rfl, recip_sub_self hq y⟩

theorem headsTwo_eq : headsTwo a b d o s = addf (mulf (widened (weight0 a b d)) (k0_pay35 o))
    (mulf (widened (weight1 a b d)) (k0_pay60 (k0_pay58 (s 0)) (k0_pay59 (s 1)) (s 2) (s 3))) := rfl

theorem headsThird_eq : headsThird a b d s
    = mulf (widened (weight2 a b d)) (k0_pay60 (k0_pay58 (s 0)) (k0_pay59 (s 1)) (s 2) (s 3)) := rfl

theorem sideBySide_apply (r j : Fin 512) :
    (k0_pay60 (F := Ideal) (k0_pay58 (s 0)) (k0_pay59 (s 1)) (s 2) (s 3)) (ix2 r j) = sideBySide s r j := by
  have key : ∀ (n : ℕ) (q : Fin 128), j.val = 128 * n + q.val → s n (ix3 0 r q) = sideBySide s r j := by
    intro n q h
    have e1 : j.val / 128 = n := by omega
    have e2 : (⟨j.val % 128, by omega⟩ : Fin 128) = q := Fin.ext (by show j.val % 128 = q.val; omega)
    unfold sideBySide
    rw [e1, e2]
  pointwise [k0_pay60, k0_pay58, k0_pay59]
  split
  · exact key 0 _ (by show j.val = 128 * 0 + j.val; omega)
  split
  · exact key 1 _ (by show j.val = 128 * 1 + (j.val - 128); omega)
  split
  · exact key 2 _ (by show j.val = 128 * 2 + (j.val - 256); omega)
  · exact key 3 _ (by show j.val = 128 * 3 + (j.val - 384); omega)

theorem o_apply (r j : Fin 512) : (k0_pay35 (F := Ideal) o) (ix2 r j) = o (ix2 r j) := by
  pointwise [k0_pay35]

end

theorem finish_apply (C : FVec Ideal S512x1024 .f32) (P Q : FVec Ideal S512x512 .f32) (w : Vec Ideal S512x1024 .bf16) (g g' : Vec Ideal S512x1024 .bf16)
    (h : Vec Ideal S512x1024 .f32) (w' : Vec Ideal S1024x1024 .bf16) (r : Fin 512) (j : Fin 1024) :
    k0_pay153 C P Q w g g' h w' (ix2 r j) = h (ix2 r j) + ∑ k : Fin 1024,
      (g (ix2 r k) * C (ix2 r k) + g' (ix2 r k) * ∑ q : Fin 512, (P (ix2 r q) + Q (ix2 r q)) * w (ix2 q k)) * w' (ix2 k j) := by
  pointwise [k0_pay153]

theorem norm_apply (C : FVec Ideal S512x1024 .f32) (P Q : FVec Ideal S512x512 .f32) (w : Vec Ideal S512x1024 .bf16) (g g' : Vec Ideal S512x1024 .bf16)
    (h : Vec Ideal S512x1024 .f32) (w' : Vec Ideal S1024x1024 .bf16) (y : Vec Ideal S1x1024 .f32) (r : Fin 512) (j : Fin 1024) :
    k0_pay154 C P Q w g g' h w' y (ix2 r j) = k0_pay153 C P Q w g g' h w' (ix2 r j)
      * Ideal.rsqrt (Ideal.div (∑ k : Fin 1024, k0_pay153 C P Q w g g' h w' (ix2 r k) * k0_pay153 C P Q w g g' h w' (ix2 r k)) (Ideal.ofBits .f32 0x44800000#32)
          + Ideal.ofBits .f32 0x358637BD#32) * y (ix2 0 j) := by
  pointwise [k0_pay154]

theorem conv_apply (x : Vec Ideal S512x1024 .bf16) (w : Vec Ideal S1024x1024 .bf16) (r : Fin 512) (j : Fin 1024) :
    k0_pay1 x w (ix2 r j) = ∑ k : Fin 1024, x (ix2 r k) * w (ix2 k j) := by
  pointwise [k0_pay1]

/-- Reading a whole block gives the block. -/
theorem whole_load {s : Shape} {t : EltTy} (a : Memref sig .tc .vmem s t) (ha : a.IsWhole) (v : Vec Ideal s t) (off : Fin s.rank → ℕ) (h0 : ∀ a, off a = 0)
    (inb : ∀ a, off a + s.size a ≤ s.size a) : View.readAt (Elt Ideal) a.view (Rect.unit off s.size inb).toLoadRect (ha.unread v) = v := by
  funext i
  refine (congrFun (ha.read_unread v) _).trans (congrArg v ?_)
  funext b
  exact Fin.ext (by show off b + 1 * (i b).val = (i b).val; rw [h0]; omega)

theorem zero_offsets : ∀ a : Fin 2, (![0, 0] : Fin 2 → ℕ) a = 0 := by decide

end Cert.Mix

end
-- ==== Proof.MixBlock.lean ====
/- The block of rows the mixing kernel's body leaves, as sums and products of the blocks it is handed. -/
module

public import proofs.«01_k».proof.Proof.MixRows

@[expose] public section

set_option maxRecDepth 16384

noncomputable section

namespace Cert.Mix

open Idealize.ShloMosaic Idealize.ShloMosaic.TcCoe
open Cert.Kernel3Ideal Cert.Kernel3Ideal.Gen

/-- Three outputs summed under the softmax of three log-sums. -/
def mixed (a b d x y z : EReal) : EReal :=
  Ideal.div (Ideal.exp (a - max (max a b) d)) (expSum a b d) * x + Ideal.div (Ideal.exp (b - max (max a b) d)) (expSum a b d) * y
    + Ideal.div (Ideal.exp (d - max (max a b) d)) (expSum a b d) * z

theorem heads_apply (a : Vec Ideal S512x128 .f32) (b d : Vec Ideal S1x512x128 .f32) (o : Vec Ideal S512x512 .bf16) (s s' : ℕ → Vec Ideal S1x512x128 .f32) (r q : Fin 512)
    (hM : ∃ M : ℝ, max (max (a (ix2 r (laneOf q))) (b (ix3 0 r (laneOf q)))) (d (ix3 0 r (laneOf q))) = (M : EReal)) :
    headsTwo a b d o s (ix2 r q) + headsThird a b d s' (ix2 r q)
      = mixed (a (ix2 r (laneOf q))) (b (ix3 0 r (laneOf q))) (d (ix3 0 r (laneOf q))) (o (ix2 r q)) (sideBySide s r q) (sideBySide s' r q) := by
  obtain ⟨M, hM⟩ := hM
  have hS := expSum_real hM
  have q0 := quotient_real (M := M) (a (ix2 r (laneOf q))) (hM ▸ (le_max_left _ _).trans (le_max_left _ _)) (congrArg (fun y : EReal => Ideal.exp (a (ix2 r (laneOf q)) - y)) hM) hS
  have q1 := quotient_real (M := M) (b (ix3 0 r (laneOf q))) (hM ▸ (le_max_right _ _).trans (le_max_left _ _)) (congrArg (fun y : EReal => Ideal.exp (b (ix3 0 r (laneOf q)) - y)) hM) hS
  have q2 := quotient_real (M := M) (d (ix3 0 r (laneOf q))) (hM ▸ le_max_right _ _) (congrArg (fun y : EReal => Ideal.exp (d (ix3 0 r (laneOf q)) - y)) hM) hS
  have w0 := (widened_apply (weight0 a b d) r q (by rw [weight0_apply]; exact q0.2)).trans ((weight0_apply a b d r (laneOf q)).trans q0.1)
  have w1 := (widened_apply (weight1 a b d) r q (by rw [weight1_apply]; exact q1.2)).trans ((weight1_apply a b d r (laneOf q)).trans q1.1)
  have w2 := (widened_apply (weight2 a b d) r q (by rw [weight2_apply]; exact q2.2)).trans ((weight2_apply a b d r (laneOf q)).trans q2.1)
  rw [headsTwo_eq, headsThird_eq]
  show widened (weight0 a b d) (ix2 r q) * (k0_pay35 (F := Ideal) o) (ix2 r q)
      + widened (weight1 a b d) (ix2 r q) * (k0_pay60 (F := Ideal) (k0_pay58 (s 0)) (k0_pay59 (s 1)) (s 2) (s 3)) (ix2 r q)
      + widened (weight2 a b d) (ix2 r q) * (k0_pay60 (F := Ideal) (k0_pay58 (s' 0)) (k0_pay59 (s' 1)) (s' 2) (s' 3)) (ix2 r q) = _
  rw [w0, w1, w2, o_apply, sideBySide_apply, sideBySide_apply]
  rfl

section

variable (x0 : Vec Ideal S512x1024 .bf16) (x1 : Vec Ideal S1024x1024 .bf16) (x2 : Vec Ideal S512x512 .bf16) (x3 : Vec Ideal S1x4x128x512 .bf16)
  (x4 : Vec Ideal S1x16x32x512 .bf16) (x5 : Vec Ideal S512x128 .f32) (x6 : Vec Ideal S1x4x128x128 .f32) (x7 : Vec Ideal S1x16x32x128 .f32)
  (x8 : Vec Ideal S512x1024 .bf16) (x9 : Vec Ideal S512x2048 .bf16) (x10 : Vec Ideal S1024x1024 .bf16) (x11 : Vec Ideal S512x1024 .f32) (x12 : Vec Ideal S1x1024 .f32)

/-- A block's mixed heads. -/
def blockHeads (r q : Fin 512) : EReal :=
  mixed (x5 (ix2 r (laneOf q))) (x6 (ix4 0 ⟨r.val % 4, by omega⟩ ⟨r.val / 4, by omega⟩ (laneOf q))) (x7 (ix4 0 ⟨r.val % 16, by omega⟩ ⟨r.val / 16, by omega⟩ (laneOf q)))
    (x2 (ix2 r q)) (x3 (ix4 0 ⟨r.val % 4, by omega⟩ ⟨r.val / 4, by omega⟩ q)) (x4 (ix4 0 ⟨r.val % 16, by omega⟩ ⟨r.val / 16, by omega⟩ q))

/-- A block's two branches, each times its gate. -/
def blockMerged (r : Fin 512) (k : Fin 1024) : EReal :=
  x9 (ix2 r ⟨k.val, by omega⟩) * (∑ x : Fin 1024, x0 (ix2 r x) * x1 (ix2 x k))
    + x9 (ix2 r ⟨1024 + k.val, by omega⟩) * ∑ q : Fin 512, blockHeads x2 x3 x4 x5 x6 x7 r q * x8 (ix2 q k)

/-- A block's rows of the residual stream. -/
def blockStream (r : Fin 512) (j : Fin 1024) : EReal :=
  x11 (ix2 r j) + ∑ k : Fin 1024, blockMerged x0 x1 x2 x3 x4 x5 x6 x7 x8 x9 r k * x10 (ix2 k j)

/-- A block's normed rows. -/
def blockNormed (r : Fin 512) (j : Fin 1024) : EReal :=
  blockStream x0 x1 x2 x3 x4 x5 x6 x7 x8 x9 x10 x11 r j
    * Ideal.rsqrt (Ideal.div (∑ k : Fin 1024, blockStream x0 x1 x2 x3 x4 x5 x6 x7 x8 x9 x10 x11 r k * blockStream x0 x1 x2 x3 x4 x5 x6 x7 x8 x9 x10 x11 r k)
        (Ideal.ofBits .f32 0x44800000#32) + Ideal.ofBits .f32 0x358637BD#32)
    * x12 (ix2 0 j)

/-- The largest log-sum of every row and head is a real number. -/
def SumsReal : Prop := ∀ r q : Fin 512, ∃ M : ℝ, max (max (x5 (ix2 r (laneOf q))) (x6 (ix4 0 ⟨r.val % 4, by omega⟩ ⟨r.val / 4, by omega⟩ (laneOf q))))
  (x7 (ix4 0 ⟨r.val % 16, by omega⟩ ⟨r.val / 16, by omega⟩ (laneOf q))) = (M : EReal)

variable {x0 x1 x2 x3 x4 x5 x6 x7 x8 x9 x10 x11 x12}
  {y0 : Vec Ideal S512x1024 .bf16} {y1 : Vec Ideal S1024x1024 .bf16} {y2 : Vec Ideal S512x512 .bf16} {y5 : Vec Ideal S512x128 .f32} {y8 : Vec Ideal S512x1024 .bf16}
  {y10 : Vec Ideal S1024x1024 .bf16} {y11 : Vec Ideal S512x1024 .f32} {y12 : Vec Ideal S1x1024 .f32} {b d : Vec Ideal S1x512x128 .f32} {s s' : ℕ → Vec Ideal S1x512x128 .f32}
  {g g' : Vec Ideal S512x1024 .bf16}

theorem finish_block (h0 : y0 = x0) (h1 : y1 = x1) (h2 : y2 = x2) (h5 : y5 = x5) (h8 : y8 = x8) (h10 : y10 = x10) (h11 : y11 = x11)
    (hb : ∀ r l, b (ix3 0 r l) = x6 (ix4 0 ⟨r.val % 4, by omega⟩ ⟨r.val / 4, by omega⟩ l))
    (hd : ∀ r l, d (ix3 0 r l) = x7 (ix4 0 ⟨r.val % 16, by omega⟩ ⟨r.val / 16, by omega⟩ l))
    (hs : ∀ r q, sideBySide s r q = x3 (ix4 0 ⟨r.val % 4, by omega⟩ ⟨r.val / 4, by omega⟩ q))
    (hs' : ∀ r q, sideBySide s' r q = x4 (ix4 0 ⟨r.val % 16, by omega⟩ ⟨r.val / 16, by omega⟩ q))
    (hg : ∀ (r : Fin 512) (k : Fin 1024), g (ix2 r k) = x9 (ix2 r ⟨k.val, by omega⟩)) (hg' : ∀ (r : Fin 512) (k : Fin 1024), g' (ix2 r k) = x9 (ix2 r ⟨1024 + k.val, by omega⟩))
    (hM : SumsReal x5 x6 x7) (r : Fin 512) (j : Fin 1024) :
    k0_pay153 (k0_pay1 y0 y1) (headsTwo y5 b d y2 s) (headsThird y5 b d s') y8 g g' y11 y10 (ix2 r j)
      = blockStream x0 x1 x2 x3 x4 x5 x6 x7 x8 x9 x10 x11 r j := by
  subst h0 h1 h2 h5 h8 h10 h11
  have hh : ∀ q : Fin 512, headsTwo y5 b d y2 s (ix2 r q) + headsThird y5 b d s' (ix2 r q) = blockHeads y2 x3 x4 y5 x6 x7 r q := by
    intro q
    rw [heads_apply y5 b d y2 s s' r q (by rw [hb, hd]; exact hM r q), hb, hd, hs, hs']
    rfl
  rw [finish_apply]
  unfold blockStream blockMerged
  simp only [hh, hg, hg', conv_apply]

theorem norm_block (h0 : y0 = x0) (h1 : y1 = x1) (h2 : y2 = x2) (h5 : y5 = x5) (h8 : y8 = x8) (h10 : y10 = x10) (h11 : y11 = x11) (h12 : y12 = x12)
    (hb : ∀ r l, b (ix3 0 r l) = x6 (ix4 0 ⟨r.val % 4, by omega⟩ ⟨r.val / 4, by omega⟩ l))
    (hd : ∀ r l, d (ix3 0 r l) = x7 (ix4 0 ⟨r.val % 16, by omega⟩ ⟨r.val / 16, by omega⟩ l))
    (hs : ∀ r q, sideBySide s r q = x3 (ix4 0 ⟨r.val % 4, by omega⟩ ⟨r.val / 4, by omega⟩ q))
    (hs' : ∀ r q, sideBySide s' r q = x4 (ix4 0 ⟨r.val % 16, by omega⟩ ⟨r.val / 16, by omega⟩ q))
    (hg : ∀ (r : Fin 512) (k : Fin 1024), g (ix2 r k) = x9 (ix2 r ⟨k.val, by omega⟩)) (hg' : ∀ (r : Fin 512) (k : Fin 1024), g' (ix2 r k) = x9 (ix2 r ⟨1024 + k.val, by omega⟩))
    (hM : SumsReal x5 x6 x7) (r : Fin 512) (j : Fin 1024) :
    k0_pay154 (k0_pay1 y0 y1) (headsTwo y5 b d y2 s) (headsThird y5 b d s') y8 g g' y11 y10 y12 (ix2 r j)
      = blockNormed x0 x1 x2 x3 x4 x5 x6 x7 x8 x9 x10 x11 x12 r j := by
  subst h12
  rw [norm_apply]
  unfold blockNormed
  simp only [finish_block h0 h1 h2 h5 h8 h10 h11 hb hd hs hs' hg hg' hM]

end

theorem side4 (arg4 : Memref sig .tc .vmem S1x4x128x512 .bf16) (h4 : arg4.IsWhole) (x3 : Vec Ideal S1x4x128x512 .bf16) (L : List (View.Piece (Elt Ideal) S10x512x128 .f32))
    (arg16 : Memref sig .tc .vmem S10x512x128 .f32) (r q : Fin 512) :
    sideBySide (outSlab4 arg16 (outs4 arg4 (h4.unread x3) L 16)) r q = x3 (ix4 0 ⟨r.val % 4, by omega⟩ ⟨r.val / 4, by omega⟩ q) := by
  unfold sideBySide
  rw [outSlab4_apply arg4 h4 x3 L arg16 (q.val / 128) (by omega)]
  exact congrArg (fun y : Fin 512 => x3 (ix4 0 ⟨r.val % 4, by omega⟩ ⟨r.val / 4, by omega⟩ y)) (Fin.ext (by show 128 * (q.val / 128) + q.val % 128 = q.val; omega))

theorem side16 (arg5 : Memref sig .tc .vmem S1x16x32x512 .bf16) (h5 : arg5.IsWhole) (x4 : Vec Ideal S1x16x32x512 .bf16) (L : List (View.Piece (Elt Ideal) S10x512x128 .f32))
    (arg16 : Memref sig .tc .vmem S10x512x128 .f32) (r q : Fin 512) :
    sideBySide (outSlab16 arg16 (outs16 arg5 (h5.unread x4) L 64)) r q = x4 (ix4 0 ⟨r.val % 16, by omega⟩ ⟨r.val / 16, by omega⟩ q) := by
  unfold sideBySide
  rw [outSlab16_apply arg5 h5 x4 L arg16 (q.val / 128) (by omega)]
  exact congrArg (fun y : Fin 512 => x4 (ix4 0 ⟨r.val % 16, by omega⟩ ⟨r.val / 16, by omega⟩ y)) (Fin.ext (by show 128 * (q.val / 128) + q.val % 128 = q.val; omega))

theorem gates_low (a : Memref sig .tc .vmem S512x2048 .bf16) (ha : a.IsWhole) (v : Vec Ideal S512x2048 .bf16) (r : Fin 512) (k : Fin 1024) :
    View.readAt (Elt Ideal) a.view (Rect.unit (s := S512x2048) ![0, 0] S512x1024.size inb_S512x2048_S512x1024_0_0).toLoadRect (ha.unread v) (ix2 r k) = v (ix2 r ⟨k.val, by omega⟩) := by
  refine (congrFun (ha.read_unread v) _).trans (congrArg v ?_)
  funext a
  match a with
  | 0 => exact Fin.ext (by show 0 + 1 * r.val = r.val; omega)
  | 1 => exact Fin.ext (by show 0 + 1 * k.val = k.val; omega)

theorem gates_high (a : Memref sig .tc .vmem S512x2048 .bf16) (ha : a.IsWhole) (v : Vec Ideal S512x2048 .bf16) (r : Fin 512) (k : Fin 1024) :
    View.readAt (Elt Ideal) a.view (Rect.unit (s := S512x2048) ![0, 1024] S512x1024.size inb_S512x2048_S512x1024_0_1024).toLoadRect (ha.unread v) (ix2 r k) = v (ix2 r ⟨1024 + k.val, by omega⟩) := by
  refine (congrFun (ha.read_unread v) _).trans (congrArg v ?_)
  funext a
  match a with
  | 0 => exact Fin.ext (by show 0 + 1 * r.val = r.val; omega)
  | 1 => exact Fin.ext (by show 1024 + 1 * k.val = 1024 + k.val; omega)

section

variable (c : Dev nD) (i : grid0.Coords)
  (arg1 : Memref sig .tc .vmem S512x1024 .bf16) (harg1 : arg1.IsWhole)
  (arg2 : Memref sig .tc .vmem S1024x1024 .bf16) (harg2 : arg2.IsWhole)
  (arg3 : Memref sig .tc .vmem S512x512 .bf16) (harg3 : arg3.IsWhole)
  (arg4 : Memref sig .tc .vmem S1x4x128x512 .bf16) (harg4 : arg4.IsWhole)
  (arg5 : Memref sig .tc .vmem S1x16x32x512 .bf16) (harg5 : arg5.IsWhole)
  (arg6 : Memref sig .tc .vmem S512x128 .f32) (harg6 : arg6.IsWhole)
  (arg7 : Memref sig .tc .vmem S1x4x128x128 .f32) (harg7 : arg7.IsWhole)
  (arg8 : Memref sig .tc .vmem S1x16x32x128 .f32) (harg8 : arg8.IsWhole)
  (arg9 : Memref sig .tc .vmem S512x1024 .bf16) (harg9 : arg9.IsWhole)
  (arg10 : Memref sig .tc .vmem S512x2048 .bf16) (harg10 : arg10.IsWhole)
  (arg11 : Memref sig .tc .vmem S1024x1024 .bf16) (harg11 : arg11.IsWhole)
  (arg12 : Memref sig .tc .vmem S512x1024 .f32) (harg12 : arg12.IsWhole)
  (arg13 : Memref sig .tc .vmem S1x1024 .f32) (harg13 : arg13.IsWhole)
  (arg14 : Memref sig .tc .vmem S512x1024 .f32) (harg14 : arg14.IsWhole)
  (arg15 : Memref sig .tc .vmem S512x1024 .bf16) (harg15 : arg15.IsWhole)
  (arg16 : Memref sig .tc .vmem S10x512x128 .f32) (harg16 : arg16.IsWhole)
  (x0 : Vec Ideal S512x1024 .bf16) (x1 : Vec Ideal S1024x1024 .bf16) (x2 : Vec Ideal S512x512 .bf16) (x3 : Vec Ideal S1x4x128x512 .bf16)
  (x4 : Vec Ideal S1x16x32x512 .bf16) (x5 : Vec Ideal S512x128 .f32) (x6 : Vec Ideal S1x4x128x128 .f32) (x7 : Vec Ideal S1x16x32x128 .f32)
  (x8 : Vec Ideal S512x1024 .bf16) (x9 : Vec Ideal S512x2048 .bf16) (x10 : Vec Ideal S1024x1024 .bf16) (x11 : Vec Ideal S512x1024 .f32) (x12 : Vec Ideal S1x1024 .f32)

theorem stream_block (hM : SumsReal x5 x6 x7) (r : Fin 512) (j : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r j)
      = blockStream x0 x1 x2 x3 x4 x5 x6 x7 x8 x9 x10 x11 r j := by
  unfold out0_A_13
  rw [stream_pieces]
  refine (View.read_writes_cons_hit_of_coords VO0_13 _ _ _ _ (ix2 r j) _ ?_).trans ?_
  · intro a
    match a with
    | 0 => show r.val = 0 + 1 * r.val; omega
    | 1 => show j.val = 0 + 1 * j.val; omega
  · exact finish_block (whole_load arg1 harg1 x0 _ zero_offsets _) (whole_load arg2 harg2 x1 _ zero_offsets _) (whole_load arg3 harg3 x2 _ zero_offsets _)
      (whole_load arg6 harg6 x5 _ zero_offsets _) (whole_load arg9 harg9 x8 _ zero_offsets _) (whole_load arg11 harg11 x10 _ zero_offsets _) (whole_load arg12 harg12 x11 _ zero_offsets _)
      (fun r l => by rw [lses4_4, lseSlab4_apply]) (fun r l => by rw [lses16_16, lseSlab16_apply])
      (fun r q => by rw [outs4_16, side4]) (fun r q => by rw [outs16_64, side16]) (gates_low arg10 harg10 x9) (gates_high arg10 harg10 x9) hM r j

theorem normed_block (hM : SumsReal x5 x6 x7) (r : Fin 512) (j : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r j)
      = blockNormed x0 x1 x2 x3 x4 x5 x6 x7 x8 x9 x10 x11 x12 r j := by
  unfold out0_A_14
  rw [normed_pieces]
  refine (View.read_writes_cons_hit_of_coords VO0_14 _ _ _ _ (ix2 r j) _ ?_).trans ?_
  · intro a
    match a with
    | 0 => show r.val = 0 + 1 * r.val; omega
    | 1 => show j.val = 0 + 1 * j.val; omega
  · exact norm_block (whole_load arg1 harg1 x0 _ zero_offsets _) (whole_load arg2 harg2 x1 _ zero_offsets _) (whole_load arg3 harg3 x2 _ zero_offsets _)
      (whole_load arg6 harg6 x5 _ zero_offsets _) (whole_load arg9 harg9 x8 _ zero_offsets _) (whole_load arg11 harg11 x10 _ zero_offsets _) (whole_load arg12 harg12 x11 _ zero_offsets _)
      (whole_load arg13 harg13 x12 _ zero_offsets _)
      (fun r l => by rw [lses4_4, lseSlab4_apply]) (fun r l => by rw [lses16_16, lseSlab16_apply])
      (fun r q => by rw [outs4_16, side4]) (fun r q => by rw [outs16_64, side16]) (gates_low arg10 harg10 x9) (gates_high arg10 harg10 x9) hM r j

end

end Cert.Mix

end
-- ==== Proof.MixInputs.lean ====
/- What the mixing kernel's launch hands its body: blocks of rows, of the class-major outputs and log-sums, and the weights. -/
module

public import proofs.«01_k».proof.Proof.Gen.Kernel3Ideal.Value
public import Idealize.ShloMosaic.Lib.Pointwise

@[expose] public section

set_option maxRecDepth 16384

noncomputable section

namespace Cert.Mix

open Idealize.ShloMosaic Idealize.ShloMosaic.TcCoe
open Cert.Kernel3Ideal Cert.Kernel3Ideal.Gen

variable (m : (ℓ : Loc nD τ sig) → Buf (Elt Ideal) ℓ) (c : Dev nD)

/-! ## The blocks -/

theorem lt_64 (t : Fin cfg0.N) : t.val < 64 := lt_of_lt_of_eq t.isLt N_0

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3_0 : ∀ t : Fin grid0.N, win0_3.index t (0 : Fin 4) = t.val / 8 := by decide +kernel
theorem index3_1 : ∀ t : Fin grid0.N, win0_3.index t (1 : Fin 4) = 0 := by decide +kernel
theorem index3_2 : ∀ t : Fin grid0.N, win0_3.index t (2 : Fin 4) = t.val % 8 := by decide +kernel
theorem index3_3 : ∀ t : Fin grid0.N, win0_3.index t (3 : Fin 4) = 0 := by decide +kernel
theorem index4_0 : ∀ t : Fin grid0.N, win0_4.index t (0 : Fin 4) = t.val / 8 := by decide +kernel
theorem index4_1 : ∀ t : Fin grid0.N, win0_4.index t (1 : Fin 4) = 0 := by decide +kernel
theorem index4_2 : ∀ t : Fin grid0.N, win0_4.index t (2 : Fin 4) = t.val % 8 := by decide +kernel
theorem index4_3 : ∀ t : Fin grid0.N, win0_4.index t (3 : Fin 4) = 0 := by decide +kernel
theorem index5 : ∀ t : Fin grid0.N, win0_5.index t = ![t.val, 0] := by decide +kernel
theorem index6_0 : ∀ t : Fin grid0.N, win0_6.index t (0 : Fin 4) = t.val / 8 := by decide +kernel
theorem index6_1 : ∀ t : Fin grid0.N, win0_6.index t (1 : Fin 4) = 0 := by decide +kernel
theorem index6_2 : ∀ t : Fin grid0.N, win0_6.index t (2 : Fin 4) = t.val % 8 := by decide +kernel
theorem index6_3 : ∀ t : Fin grid0.N, win0_6.index t (3 : Fin 4) = 0 := by decide +kernel
theorem index7_0 : ∀ t : Fin grid0.N, win0_7.index t (0 : Fin 4) = t.val / 8 := by decide +kernel
theorem index7_1 : ∀ t : Fin grid0.N, win0_7.index t (1 : Fin 4) = 0 := by decide +kernel
theorem index7_2 : ∀ t : Fin grid0.N, win0_7.index t (2 : Fin 4) = t.val % 8 := by decide +kernel
theorem index7_3 : ∀ t : Fin grid0.N, win0_7.index t (3 : Fin 4) = 0 := by decide +kernel
theorem index8 : ∀ t : Fin grid0.N, win0_8.index t = ![0, 0] := by decide +kernel
theorem index9 : ∀ t : Fin grid0.N, win0_9.index t = ![t.val, 0] := by decide +kernel
theorem index10 : ∀ t : Fin grid0.N, win0_10.index t = ![0, 0] := by decide +kernel
theorem index11 : ∀ t : Fin grid0.N, win0_11.index t = ![t.val, 0] := by decide +kernel
theorem index12 : ∀ t : Fin grid0.N, win0_12.index t = ![0, 0] := by decide +kernel
theorem index13 : ∀ t : Fin grid0.N, win0_13.index t = ![t.val, 0] := by decide +kernel
theorem index14 : ∀ t : Fin grid0.N, win0_14.index t = ![t.val, 0] := by decide +kernel

theorem iblk0 (t : Fin cfg0.N) (r : Fin 512) (x : Fin 1024) (z : Fin 32768) (hz : z.val = 512 * t.val + r.val) : iblk m c 0 t (ix2 r x) = V m c main_v31 (ix2 z x) := by
  unfold iblk
  generalize V m c = Y
  show Y main_v31 (((cfg0.win 0).blk t).view.emb (ix2 r x)) = _
  refine congrArg (Y main_v31) ?_
  funext a
  match a with
  | 0 => exact Fin.ext (by show win0_0.index t (0 : Fin 2) * 512 + 1 * r.val = z.val; rw [index0]; show t.val * 512 + 1 * r.val = z.val; omega)
  | 1 => exact Fin.ext (by show win0_0.index t (1 : Fin 2) * 1024 + 1 * x.val = x.val; rw [index0]; show 0 * 1024 + 1 * x.val = x.val; omega)

theorem iblk1 (t : Fin cfg0.N) (r : Fin 1024) (x : Fin 1024) : iblk m c 1 t (ix2 r x) = V m c main_v33 (ix2 r x) := by
  unfold iblk
  generalize V m c = Y
  show Y main_v33 (((cfg0.win 1).blk t).view.emb (ix2 r x)) = _
  refine congrArg (Y main_v33) ?_
  funext a
  match a with
  | 0 => exact Fin.ext (by show win0_1.index t (0 : Fin 2) * 1024 + 1 * r.val = r.val; rw [index1]; show 0 * 1024 + 1 * r.val = r.val; omega)
  | 1 => exact Fin.ext (by show win0_1.index t (1 : Fin 2) * 1024 + 1 * x.val = x.val; rw [index1]; show 0 * 1024 + 1 * x.val = x.val; omega)

theorem iblk2 (t : Fin cfg0.N) (r : Fin 512) (x : Fin 512) (z : Fin 32768) (hz : z.val = 512 * t.val + r.val) : iblk m c 2 t (ix2 r x) = V m c main_v41 (ix2 z x) := by
  unfold iblk
  generalize V m c = Y
  show Y main_v41 (((cfg0.win 2).blk t).view.emb (ix2 r x)) = _
  refine congrArg (Y main_v41) ?_
  funext a
  match a with
  | 0 => exact Fin.ext (by show win0_2.index t (0 : Fin 2) * 512 + 1 * r.val = z.val; rw [index2]; show t.val * 512 + 1 * r.val = z.val; omega)
  | 1 => exact Fin.ext (by show win0_2.index t (1 : Fin 2) * 512 + 1 * x.val = x.val; rw [index2]; show 0 * 512 + 1 * x.val = x.val; omega)

theorem iblk3 (t : Fin cfg0.N) (e : Fin 4) (q : Fin 128) (x : Fin 512) (n : Fin 8) (hn : n.val = t.val / 8) (p : Fin 1024) (hp : p.val = 128 * (t.val % 8) + q.val) :
    iblk m c 3 t (ix4 0 e q x) = V m c main_v7 (ix4 n e p x) := by
  have key : ∀ Y : FVec Ideal S8x4x1024x512 .bf16, ((cfg0.win 3).blk t).view.read (Elt Ideal) Y (ix4 0 e q x) = Y (ix4 n e p x) := by
    intro Y
    refine congrArg Y ?_
    funext a
    match a with
    | 0 => exact Fin.ext (by show win0_3.index t (0 : Fin 4) * 1 + 1 * 0 = n.val; rw [index3_0]; omega)
    | 1 => exact Fin.ext (by show win0_3.index t (1 : Fin 4) * 4 + 1 * e.val = e.val; rw [index3_1]; omega)
    | 2 => exact Fin.ext (by show win0_3.index t (2 : Fin 4) * 128 + 1 * q.val = p.val; rw [index3_2]; omega)
    | 3 => exact Fin.ext (by show win0_3.index t (3 : Fin 4) * 512 + 1 * x.val = x.val; rw [index3_3]; omega)
  exact key _

theorem iblk4 (t : Fin cfg0.N) (e : Fin 16) (q : Fin 32) (x : Fin 512) (n : Fin 8) (hn : n.val = t.val / 8) (p : Fin 256) (hp : p.val = 32 * (t.val % 8) + q.val) :
    iblk m c 4 t (ix4 0 e q x) = V m c main_v11 (ix4 n e p x) := by
  have key : ∀ Y : FVec Ideal S8x16x256x512 .bf16, ((cfg0.win 4).blk t).view.read (Elt Ideal) Y (ix4 0 e q x) = Y (ix4 n e p x) := by
    intro Y
    refine congrArg Y ?_
    funext a
    match a with
    | 0 => exact Fin.ext (by show win0_4.index t (0 : Fin 4) * 1 + 1 * 0 = n.val; rw [index4_0]; omega)
    | 1 => exact Fin.ext (by show win0_4.index t (1 : Fin 4) * 16 + 1 * e.val = e.val; rw [index4_1]; omega)
    | 2 => exact Fin.ext (by show win0_4.index t (2 : Fin 4) * 32 + 1 * q.val = p.val; rw [index4_2]; omega)
    | 3 => exact Fin.ext (by show win0_4.index t (3 : Fin 4) * 512 + 1 * x.val = x.val; rw [index4_3]; omega)
  exact key _

theorem iblk5 (t : Fin cfg0.N) (r : Fin 512) (x : Fin 128) (z : Fin 32768) (hz : z.val = 512 * t.val + r.val) : iblk m c 5 t (ix2 r x) = V m c main_v42 (ix2 z x) := by
  unfold iblk
  generalize V m c = Y
  show Y main_v42 (((cfg0.win 5).blk t).view.emb (ix2 r x)) = _
  refine congrArg (Y main_v42) ?_
  funext a
  match a with
  | 0 => exact Fin.ext (by show win0_5.index t (0 : Fin 2) * 512 + 1 * r.val = z.val; rw [index5]; show t.val * 512 + 1 * r.val = z.val; omega)
  | 1 => exact Fin.ext (by show win0_5.index t (1 : Fin 2) * 128 + 1 * x.val = x.val; rw [index5]; show 0 * 128 + 1 * x.val = x.val; omega)

theorem iblk6 (t : Fin cfg0.N) (e : Fin 4) (q : Fin 128) (x : Fin 128) (n : Fin 8) (hn : n.val = t.val / 8) (p : Fin 1024) (hp : p.val = 128 * (t.val % 8) + q.val) :
    iblk m c 6 t (ix4 0 e q x) = V m c main_v23 (ix4 n e p x) := by
  have key : ∀ Y : FVec Ideal S8x4x1024x128 .f32, ((cfg0.win 6).blk t).view.read (Elt Ideal) Y (ix4 0 e q x) = Y (ix4 n e p x) := by
    intro Y
    refine congrArg Y ?_
    funext a
    match a with
    | 0 => exact Fin.ext (by show win0_6.index t (0 : Fin 4) * 1 + 1 * 0 = n.val; rw [index6_0]; omega)
    | 1 => exact Fin.ext (by show win0_6.index t (1 : Fin 4) * 4 + 1 * e.val = e.val; rw [index6_1]; omega)
    | 2 => exact Fin.ext (by show win0_6.index t (2 : Fin 4) * 128 + 1 * q.val = p.val; rw [index6_2]; omega)
    | 3 => exact Fin.ext (by show win0_6.index t (3 : Fin 4) * 128 + 1 * x.val = x.val; rw [index6_3]; omega)
  exact key _

theorem iblk7 (t : Fin cfg0.N) (e : Fin 16) (q : Fin 32) (x : Fin 128) (n : Fin 8) (hn : n.val = t.val / 8) (p : Fin 256) (hp : p.val = 32 * (t.val % 8) + q.val) :
    iblk m c 7 t (ix4 0 e q x) = V m c main_v29 (ix4 n e p x) := by
  have key : ∀ Y : FVec Ideal S8x16x256x128 .f32, ((cfg0.win 7).blk t).view.read (Elt Ideal) Y (ix4 0 e q x) = Y (ix4 n e p x) := by
    intro Y
    refine congrArg Y ?_
    funext a
    match a with
    | 0 => exact Fin.ext (by show win0_7.index t (0 : Fin 4) * 1 + 1 * 0 = n.val; rw [index7_0]; omega)
    | 1 => exact Fin.ext (by show win0_7.index t (1 : Fin 4) * 16 + 1 * e.val = e.val; rw [index7_1]; omega)
    | 2 => exact Fin.ext (by show win0_7.index t (2 : Fin 4) * 32 + 1 * q.val = p.val; rw [index7_2]; omega)
    | 3 => exact Fin.ext (by show win0_7.index t (3 : Fin 4) * 128 + 1 * x.val = x.val; rw [index7_3]; omega)
  exact key _

theorem iblk8 (t : Fin cfg0.N) (r : Fin 512) (x : Fin 1024) : iblk m c 8 t (ix2 r x) = V m c main_v35 (ix2 r x) := by
  unfold iblk
  generalize V m c = Y
  show Y main_v35 (((cfg0.win 8).blk t).view.emb (ix2 r x)) = _
  refine congrArg (Y main_v35) ?_
  funext a
  match a with
  | 0 => exact Fin.ext (by show win0_8.index t (0 : Fin 2) * 512 + 1 * r.val = r.val; rw [index8]; show 0 * 512 + 1 * r.val = r.val; omega)
  | 1 => exact Fin.ext (by show win0_8.index t (1 : Fin 2) * 1024 + 1 * x.val = x.val; rw [index8]; show 0 * 1024 + 1 * x.val = x.val; omega)

theorem iblk9 (t : Fin cfg0.N) (r : Fin 512) (x : Fin 2048) (z : Fin 32768) (hz : z.val = 512 * t.val + r.val) : iblk m c 9 t (ix2 r x) = V m c main_v37 (ix2 z x) := by
  unfold iblk
  generalize V m c = Y
  show Y main_v37 (((cfg0.win 9).blk t).view.emb (ix2 r x)) = _
  refine congrArg (Y main_v37) ?_
  funext a
  match a with
  | 0 => exact Fin.ext (by show win0_9.index t (0 : Fin 2) * 512 + 1 * r.val = z.val; rw [index9]; show t.val * 512 + 1 * r.val = z.val; omega)
  | 1 => exact Fin.ext (by show win0_9.index t (1 : Fin 2) * 2048 + 1 * x.val = x.val; rw [index9]; show 0 * 2048 + 1 * x.val = x.val; omega)

theorem iblk10 (t : Fin cfg0.N) (r : Fin 1024) (x : Fin 1024) : iblk m c 10 t (ix2 r x) = V m c main_v39 (ix2 r x) := by
  unfold iblk
  generalize V m c = Y
  show Y main_v39 (((cfg0.win 10).blk t).view.emb (ix2 r x)) = _
  refine congrArg (Y main_v39) ?_
  funext a
  match a with
  | 0 => exact Fin.ext (by show win0_10.index t (0 : Fin 2) * 1024 + 1 * r.val = r.val; rw [index10]; show 0 * 1024 + 1 * r.val = r.val; omega)
  | 1 => exact Fin.ext (by show win0_10.index t (1 : Fin 2) * 1024 + 1 * x.val = x.val; rw [index10]; show 0 * 1024 + 1 * x.val = x.val; omega)

theorem iblk11 (t : Fin cfg0.N) (r : Fin 512) (x : Fin 1024) (z : Fin 32768) (hz : z.val = 512 * t.val + r.val) : iblk m c 11 t (ix2 r x) = V m c main_v40 (ix2 z x) := by
  unfold iblk
  generalize V m c = Y
  show Y main_v40 (((cfg0.win 11).blk t).view.emb (ix2 r x)) = _
  refine congrArg (Y main_v40) ?_
  funext a
  match a with
  | 0 => exact Fin.ext (by show win0_11.index t (0 : Fin 2) * 512 + 1 * r.val = z.val; rw [index11]; show t.val * 512 + 1 * r.val = z.val; omega)
  | 1 => exact Fin.ext (by show win0_11.index t (1 : Fin 2) * 1024 + 1 * x.val = x.val; rw [index11]; show 0 * 1024 + 1 * x.val = x.val; omega)

theorem iblk12 (t : Fin cfg0.N) (x : Fin 1024) : iblk m c 12 t (ix2 0 x) = V m c main_arg12 (ix2 0 x) := by
  unfold iblk
  generalize V m c = Y
  show Y main_arg12 (((cfg0.win 12).blk t).view.emb (ix2 0 x)) = _
  refine congrArg (Y main_arg12) ?_
  funext a
  match a with
  | 0 => exact Fin.ext (by show win0_12.index t (0 : Fin 2) * 1 + 1 * 0 = 0; rw [index12]; show 0 * 1 + 1 * 0 = 0; omega)
  | 1 => exact Fin.ext (by show win0_12.index t (1 : Fin 2) * 1024 + 1 * x.val = x.val; rw [index12]; show 0 * 1024 + 1 * x.val = x.val; omega)

end Cert.Mix

end
-- ==== Proof.MixLeft.lean ====
/- The rows the mixing kernel leaves are those of its blocks. -/
module

public import proofs.«01_k».proof.Proof.MixBlock
public import proofs.«01_k».proof.Proof.MixInputs

@[expose] public section

set_option maxRecDepth 16384

noncomputable section

namespace Cert.Mix

open Idealize.ShloMosaic Idealize.ShloMosaic.TcCoe
open Cert.Kernel3Ideal Cert.Kernel3Ideal.Gen Cert.Kernel3Ideal.Value

variable (m : (ℓ : Loc nD τ sig) → Buf (Elt Ideal) ℓ) (c : Dev nD)

theorem stream_row (t : Fin cfg0.N) (hM : SumsReal (iblk m c 5 t) (iblk m c 6 t) (iblk m c 7 t)) (r : Fin 512) (j : Fin 1024) (z : Fin 32768) (hz : z.val = 512 * t.val + r.val) :
    (dats m 0 c).arrAt 13 cfg0.N (ix2 z j)
      = blockStream (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j := by
  have hf : (cfg0.win 13).flush t = true := flush0_13 t
  have hb := congrFun (blocks13 m c t hf) (ix2 r j)
  rw [flushed13_A] at hb
  have hi : ((cfg0.win 13).blk t).view.emb (ix2 r j) = ix2 z j := by
    funext a
    match a with
    | 0 => exact Fin.ext (by show win0_13.index t (0 : Fin 2) * 512 + 1 * r.val = z.val; rw [index13]; show t.val * 512 + 1 * r.val = z.val; omega)
    | 1 => exact Fin.ext (by show win0_13.index t (1 : Fin 2) * 1024 + 1 * j.val = j.val; rw [index13]; show 0 * 1024 + 1 * j.val = j.val; omega)
  have h1 : ((cfg0.win 13).blk t).view.read (Elt Ideal) ((dats m 0 c).arrAt 13 cfg0.N) (ix2 r j) = (dats m 0 c).arrAt 13 cfg0.N (ix2 z j) := by
    rw [← hi]
    rfl
  rw [← h1, hb]
  refine Eq.trans ?_ (stream_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hM r j)
  rfl

theorem normed_row (t : Fin cfg0.N) (hM : SumsReal (iblk m c 5 t) (iblk m c 6 t) (iblk m c 7 t)) (r : Fin 512) (j : Fin 1024) (z : Fin 32768) (hz : z.val = 512 * t.val + r.val) :
    (dats m 0 c).arrAt 14 cfg0.N (ix2 z j)
      = blockNormed (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j := by
  have hf : (cfg0.win 14).flush t = true := flush0_14 t
  have hb := congrFun (blocks14 m c t hf) (ix2 r j)
  rw [flushed14_A] at hb
  have hi : ((cfg0.win 14).blk t).view.emb (ix2 r j) = ix2 z j := by
    funext a
    match a with
    | 0 => exact Fin.ext (by show win0_14.index t (0 : Fin 2) * 512 + 1 * r.val = z.val; rw [index14]; show t.val * 512 + 1 * r.val = z.val; omega)
    | 1 => exact Fin.ext (by show win0_14.index t (1 : Fin 2) * 1024 + 1 * j.val = j.val; rw [index14]; show 0 * 1024 + 1 * j.val = j.val; omega)
  have h1 : ((cfg0.win 14).blk t).view.read (Elt Ideal) ((dats m 0 c).arrAt 14 cfg0.N) (ix2 r j) = (dats m 0 c).arrAt 14 cfg0.N (ix2 z j) := by
    rw [← hi]
    rfl
  rw [← h1, hb]
  refine Eq.trans ?_ (normed_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hM r j)
  rfl

end Cert.Mix

end
-- ==== Proof.MixArrays.lean ====
/- The arrays the mixing kernel's launch starts from, and what each holds at an index. -/
module

public import proofs.«01_k».proof.Proof.Gen.Kernel3Ideal.Value
public import Idealize.ShloMosaic.Lib.Pointwise

@[expose] public section

set_option maxRecDepth 16384

noncomputable section

namespace Cert.Mix

open Idealize.ShloMosaic Idealize.ShloMosaic.TcCoe
open Cert.Kernel3Ideal Cert.Kernel3Ideal.Gen

/-! ## The arrays at the launch -/

def flat (u : FVec Ideal S8x4096x1024 .f32) : FVec Ideal S32768x1024 .f32 := shapeCast S32768x1024 u shapeCasts_S8x4096x1024_S32768x1024

def flatHalf (u : FVec Ideal S8x4096x1024 .f32) : FVec Ideal S32768x1024 .bf16 := truncf .bf16 (flat u) bitsLt_bf16_f32

def gatesHalf (u : FVec Ideal S8x4096x2048 .f32) : FVec Ideal S32768x2048 .bf16 :=
  truncf .bf16 (shapeCast S32768x2048 u shapeCasts_S8x4096x2048_S32768x2048) bitsLt_bf16_f32

def squareHalf (w : FVec Ideal S1x1024x1024 .f32) : FVec Ideal S1024x1024 .bf16 :=
  truncf .bf16 (shapeCast S1024x1024 w shapeCasts_S1x1024x1024_S1024x1024) bitsLt_bf16_f32

def outHalf (w : FVec Ideal S1x512x1024 .f32) : FVec Ideal S512x1024 .bf16 :=
  truncf .bf16 (shapeCast S512x1024 w shapeCasts_S1x512x1024_S512x1024) bitsLt_bf16_f32

/-- The first group's outputs, a row a token. -/
def outs1 (o : FVec Ideal S8x4096x8x64 .f32) : FVec Ideal S32768x512 .bf16 :=
  shapeCast S32768x512 (truncf .bf16 (transpose S8x1x4096x512 [0, 2, 1, 3] (shapeCast S8x4096x1x512 (shapeCast S8x4096x512 o shapeCasts_S8x4096x8x64_S8x4096x512)
    shapeCasts_S8x4096x512_S8x4096x1x512) transposes_S8x4096x1x512_S8x1x4096x512_0_2_1_3) bitsLt_bf16_f32) shapeCasts_S8x1x4096x512_S32768x512

/-- The second group's outputs by class. -/
def outsOf4 (o : FVec Ideal S8x4096x8x64 .f32) : FVec Ideal S8x4x1024x512 .bf16 :=
  truncf .bf16 (transpose S8x4x1024x512 [0, 2, 1, 3] (shapeCast S8x1024x4x512 (shapeCast S8x4096x512 o shapeCasts_S8x4096x8x64_S8x4096x512)
    shapeCasts_S8x4096x512_S8x1024x4x512) transposes_S8x1024x4x512_S8x4x1024x512_0_2_1_3) bitsLt_bf16_f32

/-- The third group's outputs by class. -/
def outsOf16 (o : FVec Ideal S8x4096x8x64 .f32) : FVec Ideal S8x16x256x512 .bf16 :=
  truncf .bf16 (transpose S8x16x256x512 [0, 2, 1, 3] (shapeCast S8x256x16x512 (shapeCast S8x4096x512 o shapeCasts_S8x4096x8x64_S8x4096x512)
    shapeCasts_S8x4096x512_S8x256x16x512) transposes_S8x256x16x512_S8x16x256x512_0_2_1_3) bitsLt_bf16_f32

/-- A row's log-sums at their lanes. -/
def lanes (l : FVec Ideal S8x4096x8 .f32) : FVec Ideal S8x4096x128 .f32 :=
  shapeCast S8x4096x128 (pad S8x4096x2x64 ![0, 0, 0, 0] ![0, 0, 0, 60] ![0, 0, 0, 0] (transpose S8x4096x2x4 [0, 1, 3, 2] (shapeCast S8x4096x4x2 l shapeCasts_S8x4096x8_S8x4096x4x2)
    transposes_S8x4096x4x2_S8x4096x2x4_0_1_3_2) (sitofp .f32 (constantI S_ 32 0#32)) pads_S8x4096x2x4_S8x4096x2x64_000_000_000_0600 h_S_) shapeCasts_S8x4096x2x64_S8x4096x128

def sums1 (l : FVec Ideal S8x4096x8 .f32) : FVec Ideal S32768x128 .f32 :=
  shapeCast S32768x128 (transpose S8x1x4096x128 [0, 2, 1, 3] (shapeCast S8x4096x1x128 (lanes l) shapeCasts_S8x4096x128_S8x4096x1x128)
    transposes_S8x4096x1x128_S8x1x4096x128_0_2_1_3) shapeCasts_S8x1x4096x128_S32768x128

def sumsOf4 (l : FVec Ideal S8x4096x8 .f32) : FVec Ideal S8x4x1024x128 .f32 :=
  transpose S8x4x1024x128 [0, 2, 1, 3] (shapeCast S8x1024x4x128 (lanes l) shapeCasts_S8x4096x128_S8x1024x4x128) transposes_S8x1024x4x128_S8x4x1024x128_0_2_1_3

def sumsOf16 (l : FVec Ideal S8x4096x8 .f32) : FVec Ideal S8x16x256x128 .f32 :=
  transpose S8x16x256x128 [0, 2, 1, 3] (shapeCast S8x256x16x128 (lanes l) shapeCasts_S8x4096x128_S8x256x16x128) transposes_S8x256x16x128_S8x16x256x128_0_2_1_3

theorem flat_apply (u : FVec Ideal S8x4096x1024 .f32) (z : Fin 32768) (x : Fin 1024) :
    flat u (ix2 z x) = u (ix3 ⟨z.val / 4096, by omega⟩ ⟨z.val % 4096, by omega⟩ x) := by
  pointwise [flat]

theorem flatHalf_apply (u : FVec Ideal S8x4096x1024 .f32) (z : Fin 32768) (x : Fin 1024) :
    flatHalf u (ix2 z x) = u (ix3 ⟨z.val / 4096, by omega⟩ ⟨z.val % 4096, by omega⟩ x) := by
  pointwise [flatHalf, flat]

theorem gatesHalf_apply (u : FVec Ideal S8x4096x2048 .f32) (z : Fin 32768) (x : Fin 2048) :
    gatesHalf u (ix2 z x) = u (ix3 ⟨z.val / 4096, by omega⟩ ⟨z.val % 4096, by omega⟩ x) := by
  pointwise [gatesHalf]

theorem squareHalf_apply (w : FVec Ideal S1x1024x1024 .f32) (x n : Fin 1024) : squareHalf w (ix2 x n) = w (ix3 0 x n) := by
  pointwise [squareHalf]

theorem outHalf_apply (w : FVec Ideal S1x512x1024 .f32) (x : Fin 512) (n : Fin 1024) : outHalf w (ix2 x n) = w (ix3 0 x n) := by
  pointwise [outHalf]

theorem outs1_apply (o : FVec Ideal S8x4096x8x64 .f32) (z : Fin 32768) (j : Fin 512) :
    outs1 o (ix2 z j) = o (ix4 ⟨z.val / 4096, by omega⟩ ⟨z.val % 4096, by omega⟩ ⟨j.val / 64, by omega⟩ ⟨j.val % 64, by omega⟩) := by
  pointwise [outs1]

theorem outsOf4_apply (o : FVec Ideal S8x4096x8x64 .f32) (n : Fin 8) (cl : Fin 4) (q : Fin 1024) (j : Fin 512) :
    outsOf4 o (ix4 n cl q j) = o (ix4 n ⟨q.val * 4 + cl.val, by omega⟩ ⟨j.val / 64, by omega⟩ ⟨j.val % 64, by omega⟩) := by
  pointwise [outsOf4]

theorem outsOf16_apply (o : FVec Ideal S8x4096x8x64 .f32) (n : Fin 8) (cl : Fin 16) (q : Fin 256) (j : Fin 512) :
    outsOf16 o (ix4 n cl q j) = o (ix4 n ⟨q.val * 16 + cl.val, by omega⟩ ⟨j.val / 64, by omega⟩ ⟨j.val % 64, by omega⟩) := by
  pointwise [outsOf16]

theorem lanes_apply (l : FVec Ideal S8x4096x8 .f32) (n : Fin 8) (p : Fin 4096) (k : Fin 128) (hk : k.val % 64 < 4) :
    lanes l (ix3 n p k) = l (ix3 n p ⟨2 * (k.val % 64) + k.val / 64, by omega⟩) := by
  pointwise [lanes]
  rw [dif_pos ⟨by omega, hk⟩]
  exact congrArg (fun y : Fin 8 => l (ix3 n p y)) (Fin.ext (by show k.val % 64 * 2 + k.val / 64 = 2 * (k.val % 64) + k.val / 64; omega))

theorem sums1_apply (l : FVec Ideal S8x4096x8 .f32) (z : Fin 32768) (k : Fin 128) :
    sums1 l (ix2 z k) = lanes l (ix3 ⟨z.val / 4096, by omega⟩ ⟨z.val % 4096, by omega⟩ k) := by
  unfold sums1
  generalize lanes l = y
  pointwise

theorem sumsOf4_apply (l : FVec Ideal S8x4096x8 .f32) (n : Fin 8) (cl : Fin 4) (q : Fin 1024) (k : Fin 128) :
    sumsOf4 l (ix4 n cl q k) = lanes l (ix3 n ⟨q.val * 4 + cl.val, by omega⟩ k) := by
  unfold sumsOf4
  generalize lanes l = y
  pointwise

theorem sumsOf16_apply (l : FVec Ideal S8x4096x8 .f32) (n : Fin 8) (cl : Fin 16) (q : Fin 256) (k : Fin 128) :
    sumsOf16 l (ix4 n cl q k) = lanes l (ix3 n ⟨q.val * 16 + cl.val, by omega⟩ k) := by
  unfold sumsOf16
  generalize lanes l = y
  pointwise

end Cert.Mix

end
-- ==== Proof.MixEntry.lean ====
/- The mixing kernel's launch starts from these arrays of its arguments. -/
module

public import proofs.«01_k».proof.Proof.MixArrays
public import proofs.«01_k».proof.Proof.Gen.Kernel3Ideal.Value
public import Idealize.ShloMosaic.Lib.Pointwise

@[expose] public section

set_option maxRecDepth 16384

noncomputable section

namespace Cert.Mix

open Idealize.ShloMosaic Idealize.ShloMosaic.TcCoe
open Cert.Kernel3Ideal Cert.Kernel3Ideal.Gen

variable (m : (ℓ : Loc nD τ sig) → Buf (Elt Ideal) ℓ) (c : Dev nD)

theorem entry_z : V m c main_v31 = flatHalf (m ((c.tc : Thread nD τ).loc main_arg0)) := by
  show StableHlo.after (List.flatten [hostOps0, hostOps0_1, hostOps0_2, hostOps0_3, hostOps0_4, hostOps0_5, hostOps0_6]) _ (Proc.devRef .tc main_v31) = _
  simp only [hostOps0, hostOps0_1, hostOps0_2, hostOps0_3, hostOps0_4, hostOps0_5, hostOps0_6, List.flatten_cons, List.flatten_nil, List.append_nil, List.cons_append, List.nil_append]
  after_results
  rfl

theorem entry_wc : V m c main_v33 = squareHalf (m ((c.tc : Thread nD τ).loc main_arg9)) := by
  show StableHlo.after (List.flatten [hostOps0, hostOps0_1, hostOps0_2, hostOps0_3, hostOps0_4, hostOps0_5, hostOps0_6]) _ (Proc.devRef .tc main_v33) = _
  simp only [hostOps0, hostOps0_1, hostOps0_2, hostOps0_3, hostOps0_4, hostOps0_5, hostOps0_6, List.flatten_cons, List.flatten_nil, List.append_nil, List.cons_append, List.nil_append]
  after_results
  rfl

theorem entry_o0 : V m c main_v41 = outs1 (m ((c.tc : Thread nD τ).loc main_arg1)) := by
  show StableHlo.after (List.flatten [hostOps0, hostOps0_1, hostOps0_2, hostOps0_3, hostOps0_4, hostOps0_5, hostOps0_6]) _ (Proc.devRef .tc main_v41) = _
  simp only [hostOps0, hostOps0_1, hostOps0_2, hostOps0_3, hostOps0_4, hostOps0_5, hostOps0_6, List.flatten_cons, List.flatten_nil, List.append_nil, List.cons_append, List.nil_append]
  after_results
  rfl

theorem entry_o1 : V m c main_v7 = outsOf4 (m ((c.tc : Thread nD τ).loc main_arg2)) := by
  show StableHlo.after (List.flatten [hostOps0, hostOps0_1, hostOps0_2, hostOps0_3, hostOps0_4, hostOps0_5, hostOps0_6]) _ (Proc.devRef .tc main_v7) = _
  simp only [hostOps0, hostOps0_1, hostOps0_2, hostOps0_3, hostOps0_4, hostOps0_5, hostOps0_6, List.flatten_cons, List.flatten_nil, List.append_nil, List.cons_append, List.nil_append]
  after_results
  rfl

theorem entry_o2 : V m c main_v11 = outsOf16 (m ((c.tc : Thread nD τ).loc main_arg3)) := by
  show StableHlo.after (List.flatten [hostOps0, hostOps0_1, hostOps0_2, hostOps0_3, hostOps0_4, hostOps0_5, hostOps0_6]) _ (Proc.devRef .tc main_v11) = _
  simp only [hostOps0, hostOps0_1, hostOps0_2, hostOps0_3, hostOps0_4, hostOps0_5, hostOps0_6, List.flatten_cons, List.flatten_nil, List.append_nil, List.cons_append, List.nil_append]
  after_results
  rfl

theorem entry_l0 : V m c main_v42 = sums1 (m ((c.tc : Thread nD τ).loc main_arg4)) := by
  show StableHlo.after (List.flatten [hostOps0, hostOps0_1, hostOps0_2, hostOps0_3, hostOps0_4, hostOps0_5, hostOps0_6]) _ (Proc.devRef .tc main_v42) = _
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_cast, cast_eq]
  rfl

theorem entry_l1 : V m c main_v23 = sumsOf4 (m ((c.tc : Thread nD τ).loc main_arg5)) := by
  show StableHlo.after (List.flatten [hostOps0, hostOps0_1, hostOps0_2, hostOps0_3, hostOps0_4, hostOps0_5, hostOps0_6]) _ (Proc.devRef .tc main_v23) = _
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_cast, cast_eq]
  rfl

theorem entry_l2 : V m c main_v29 = sumsOf16 (m ((c.tc : Thread nD τ).loc main_arg6)) := by
  show StableHlo.after (List.flatten [hostOps0, hostOps0_1, hostOps0_2, hostOps0_3, hostOps0_4, hostOps0_5, hostOps0_6]) _ (Proc.devRef .tc main_v29) = _
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_cast, cast_eq]
  rfl

theorem entry_wa : V m c main_v35 = outHalf (m ((c.tc : Thread nD τ).loc main_arg10)) := by
  show StableHlo.after (List.flatten [hostOps0, hostOps0_1, hostOps0_2, hostOps0_3, hostOps0_4, hostOps0_5, hostOps0_6]) _ (Proc.devRef .tc main_v35) = _
  simp only [hostOps0, hostOps0_1, hostOps0_2, hostOps0_3, hostOps0_4, hostOps0_5, hostOps0_6, List.flatten_cons, List.flatten_nil, List.append_nil, List.cons_append, List.nil_append]
  after_results
  rfl

theorem entry_gates : V m c main_v37 = gatesHalf (m ((c.tc : Thread nD τ).loc main_arg7)) := by
  show StableHlo.after (List.flatten [hostOps0, hostOps0_1, hostOps0_2, hostOps0_3, hostOps0_4, hostOps0_5, hostOps0_6]) _ (Proc.devRef .tc main_v37) = _
  simp only [hostOps0, hostOps0_1, hostOps0_2, hostOps0_3, hostOps0_4, hostOps0_5, hostOps0_6, List.flatten_cons, List.flatten_nil, List.append_nil, List.cons_append, List.nil_append]
  after_results
  rfl

theorem entry_w : V m c main_v39 = squareHalf (m ((c.tc : Thread nD τ).loc main_arg11)) := by
  show StableHlo.after (List.flatten [hostOps0, hostOps0_1, hostOps0_2, hostOps0_3, hostOps0_4, hostOps0_5, hostOps0_6]) _ (Proc.devRef .tc main_v39) = _
  simp only [hostOps0, hostOps0_1, hostOps0_2, hostOps0_3, hostOps0_4, hostOps0_5, hostOps0_6, List.flatten_cons, List.flatten_nil, List.append_nil, List.cons_append, List.nil_append]
  after_results
  rfl

theorem entry_h : V m c main_v40 = flat (m ((c.tc : Thread nD τ).loc main_arg8)) := by
  show StableHlo.after (List.flatten [hostOps0, hostOps0_1, hostOps0_2, hostOps0_3, hostOps0_4, hostOps0_5, hostOps0_6]) _ (Proc.devRef .tc main_v40) = _
  simp only [hostOps0, hostOps0_1, hostOps0_2, hostOps0_3, hostOps0_4, hostOps0_5, hostOps0_6, List.flatten_cons, List.flatten_nil, List.append_nil, List.cons_append, List.nil_append]
  after_results
  rfl

end Cert.Mix

end
-- ==== Proof.MixReference.lean ====
/- The mixing reference's arrays, stage by stage, and what each holds at an index. -/
module

public import proofs.«01_k».proof.Proof.Gen.Reference3Ideal.Run
public import Idealize.ShloMosaic.Lib.Pointwise

@[expose] public section

set_option maxRecDepth 16384

noncomputable section

namespace Cert.Mix.Reference

open Idealize.ShloMosaic Idealize.ShloMosaic.TcCoe
open Cert.Reference3Ideal Cert.Reference3Ideal.Gen

/-! ## The stages -/

/-- The three groups' log-sums in one array. -/
def sums (a b d : FVec Ideal S8x4096x8 .f32) : FVec Ideal S3x8x4096x8 .f32 :=
  concatenate S3x8x4096x8 0 [⟨S1x8x4096x8, broadcastInDim S1x8x4096x8 ![1, 2, 3] bcast_S8x4096x8_S1x8x4096x8_1_2_3 a⟩,
    ⟨S1x8x4096x8, broadcastInDim S1x8x4096x8 ![1, 2, 3] bcast_S8x4096x8_S1x8x4096x8_1_2_3 b⟩,
    ⟨S1x8x4096x8, broadcastInDim S1x8x4096x8 ![1, 2, 3] bcast_S8x4096x8_S1x8x4096x8_1_2_3 d⟩] concatenates_S1x8x4096x8_S1x8x4096x8_S1x8x4096x8_S3x8x4096x8_d0

/-- One value of each row and head for all three groups. -/
def spread (x : FVec Ideal S8x4096x8 .f32) : FVec Ideal S3x8x4096x8 .f32 :=
  broadcastInDim S3x8x4096x8 ![0, 1, 2, 3] bcast_S1x8x4096x8_S3x8x4096x8_0_1_2_3 (broadcastInDim S1x8x4096x8 ![1, 2, 3] bcast_S8x4096x8_S1x8x4096x8_1_2_3 x)

/-- The largest of the three. -/
def largest (s : FVec Ideal S3x8x4096x8 .f32) : FVec Ideal S8x4096x8 .f32 :=
  maximumf (broadcastInDim S8x4096x8 ![] bcast_S_S8x4096x8 (constant S_ .f32 0xFF800000#32))
    (Host.reduce FloatOps.maximumf s (constant S_ .f32 0xFF800000#32) reducesTo_S3x8x4096x8_S8x4096x8_d0 h_S_)

/-- The exponentials. -/
def exps (s : FVec Ideal S3x8x4096x8 .f32) : FVec Ideal S3x8x4096x8 .f32 := Host.exp (subf s (spread (largest s)))

/-- The sum of the three. -/
def total (e : FVec Ideal S3x8x4096x8 .f32) : FVec Ideal S8x4096x8 .f32 :=
  Host.reduceAdd e (constant S_ .f32 0x00000000#32) reducesTo_S3x8x4096x8_S8x4096x8_d0 h_S_

/-- The weights. -/
def weights (s : FVec Ideal S3x8x4096x8 .f32) : FVec Ideal S3x8x4096x8 .f32 := Host.divf (exps s) (spread (total (exps s)))

/-- The three groups' outputs in one array. -/
def outs (a b d : FVec Ideal S8x4096x8x64 .f32) : FVec Ideal S3x8x4096x8x64 .f32 :=
  concatenate S3x8x4096x8x64 0 [⟨S1x8x4096x8x64, broadcastInDim S1x8x4096x8x64 ![1, 2, 3, 4] bcast_S8x4096x8x64_S1x8x4096x8x64_1_2_3_4 a⟩,
    ⟨S1x8x4096x8x64, broadcastInDim S1x8x4096x8x64 ![1, 2, 3, 4] bcast_S8x4096x8x64_S1x8x4096x8x64_1_2_3_4 b⟩,
    ⟨S1x8x4096x8x64, broadcastInDim S1x8x4096x8x64 ![1, 2, 3, 4] bcast_S8x4096x8x64_S1x8x4096x8x64_1_2_3_4 d⟩] concatenates_S1x8x4096x8x64_S1x8x4096x8x64_S1x8x4096x8x64_S3x8x4096x8x64_d0

/-- The outputs summed under the weights. -/
def mixedHeads (w : FVec Ideal S3x8x4096x8 .f32) (o : FVec Ideal S3x8x4096x8x64 .f32) : FVec Ideal S8x4096x8x64 .f32 :=
  Host.reduceAdd (mulf (broadcastInDim S3x8x4096x8x64 ![0, 1, 2, 3, 4] bcast_S3x8x4096x8x1_S3x8x4096x8x64_0_1_2_3_4 (broadcastInDim S3x8x4096x8x1 ![0, 1, 2, 3] bcast_S3x8x4096x8_S3x8x4096x8x1_0_1_2_3 w)) o)
    (constant S_ .f32 0x00000000#32) reducesTo_S3x8x4096x8x64_S8x4096x8x64_d0 h_S_

/-- The two branches' projections, each times its gate. -/
def merged (gates : FVec Ideal S8x4096x2048 .f32) (z : FVec Ideal S8x4096x1024 .f32) (wc : FVec Ideal S1x1024x1024 .f32) (a : FVec Ideal S8x4096x8x64 .f32)
    (wa : FVec Ideal S1x512x1024 .f32) : FVec Ideal S8x4096x1024 .f32 :=
  addf (mulf (shapeCast _ (extractStridedSlice S8x4096x1x1024 ![0, 0, 0, 0] (shapeCast _ gates shapeCasts_S8x4096x2048_S8x4096x2x1024) slices_S8x4096x2x1024_S8x4096x1x1024_0_0_0_0) shapeCasts_S8x4096x1x1024_S8x4096x1024)
      (Host.dotGeneral dot_S8x4096x1024_S1024x1024_S8x4096x1024_2_0_01_1_n_n none z (shapeCast _ wc shapeCasts_S1x1024x1024_S1024x1024)))
    (mulf (shapeCast _ (extractStridedSlice S8x4096x1x1024 ![0, 0, 1, 0] (shapeCast _ gates shapeCasts_S8x4096x2048_S8x4096x2x1024) slices_S8x4096x2x1024_S8x4096x1x1024_0_0_1_0) shapeCasts_S8x4096x1x1024_S8x4096x1024)
      (Host.dotGeneral dot_S8x4096x512_S512x1024_S8x4096x1024_2_0_01_1_n_n none (shapeCast _ a shapeCasts_S8x4096x8x64_S8x4096x512) (shapeCast _ wa shapeCasts_S1x512x1024_S512x1024)))

/-- The residual stream after the mixing part. -/
def stream (h : FVec Ideal S8x4096x1024 .f32) (y : FVec Ideal S8x4096x1024 .f32) (w : FVec Ideal S1x1024x1024 .f32) : FVec Ideal S8x4096x1024 .f32 :=
  addf h (Host.dotGeneral dot_S8x4096x1024_S1024x1024_S8x4096x1024_2_0_01_1_n_n none y (shapeCast _ w shapeCasts_S1x1024x1024_S1024x1024))

/-- The sum of each row's squares. -/
def squares (h : FVec Ideal S8x4096x1024 .f32) : FVec Ideal S8x4096 .f32 :=
  Host.reduceAdd (mulf h h) (constant S_ .f32 0x00000000#32) reducesTo_S8x4096x1024_S8x4096_d2 h_S_

/-- Each row over its root mean square, times the gain. -/
def normed (h : FVec Ideal S8x4096x1024 .f32) (q : FVec Ideal S8x4096 .f32) (g : FVec Ideal S1x1024 .f32) : FVec Ideal S8x4096x1024 .f32 :=
  mulf (mulf h (broadcastInDim S8x4096x1024 ![0, 1, 2] bcast_S8x4096x1_S8x4096x1024_0_1_2 (Host.rsqrt (addf (Host.divf (broadcastInDim S8x4096x1 ![0, 1] bcast_S8x4096_S8x4096x1_0_1 q) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ g shapeCasts_S1x1024_S1024)))

/-- The rows of all the sequences in one array. -/
def rows (y : FVec Ideal S8x4096x1024 .f32) : FVec Ideal S32768x1024 .f32 := shapeCast _ y shapeCasts_S8x4096x1024_S32768x1024

/-- The stream from the arguments. -/
def mixStream (m : (ℓ : Loc nD τ sig) → Buf (Elt Ideal) ℓ) (c : Dev nD) : FVec Ideal S8x4096x1024 .f32 :=
  stream (m ((c.tc : Thread nD τ).loc main_arg8))
    (merged (m ((c.tc : Thread nD τ).loc main_arg7)) (m ((c.tc : Thread nD τ).loc main_arg0)) (m ((c.tc : Thread nD τ).loc main_arg9))
      (mixedHeads (weights (sums (m ((c.tc : Thread nD τ).loc main_arg4)) (m ((c.tc : Thread nD τ).loc main_arg5)) (m ((c.tc : Thread nD τ).loc main_arg6))))
        (outs (m ((c.tc : Thread nD τ).loc main_arg1)) (m ((c.tc : Thread nD τ).loc main_arg2)) (m ((c.tc : Thread nD τ).loc main_arg3))))
      (m ((c.tc : Thread nD τ).loc main_arg10)))
    (m ((c.tc : Thread nD τ).loc main_arg11))

/-! ## The program's results are these stages -/

theorem stream_eq (m : (ℓ : Loc nD τ sig) → Buf (Elt Ideal) ℓ) (c : Dev nD) : Cert.Reference3Ideal.Value.res_out0 m c = rows (mixStream m c) := rfl

theorem normed_eq (m : (ℓ : Loc nD τ sig) → Buf (Elt Ideal) ℓ) (c : Dev nD) :
    Cert.Reference3Ideal.Value.res_out1 m c
      = truncf .bf16 (rows (normed (mixStream m c) (squares (mixStream m c)) (m ((c.tc : Thread nD τ).loc main_arg12)))) bitsLt_bf16_f32 := rfl

/-! ## What each holds at an index -/

theorem reduces_groups : S3x8x4096x8.Reduces [0] S8x4096x8 := by decide
theorem reduces_outs : S3x8x4096x8x64.Reduces [0] S8x4096x8x64 := by decide
theorem reduces_last : S8x4096x1024.Reduces [2] S8x4096 := by decide

theorem lift_groups (n : Fin 8) (t : Fin 4096) (h : Fin 8) (g : Fin 3) : reduces_groups.lift (ix3 n t h) g = ix4 g n t h := by
  funext a
  match a with
  | 0 => rfl
  | 1 => rfl
  | 2 => rfl
  | 3 => rfl

theorem lift_outs (n : Fin 8) (t : Fin 4096) (h : Fin 8) (d : Fin 64) (g : Fin 3) : reduces_outs.lift (ix4 n t h d) g = ix5 g n t h d := by
  funext a
  match a with
  | 0 => rfl
  | 1 => rfl
  | 2 => rfl
  | 3 => rfl
  | 4 => rfl

theorem lift_last (n : Fin 8) (t : Fin 4096) (j : Fin 1024) : reduces_last.lift (ix2 n t) j = ix3 n t j := by
  funext a
  match a with
  | 0 => rfl
  | 1 => rfl
  | 2 => rfl

theorem infinity_bits : Ideal.ofBits .f32 0xFF800000#32 = ⊥ := by simp [Ideal.ofBits, Ideal.ieee]

theorem sums_apply (a b d : FVec Ideal S8x4096x8 .f32) (n : Fin 8) (t : Fin 4096) (h : Fin 8) :
    sums a b d (ix4 0 n t h) = a (ix3 n t h) ∧ sums a b d (ix4 1 n t h) = b (ix3 n t h) ∧ sums a b d (ix4 2 n t h) = d (ix3 n t h) := by
  refine ⟨?_, ?_, ?_⟩
  · pointwise [sums]
  · pointwise [sums]
  · pointwise [sums]

theorem outs_apply (a b d : FVec Ideal S8x4096x8x64 .f32) (n : Fin 8) (t : Fin 4096) (h : Fin 8) (x : Fin 64) :
    outs a b d (ix5 0 n t h x) = a (ix4 n t h x) ∧ outs a b d (ix5 1 n t h x) = b (ix4 n t h x) ∧ outs a b d (ix5 2 n t h x) = d (ix4 n t h x) := by
  refine ⟨?_, ?_, ?_⟩
  · pointwise [outs]
  · pointwise [outs]
  · pointwise [outs]

theorem largest_apply (s : FVec Ideal S3x8x4096x8 .f32) (n : Fin 8) (t : Fin 4096) (h : Fin 8) :
    largest s (ix3 n t h) = max (max (s (ix4 0 n t h)) (s (ix4 1 n t h))) (s (ix4 2 n t h)) := by
  have e : Host.reduce FloatOps.maximumf s (constant S_ .f32 0xFF800000#32) reducesTo_S3x8x4096x8_S8x4096x8_d0 h_S_ (ix3 n t h)
      = max (max (s (ix4 0 n t h)) (s (ix4 1 n t h))) (s (ix4 2 n t h)) := by
    rw [Host.reduce_eq_fold_single FloatOps.maximumf s _ reducesTo_S3x8x4096x8_S8x4096x8_d0 reduces_groups h_S_ (ix3 n t h)]
    have hl : (s ∘ reduces_groups.lift (ix3 n t h)) = fun g : Fin 3 => s (ix4 g n t h) := funext fun g => congrArg s (lift_groups n t h g)
    rw [hl]
    show (Finset.univ : Finset (Fin 3)).fold max (Ideal.ofBits .f32 0xFF800000#32) (fun g : Fin 3 => s (ix4 g n t h)) = _
    rw [infinity_bits, show (Finset.univ : Finset (Fin 3)) = {0, 1, 2} by decide]
    rw [Finset.fold_insert (by decide), Finset.fold_insert (by decide), Finset.fold_singleton, max_bot_right, max_assoc]
  show max (Ideal.ofBits .f32 0xFF800000#32) (Host.reduce FloatOps.maximumf s (constant S_ .f32 0xFF800000#32) reducesTo_S3x8x4096x8_S8x4096x8_d0 h_S_ (ix3 n t h)) = _
  rw [e, infinity_bits, max_bot_left]

theorem exps_apply (s : FVec Ideal S3x8x4096x8 .f32) (g : Fin 3) (n : Fin 8) (t : Fin 4096) (h : Fin 8) :
    exps s (ix4 g n t h) = Ideal.exp (s (ix4 g n t h) - largest s (ix3 n t h)) := by
  pointwise [exps, spread]

theorem total_apply (e : FVec Ideal S3x8x4096x8 .f32) (n : Fin 8) (t : Fin 4096) (h : Fin 8) :
    total e (ix3 n t h) = e (ix4 0 n t h) + e (ix4 1 n t h) + e (ix4 2 n t h) := by
  show Ideal.hostReduceAdd reducesTo_S3x8x4096x8_S8x4096x8_d0 e (Ideal.ofBits .f32 0x00000000#32) (ix3 n t h) = _
  unfold Ideal.hostReduceAdd
  rw [Shape.ReducesTo.drop_eq_drop reducesTo_S3x8x4096x8_S8x4096x8_d0 reduces_groups, Ideal.ofBits_zero_f32, zero_add]
  refine (Shape.Reduces.sum_filter_drop_single reduces_groups e _).trans ?_
  refine (Finset.sum_congr rfl fun w _ => congrArg e (lift_groups n t h w)).trans ?_
  exact Fin.sum_univ_three (fun g : Fin 3 => e (ix4 g n t h))

theorem weights_apply (s : FVec Ideal S3x8x4096x8 .f32) (g : Fin 3) (n : Fin 8) (t : Fin 4096) (h : Fin 8) :
    weights s (ix4 g n t h) = Ideal.div (exps s (ix4 g n t h)) (total (exps s) (ix3 n t h)) := by
  pointwise [weights, spread]

theorem mixedHeads_apply (w : FVec Ideal S3x8x4096x8 .f32) (o : FVec Ideal S3x8x4096x8x64 .f32) (n : Fin 8) (t : Fin 4096) (h : Fin 8) (d : Fin 64) :
    mixedHeads w o (ix4 n t h d)
      = w (ix4 0 n t h) * o (ix5 0 n t h d) + w (ix4 1 n t h) * o (ix5 1 n t h d) + w (ix4 2 n t h) * o (ix5 2 n t h d) := by
  show Ideal.hostReduceAdd reducesTo_S3x8x4096x8x64_S8x4096x8x64_d0 (mulf _ o) (Ideal.ofBits .f32 0x00000000#32) (ix4 n t h d) = _
  unfold Ideal.hostReduceAdd
  rw [Shape.ReducesTo.drop_eq_drop reducesTo_S3x8x4096x8x64_S8x4096x8x64_d0 reduces_outs, Ideal.ofBits_zero_f32, zero_add]
  refine (Shape.Reduces.sum_filter_drop_single reduces_outs _ _).trans ?_
  refine (Finset.sum_congr rfl fun g _ => congrArg (mulf _ o) (lift_outs n t h d g)).trans ?_
  refine (Fin.sum_univ_three (fun g : Fin 3 => mulf _ o (ix5 g n t h d))).trans ?_
  pointwise

theorem merged_apply (gates : FVec Ideal S8x4096x2048 .f32) (z : FVec Ideal S8x4096x1024 .f32) (wc : FVec Ideal S1x1024x1024 .f32) (a : FVec Ideal S8x4096x8x64 .f32)
    (wa : FVec Ideal S1x512x1024 .f32) (n : Fin 8) (t : Fin 4096) (j : Fin 1024) :
    merged gates z wc a wa (ix3 n t j)
      = gates (ix3 n t ⟨j.val, by omega⟩) * (∑ k : Fin 1024, z (ix3 n t k) * wc (ix3 0 k j))
        + gates (ix3 n t ⟨1024 + j.val, by omega⟩) * ∑ k : Fin 512, a (ix4 n t ⟨k.val / 64, by omega⟩ ⟨k.val % 64, by omega⟩) * wa (ix3 0 k j) := by
  pointwise [merged]

theorem stream_apply (h y : FVec Ideal S8x4096x1024 .f32) (w : FVec Ideal S1x1024x1024 .f32) (n : Fin 8) (t : Fin 4096) (j : Fin 1024) :
    stream h y w (ix3 n t j) = h (ix3 n t j) + ∑ k : Fin 1024, y (ix3 n t k) * w (ix3 0 k j) := by
  pointwise [stream]

theorem squares_apply (h : FVec Ideal S8x4096x1024 .f32) (n : Fin 8) (t : Fin 4096) :
    squares h (ix2 n t) = ∑ j : Fin 1024, h (ix3 n t j) * h (ix3 n t j) := by
  show Ideal.hostReduceAdd reducesTo_S8x4096x1024_S8x4096_d2 (mulf h h) (Ideal.ofBits .f32 0x00000000#32) (ix2 n t) = _
  unfold Ideal.hostReduceAdd
  rw [Shape.ReducesTo.drop_eq_drop reducesTo_S8x4096x1024_S8x4096_d2 reduces_last, Ideal.ofBits_zero_f32, zero_add]
  refine (Shape.Reduces.sum_filter_drop_single reduces_last (mulf h h) _).trans ?_
  exact Finset.sum_congr rfl fun w _ => congrArg (mulf h h) (lift_last n t w)

theorem normed_apply (h : FVec Ideal S8x4096x1024 .f32) (q : FVec Ideal S8x4096 .f32) (g : FVec Ideal S1x1024 .f32) (n : Fin 8) (t : Fin 4096) (j : Fin 1024) :
    normed h q g (ix3 n t j) = h (ix3 n t j) * Ideal.rsqrt (Ideal.div (q (ix2 n t)) (Ideal.ofBits .f32 0x44800000#32) + Ideal.ofBits .f32 0x358637BD#32) * g (ix2 0 j) := by
  pointwise [normed]

theorem rows_apply (y : FVec Ideal S8x4096x1024 .f32) (r : Fin 32768) (j : Fin 1024) :
    rows y (ix2 r j) = y (ix3 ⟨r.val / 4096, by omega⟩ ⟨r.val % 4096, by omega⟩ j) := by
  pointwise [rows]

end Cert.Mix.Reference

end
-- ==== Proof.MixValue.lean ====
/- The arrays the mixing kernel leaves, and that the reference leaves the same. -/
module

public import proofs.«01_k».proof.Proof.MixLeft
public import proofs.«01_k».proof.Proof.MixEntry
public import proofs.«01_k».proof.Proof.MixReference

@[expose] public section

set_option maxRecDepth 16384

noncomputable section

namespace Cert.Mix

open Idealize.ShloMosaic Idealize.ShloMosaic.TcCoe
open Cert.Kernel3Ideal Cert.Kernel3Ideal.Gen Cert.Kernel3Ideal.Value
open Reference

theorem lane_eq (x : ℕ) (hx : x < 8) : (64 * (x % 2) + x / 2) % 64 < 4 ∧ 2 * ((64 * (x % 2) + x / 2) % 64) + (64 * (x % 2) + x / 2) / 64 = x := by
  rcases Nat.mod_two_eq_zero_or_one x with e | e <;> rw [e] <;> omega

theorem lanes_head (l : FVec Ideal S8x4096x8 .f32) (n : Fin 8) (p : Fin 4096) (q : Fin 512) :
    lanes l (ix3 n p (laneOf q)) = l (ix3 n p ⟨q.val / 64, by omega⟩) := by
  have e := lane_eq (q.val / 64) (by omega)
  rw [lanes_apply l n p (laneOf q) e.1]
  exact congrArg (fun y : Fin 8 => l (ix3 n p y)) (Fin.ext e.2)

variable (m : (ℓ : Loc nD τ sig) → Buf (Elt Ideal) ℓ) (c : Dev nD)
variable (z : FVec Ideal S8x4096x1024 .f32) (o0 o1 o2 : FVec Ideal S8x4096x8x64 .f32) (l0 l1 l2 : FVec Ideal S8x4096x8 .f32) (gates : FVec Ideal S8x4096x2048 .f32)
  (h : FVec Ideal S8x4096x1024 .f32) (wc : FVec Ideal S1x1024x1024 .f32) (wa : FVec Ideal S1x512x1024 .f32) (w : FVec Ideal S1x1024x1024 .f32) (g : FVec Ideal S1x1024 .f32)

/-- A launch's arguments. -/
structure Args : Prop where
  a0 : m ((c.tc : Thread nD τ).loc main_arg0) = z
  a1 : m ((c.tc : Thread nD τ).loc main_arg1) = o0
  a2 : m ((c.tc : Thread nD τ).loc main_arg2) = o1
  a3 : m ((c.tc : Thread nD τ).loc main_arg3) = o2
  a4 : m ((c.tc : Thread nD τ).loc main_arg4) = l0
  a5 : m ((c.tc : Thread nD τ).loc main_arg5) = l1
  a6 : m ((c.tc : Thread nD τ).loc main_arg6) = l2
  a7 : m ((c.tc : Thread nD τ).loc main_arg7) = gates
  a8 : m ((c.tc : Thread nD τ).loc main_arg8) = h
  a9 : m ((c.tc : Thread nD τ).loc main_arg9) = wc
  a10 : m ((c.tc : Thread nD τ).loc main_arg10) = wa
  a11 : m ((c.tc : Thread nD τ).loc main_arg11) = w
  a12 : m ((c.tc : Thread nD τ).loc main_arg12) = g

variable {m c z o0 o1 o2 l0 l1 l2 gates h wc wa w g}

section

variable (ha : Args m c z o0 o1 o2 l0 l1 l2 gates h wc wa w g) (t : Fin cfg0.N) (r q : Fin 512) (y : Fin 32768) (hy : y.val = 512 * t.val + r.val)
include ha hy

theorem sum0_value : iblk m c 5 t (ix2 r (laneOf q)) = l0 (ix3 ⟨y.val / 4096, by omega⟩ ⟨y.val % 4096, by omega⟩ ⟨q.val / 64, by omega⟩) := by
  rw [iblk5 m c t r (laneOf q) y hy, entry_l0, ha.a4, sums1_apply, lanes_head]

theorem sum1_value : iblk m c 6 t (ix4 0 ⟨r.val % 4, by omega⟩ ⟨r.val / 4, by omega⟩ (laneOf q))
    = l1 (ix3 ⟨y.val / 4096, by omega⟩ ⟨y.val % 4096, by omega⟩ ⟨q.val / 64, by omega⟩) := by
  have ht := lt_64 t
  rw [iblk6 m c t ⟨r.val % 4, by omega⟩ ⟨r.val / 4, by omega⟩ (laneOf q) ⟨y.val / 4096, by omega⟩ (by show y.val / 4096 = t.val / 8; omega)
    ⟨128 * (t.val % 8) + r.val / 4, by omega⟩ rfl, entry_l1, ha.a5, sumsOf4_apply, lanes_head]
  exact congrArg (fun x : Fin 4096 => l1 (ix3 ⟨y.val / 4096, by omega⟩ x ⟨q.val / 64, by omega⟩)) (Fin.ext (by
    show (128 * (t.val % 8) + r.val / 4) * 4 + r.val % 4 = y.val % 4096; omega))

theorem sum2_value : iblk m c 7 t (ix4 0 ⟨r.val % 16, by omega⟩ ⟨r.val / 16, by omega⟩ (laneOf q))
    = l2 (ix3 ⟨y.val / 4096, by omega⟩ ⟨y.val % 4096, by omega⟩ ⟨q.val / 64, by omega⟩) := by
  have ht := lt_64 t
  rw [iblk7 m c t ⟨r.val % 16, by omega⟩ ⟨r.val / 16, by omega⟩ (laneOf q) ⟨y.val / 4096, by omega⟩ (by show y.val / 4096 = t.val / 8; omega)
    ⟨32 * (t.val % 8) + r.val / 16, by omega⟩ rfl, entry_l2, ha.a6, sumsOf16_apply, lanes_head]
  exact congrArg (fun x : Fin 4096 => l2 (ix3 ⟨y.val / 4096, by omega⟩ x ⟨q.val / 64, by omega⟩)) (Fin.ext (by
    show (32 * (t.val % 8) + r.val / 16) * 16 + r.val % 16 = y.val % 4096; omega))

theorem out0_value : iblk m c 2 t (ix2 r q) = o0 (ix4 ⟨y.val / 4096, by omega⟩ ⟨y.val % 4096, by omega⟩ ⟨q.val / 64, by omega⟩ ⟨q.val % 64, by omega⟩) := by
  rw [iblk2 m c t r q y hy, entry_o0, ha.a1, outs1_apply]

theorem out1_value : iblk m c 3 t (ix4 0 ⟨r.val % 4, by omega⟩ ⟨r.val / 4, by omega⟩ q)
    = o1 (ix4 ⟨y.val / 4096, by omega⟩ ⟨y.val % 4096, by omega⟩ ⟨q.val / 64, by omega⟩ ⟨q.val % 64, by omega⟩) := by
  have ht := lt_64 t
  rw [iblk3 m c t ⟨r.val % 4, by omega⟩ ⟨r.val / 4, by omega⟩ q ⟨y.val / 4096, by omega⟩ (by show y.val / 4096 = t.val / 8; omega)
    ⟨128 * (t.val % 8) + r.val / 4, by omega⟩ rfl, entry_o1, ha.a2, outsOf4_apply]
  exact congrArg (fun x : Fin 4096 => o1 (ix4 ⟨y.val / 4096, by omega⟩ x ⟨q.val / 64, by omega⟩ ⟨q.val % 64, by omega⟩)) (Fin.ext (by
    show (128 * (t.val % 8) + r.val / 4) * 4 + r.val % 4 = y.val % 4096; omega))

theorem out2_value : iblk m c 4 t (ix4 0 ⟨r.val % 16, by omega⟩ ⟨r.val / 16, by omega⟩ q)
    = o2 (ix4 ⟨y.val / 4096, by omega⟩ ⟨y.val % 4096, by omega⟩ ⟨q.val / 64, by omega⟩ ⟨q.val % 64, by omega⟩) := by
  have ht := lt_64 t
  rw [iblk4 m c t ⟨r.val % 16, by omega⟩ ⟨r.val / 16, by omega⟩ q ⟨y.val / 4096, by omega⟩ (by show y.val / 4096 = t.val / 8; omega)
    ⟨32 * (t.val % 8) + r.val / 16, by omega⟩ rfl, entry_o2, ha.a3, outsOf16_apply]
  exact congrArg (fun x : Fin 4096 => o2 (ix4 ⟨y.val / 4096, by omega⟩ x ⟨q.val / 64, by omega⟩ ⟨q.val % 64, by omega⟩)) (Fin.ext (by
    show (32 * (t.val % 8) + r.val / 16) * 16 + r.val % 16 = y.val % 4096; omega))

theorem heads_value : blockHeads (iblk m c 2 t) (iblk m c 3 t) (iblk m c 4 t) (iblk m c 5 t) (iblk m c 6 t) (iblk m c 7 t) r q
    = mixedHeads (weights (sums l0 l1 l2)) (outs o0 o1 o2) (ix4 ⟨y.val / 4096, by omega⟩ ⟨y.val % 4096, by omega⟩ ⟨q.val / 64, by omega⟩ ⟨q.val % 64, by omega⟩) := by
  unfold blockHeads
  rw [sum0_value ha t r q y hy, sum1_value ha t r q y hy, sum2_value ha t r q y hy, out0_value ha t r q y hy, out1_value ha t r q y hy, out2_value ha t r q y hy]
  have hs := sums_apply l0 l1 l2 ⟨y.val / 4096, by omega⟩ ⟨y.val % 4096, by omega⟩ ⟨q.val / 64, by omega⟩
  have ho := outs_apply o0 o1 o2 ⟨y.val / 4096, by omega⟩ ⟨y.val % 4096, by omega⟩ ⟨q.val / 64, by omega⟩ ⟨q.val % 64, by omega⟩
  simp only [mixedHeads_apply, weights_apply, total_apply, exps_apply, largest_apply, hs.1, hs.2.1, hs.2.2, ho.1, ho.2.1, ho.2.2]
  rfl

end

theorem sums_real (ha : Args m c z o0 o1 o2 l0 l1 l2 gates h wc wa w g) (hp : ∀ i, ∃ M : ℝ, max (max (l0 i) (l1 i)) (l2 i) = (M : EReal)) (t : Fin cfg0.N) :
    SumsReal (iblk m c 5 t) (iblk m c 6 t) (iblk m c 7 t) := by
  intro r q
  have ht := lt_64 t
  rw [sum0_value ha t r q ⟨512 * t.val + r.val, by omega⟩ rfl, sum1_value ha t r q ⟨512 * t.val + r.val, by omega⟩ rfl,
    sum2_value ha t r q ⟨512 * t.val + r.val, by omega⟩ rfl]
  exact hp _

/-- The reference's residual stream after the mixing part. -/
def mixedStream (z : FVec Ideal S8x4096x1024 .f32) (o0 o1 o2 : FVec Ideal S8x4096x8x64 .f32) (l0 l1 l2 : FVec Ideal S8x4096x8 .f32) (gates : FVec Ideal S8x4096x2048 .f32)
    (h : FVec Ideal S8x4096x1024 .f32) (wc : FVec Ideal S1x1024x1024 .f32) (wa : FVec Ideal S1x512x1024 .f32) (w : FVec Ideal S1x1024x1024 .f32) : FVec Ideal S8x4096x1024 .f32 :=
  stream h (merged gates z wc (mixedHeads (weights (sums l0 l1 l2)) (outs o0 o1 o2)) wa) w

theorem block_value (ha : Args m c z o0 o1 o2 l0 l1 l2 gates h wc wa w g) (t : Fin cfg0.N) (r : Fin 512) (j : Fin 1024) (y : Fin 32768) (hy : y.val = 512 * t.val + r.val) :
    blockStream (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) r j
      = mixedStream z o0 o1 o2 l0 l1 l2 gates h wc wa w (ix3 ⟨y.val / 4096, by omega⟩ ⟨y.val % 4096, by omega⟩ j) := by
  unfold mixedStream blockStream
  rw [stream_apply, iblk11 m c t r j y hy, entry_h, ha.a8, flat_apply]
  refine congrArg (fun x : EReal => h (ix3 ⟨y.val / 4096, by omega⟩ ⟨y.val % 4096, by omega⟩ j) + x) (Finset.sum_congr rfl fun k _ => ?_)
  rw [merged_apply, iblk10 m c t k j, entry_w, ha.a11, squareHalf_apply]
  unfold blockMerged
  have e0 : ∀ x : Fin 1024, iblk m c 0 t (ix2 r x) = z (ix3 ⟨y.val / 4096, by omega⟩ ⟨y.val % 4096, by omega⟩ x) := by
    intro x
    rw [iblk0 m c t r x y hy, entry_z, ha.a0, flatHalf_apply]
  have e3 : ∀ x : Fin 1024, iblk m c 1 t (ix2 x k) = wc (ix3 0 x k) := by
    intro x
    rw [iblk1 m c t x k, entry_wc, ha.a9, squareHalf_apply]
  have e1 : ∀ q : Fin 512, blockHeads (iblk m c 2 t) (iblk m c 3 t) (iblk m c 4 t) (iblk m c 5 t) (iblk m c 6 t) (iblk m c 7 t) r q * iblk m c 8 t (ix2 q k)
      = mixedHeads (weights (sums l0 l1 l2)) (outs o0 o1 o2) (ix4 ⟨y.val / 4096, by omega⟩ ⟨y.val % 4096, by omega⟩ ⟨q.val / 64, by omega⟩ ⟨q.val % 64, by omega⟩) * wa (ix3 0 q k) := by
    intro q
    rw [heads_value ha t r q y hy, iblk8 m c t q k, entry_wa, ha.a10, outHalf_apply]
  have e2 : ∀ x : Fin 2048, iblk m c 9 t (ix2 r x) = gates (ix3 ⟨y.val / 4096, by omega⟩ ⟨y.val % 4096, by omega⟩ x) := by
    intro x
    rw [iblk9 m c t r x y hy, entry_gates, ha.a7, gatesHalf_apply]
  simp only [e0, e1, e2, e3]

theorem stream_value (ha : Args m c z o0 o1 o2 l0 l1 l2 gates h wc wa w g) (hp : ∀ i, ∃ M : ℝ, max (max (l0 i) (l1 i)) (l2 i) = (M : EReal)) (y : Fin 32768) (j : Fin 1024) :
    (dats m 0 c).arrAt 13 cfg0.N (ix2 y j) = Reference.rows (mixedStream z o0 o1 o2 l0 l1 l2 gates h wc wa w) (ix2 y j) := by
  have hN : y.val / 512 < cfg0.N := lt_of_lt_of_eq (by omega : y.val / 512 < 64) N_0.symm
  have hy : y.val = 512 * (⟨y.val / 512, hN⟩ : Fin cfg0.N).val + (⟨y.val % 512, by omega⟩ : Fin 512).val := by
    show y.val = 512 * (y.val / 512) + y.val % 512
    omega
  rw [stream_row m c ⟨y.val / 512, hN⟩ (sums_real ha hp _) ⟨y.val % 512, by omega⟩ j y hy, rows_apply, block_value ha _ _ j y hy]

theorem normed_value (ha : Args m c z o0 o1 o2 l0 l1 l2 gates h wc wa w g) (hp : ∀ i, ∃ M : ℝ, max (max (l0 i) (l1 i)) (l2 i) = (M : EReal)) (y : Fin 32768) (j : Fin 1024) :
    (dats m 0 c).arrAt 14 cfg0.N (ix2 y j)
      = Reference.rows (normed (mixedStream z o0 o1 o2 l0 l1 l2 gates h wc wa w) (squares (mixedStream z o0 o1 o2 l0 l1 l2 gates h wc wa w)) g) (ix2 y j) := by
  have hN : y.val / 512 < cfg0.N := lt_of_lt_of_eq (by omega : y.val / 512 < 64) N_0.symm
  have hy : y.val = 512 * (⟨y.val / 512, hN⟩ : Fin cfg0.N).val + (⟨y.val % 512, by omega⟩ : Fin 512).val := by
    show y.val = 512 * (y.val / 512) + y.val % 512
    omega
  rw [normed_row m c ⟨y.val / 512, hN⟩ (sums_real ha hp _) ⟨y.val % 512, by omega⟩ j y hy, rows_apply, normed_apply, squares_apply]
  unfold blockNormed
  rw [block_value ha _ _ j y hy, iblk12, V_main_arg12, ha.a12]
  refine congrArg (fun x : EReal => mixedStream z o0 o1 o2 l0 l1 l2 gates h wc wa w (ix3 ⟨y.val / 4096, by omega⟩ ⟨y.val % 4096, by omega⟩ j)
      * Ideal.rsqrt (Ideal.div x (Ideal.ofBits .f32 0x44800000#32) + Ideal.ofBits .f32 0x358637BD#32) * g (ix2 0 j)) ?_
  exact Finset.sum_congr rfl fun x _ => by rw [block_value ha _ _ x y hy]

end Cert.Mix

end
-- ==== Proof.MixFinite.lean ====
/- The precondition of the mixing call read off: the largest of the three log-sums is a real number. -/
module

public import proofs.«01_k».proof.Proof.Finite
public import proofs.«01_k».proof.Pre_finite_lse

@[expose] public section

set_option maxRecDepth 16384

noncomputable section

namespace Cert.Mix

open Idealize.ShloMosaic Idealize.ShloMosaic.TcCoe

theorem facts_finite : Cert.Pre_finite_lse.Facts where
  bcast_S_S8x4096x8 := by decide
  reducesTo_S8x4096x8_S_d0_1_2 := by decide
  h_S_ := by decide

section

variable [hF : Cert.Pre_finite_lse.Facts]

open Cert.Pre_finite_lse Cert.Pre_finite_lse.Facts

theorem largest_real (z : FVec Ideal S8x4096x1024 .f32) (o0 o1 o2 : FVec Ideal S8x4096x8x64 .f32) (l0 l1 l2 : FVec Ideal S8x4096x8 .f32)
    (gates : FVec Ideal S8x4096x2048 .f32) (h : FVec Ideal S8x4096x1024 .f32) (wc : FVec Ideal S1x1024x1024 .f32) (wa : FVec Ideal S1x512x1024 .f32)
    (w : FVec Ideal S1x1024x1024 .f32) (g : FVec Ideal S1x1024 .f32) (hfn : fn (F := Ideal) z o0 o1 o2 l0 l1 l2 gates h wc wa w g = fun _ => 1#1)
    (i : S8x4096x8.Idx) : ∃ M : ℝ, max (max (l0 i) (l1 i)) (l2 i) = (M : EReal) := by
  have hj : Host.reduce IntOp.andi (cmpf .olt (Host.absf (maximumf (maximumf l0 l1) l2)) (broadcastInDim S8x4096x8 ![] bcast_S_S8x4096x8 (constant (F := Ideal) S_ .f32 0x7F800000#32)))
    (constantI S_ 1 1#1) reducesTo_S8x4096x8_S_d0_1_2 h_S_ ix0 = 1#1 := congrFun hfn ix0
  rw [Host.reduce_eq_fold] at hj
  exact ⟨_, (Cert.Attn.finite_of_lt (Cert.Attn.fold_one _ _ _ hj i (Finset.mem_filter.2 ⟨Finset.mem_univ _, funext fun a => a.elim0⟩))).symm⟩

end

end Cert.Mix

end
-- ==== Proof.lean ====
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.ReferenceValue
public import proofs.«01_k».proof.Proof.Finite
public import proofs.«01_k».proof.Proof.FfnValue
public import proofs.«01_k».proof.Proof.MixValue
public import proofs.«01_k».proof.Proof.MixFinite
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.TcCoe Cert.Attn

/-- Every named constant of the kernel has the value its name stands for. -/
theorem preserves : Cert.preserves_Kernel_KernelIdeal := by
  refine ⟨?_, ?_, ?_, ?_, ?_, ?_, ?_, ?_, ?_, ?_, ?_⟩ <;> exact IdealRules.named_const.statement _ _ _ _ _ rfl

/-- The reference runs to its end, leaves its arguments as they were, and leaves no semaphore counting. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Where queries and keys are finite the kernel and the reference leave the same two arrays. -/
theorem algebraic [hF : Cert.Pre_finite_qk.Facts] : Cert.algebraic_KernelIdeal_ReferenceIdeal_pre_finite_qk := by
  intro m ρ m' ρ' hpre hagree
  refine ⟨_, _, Cert.KernelIdeal.Value.run (F := Ideal) m ρ, ?_⟩
  refine (θ_run Cert.ReferenceIdeal.defs _ _).mono (fun r h c => ?_) (Cert.ReferenceIdeal.Value.run (F := Ideal) m' ρ')
  obtain ⟨h0, h1, hargs⟩ := h c
  obtain ⟨a0, a1, a2⟩ := hagree c
  obtain ⟨fq, fk⟩ := finite_real _ _ _ (hpre c)
  have hs : Starts (fun b p h d => (m ((c.tc : Thread Cert.KernelIdeal.nD Cert.KernelIdeal.τ).loc Cert.KernelIdeal.main_arg0) (ix4 b p h d)).toReal)
      (fun b p h d => (m ((c.tc : Thread Cert.KernelIdeal.nD Cert.KernelIdeal.τ).loc Cert.KernelIdeal.main_arg1) (ix4 b p h d)).toReal)
      (fun b p h d => m ((c.tc : Thread Cert.KernelIdeal.nD Cert.KernelIdeal.τ).loc Cert.KernelIdeal.main_arg2) (ix4 b p h d))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    ⟨fun b p h d => (fq _).symm, fun b p h d => (fk _).symm, fun b p h d => rfl⟩
  refine ⟨h0.trans ?_, h1.trans ?_, hargs⟩
  · refine (Reference.out_eq m' c).trans ?_
    rw [a0, a1, a2]
    funext i
    obtain ⟨b, cl, t, l, rfl⟩ : ∃ (b : Fin 8) (cl : Fin 4) (t : Fin 1024) (l : Fin 512), i = ix4 b cl t l := ⟨i 0, i 1, i 2, i 3, eq_ix4 i⟩
    exact (Reference.reference_out hs.q_eq hs.k_eq hs.v_eq b cl t l).trans (kernel_out hs b cl t l).symm
  · refine (Reference.lse_eq m' c).trans ?_
    rw [a0, a1]
    funext i
    obtain ⟨b, cl, t, l, rfl⟩ : ∃ (b : Fin 8) (cl : Fin 4) (t : Fin 1024) (l : Fin 128), i = ix4 b cl t l := ⟨i 0, i 1, i 2, i 3, eq_ix4 i⟩
    exact (Reference.reference_lse hs.q_eq hs.k_eq b cl t l).trans (kernel_lse hs b cl t l).symm

/-- The feed-forward reference runs to its end, leaves its arguments as they were, and leaves no semaphore counting. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The feed-forward kernel and its reference leave the same array. -/
theorem algebraic2 : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun r h c => ?_) (Cert.Reference2Ideal.Value.run (F := Ideal) m' ρ')
  obtain ⟨h0, hargs⟩ := h c
  obtain ⟨a0, a1, a2, a3, a4, a5, a6⟩ := hagree c
  refine ⟨h0.trans ?_, hargs⟩
  refine (Cert.Ffn.Reference.out_eq m' c).trans ?_
  funext i
  obtain ⟨z, j, rfl⟩ : ∃ (z : Fin 32768) (j : Fin 1024), i = ix2 z j := ⟨i 0, i 1, eq_ix2 i⟩
  exact (Cert.Ffn.out_value (m := m) (c := c) ⟨a0.symm, a1.symm, a2.symm, a3.symm, a4.symm, a5.symm, a6.symm⟩ z j).symm

/-- The mixing reference runs to its end, leaves its arguments as they were, and leaves no semaphore counting. -/
theorem frame_reference3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- Where the largest log-sum is finite the mixing kernel and its reference leave the same two arrays. -/
theorem algebraic3 [hF : Cert.Pre_finite_lse.Facts] : Cert.algebraic_Kernel3Ideal_Reference3Ideal_pre_finite_lse := by
  intro m ρ m' ρ' hpre hagree
  refine ⟨_, _, Cert.Kernel3Ideal.Value.run_blocks (F := Ideal) m ρ, ?_⟩
  refine (θ_run Cert.Reference3Ideal.defs _ _).mono (fun r h c => ?_) (Cert.Reference3Ideal.Value.run (F := Ideal) m' ρ')
  obtain ⟨h0, h1, hargs⟩ := h c
  obtain ⟨a0, a1, a2, a3, a4, a5, a6, a7, a8, a9, a10, a11, a12⟩ := hagree c
  have hp := Cert.Mix.largest_real _ _ _ _ _ _ _ _ _ _ _ _ _ (hpre c)
  rw [← a4, ← a5, ← a6] at hp
  refine ⟨h0.trans ?_, h1.trans ?_, hargs⟩
  · refine (Cert.Mix.Reference.stream_eq m' c).trans ?_
    funext i
    obtain ⟨y, j, rfl⟩ : ∃ (y : Fin 32768) (j : Fin 1024), i = ix2 y j := ⟨i 0, i 1, eq_ix2 i⟩
    exact (Cert.Mix.stream_value (m := m) (c := c) ⟨a0.symm, a1.symm, a2.symm, a3.symm, a4.symm, a5.symm, a6.symm, a7.symm, a8.symm, a9.symm, a10.symm, a11.symm, a12.symm⟩ hp y j).symm
  · refine (Cert.Mix.Reference.normed_eq m' c).trans ?_
    funext i
    obtain ⟨y, j, rfl⟩ : ∃ (y : Fin 32768) (j : Fin 1024), i = ix2 y j := ⟨i 0, i 1, eq_ix2 i⟩
    exact (Cert.Mix.normed_value (m := m) (c := c) ⟨a0.symm, a1.symm, a2.symm, a3.symm, a4.symm, a5.symm, a6.symm, a7.symm, a8.symm, a9.symm, a10.symm, a11.symm, a12.symm⟩ hp y j).symm

/-- All the claims together. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, facts_finite,
    Cert.Mix.facts_finite,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, fun m ρ _ => Cert.Kernel3Ideal.Gen.frame m ρ,
    frame_reference3, fun m ρ _ => frame_reference3 m ρ trivial,
    preserves, algebraic (hF := facts_finite), trivial, algebraic2, trivial, algebraic3 (hF := Cert.Mix.facts_finite)⟩

end Cert.Proof

end
